-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S128x512x17 : Shape := ⟨3, ![128, 512, 17]⟩
abbrev S128x512 : Shape := ⟨2, ![128, 512]⟩
abbrev S17x17 : Shape := ⟨2, ![17, 17]⟩
abbrev S_ : Shape := ⟨0, ![]⟩

class Facts : Prop where
  bcast_S_S128x512x17 : S_.BroadcastsInDim S128x512x17 (![] : Fin 0 → Fin S128x512x17.rank)
  bcast_S_S128x512 : S_.BroadcastsInDim S128x512 (![] : Fin 0 → Fin S128x512.rank)
  bcast_S_S17x17 : S_.BroadcastsInDim S17x17 (![] : Fin 0 → Fin S17x17.rank)

variable [Facts]

def fn {F : FTy → Type} [FloatOps F] (main_arg0 : FVec F S128x512x17 .f32) (main_arg1 : IVec S128x512 32) (main_arg2 : FVec F S17x17 .f32) : IVec S128x512x17 1 × IVec S128x512 1 × IVec S17x17 1 :=
  let main_v0 : FVec F S128x512x17 .f32 := Host.absf main_arg0
  let main_cst : FVec F S_ .f32 := constant S_ .f32 0x7F800000#32
  let main_v1 : FVec F S128x512x17 .f32 := broadcastInDim S128x512x17 ![] bcast_S_S128x512x17 main_cst
  let main_v2 : IVec S128x512x17 1 := cmpf .olt main_v0 main_v1
  let main_c : IVec S_ 32 := constantI S_ 32 0#32
  let main_v3 : IVec S128x512 32 := broadcastInDim S128x512 ![] bcast_S_S128x512 main_c
  let main_v4 : IVec S128x512 1 := cmpi .sge main_arg1 main_v3
  let main_c_0 : IVec S_ 32 := constantI S_ 32 17#32
  let main_v5 : IVec S128x512 32 := broadcastInDim S128x512 ![] bcast_S_S128x512 main_c_0
  let main_v6 : IVec S128x512 1 := cmpi .slt main_arg1 main_v5
  let main_v7 : IVec S128x512 1 := andi main_v4 main_v6
  let main_v8 : FVec F S17x17 .f32 := Host.absf main_arg2
  let main_cst_1 : FVec F S_ .f32 := constant S_ .f32 0x7F800000#32
  let main_v9 : FVec F S17x17 .f32 := broadcastInDim S17x17 ![] bcast_S_S17x17 main_cst_1
  let main_v10 : IVec S17x17 1 := cmpf .olt main_v8 main_v9
  (main_v2, main_v7, main_v10)
-- ==== Kernel.lean ====
abbrev S128x512x17 : Shape := ⟨3, ![128, 512, 17]⟩
abbrev S128x512 : Shape := ⟨2, ![128, 512]⟩
abbrev S17x17 : Shape := ⟨2, ![17, 17]⟩
abbrev S512x17x128 : Shape := ⟨3, ![512, 17, 128]⟩
abbrev S512x128 : Shape := ⟨2, ![512, 128]⟩
abbrev S1x1 : Shape := ⟨2, ![1, 1]⟩
abbrev S_ : Shape := ⟨0, ![]⟩
abbrev S17x17x128 : Shape := ⟨3, ![17, 17, 128]⟩
abbrev S17x1 : Shape := ⟨2, ![17, 1]⟩
abbrev S17x128 : Shape := ⟨2, ![17, 128]⟩
abbrev S1x17x128 : Shape := ⟨3, ![1, 17, 128]⟩
abbrev S1x128 : Shape := ⟨2, ![1, 128]⟩
abbrev S128 : Shape := ⟨1, ![128]⟩
abbrev S1 : Shape := ⟨1, ![1]⟩

abbrev nBuf : Space → Nat
  | .hbm => 10
  | .vmem => 10
  | .smem => 0
  | _ => 0

abbrev bufTy : (tb : Table) → Fin (tcTables nBuf tb) → BufTy
  | .hbm, ⟨0, _⟩ => ⟨S128x512x17, .f32⟩
  | .hbm, ⟨1, _⟩ => ⟨S128x512, .i32⟩
  | .hbm, ⟨2, _⟩ => ⟨S17x17, .f32⟩
  | .hbm, ⟨3, _⟩ => ⟨S512x17x128, .f32⟩
  | .hbm, ⟨4, _⟩ => ⟨S512x128, .i32⟩
  | .hbm, ⟨5, _⟩ => ⟨S17x17, .f32⟩
  | .hbm, ⟨6, _⟩ => ⟨S512x128, .i32⟩
  | .hbm, ⟨7, _⟩ => ⟨S1x1, .f32⟩
  | .hbm, ⟨8, _⟩ => ⟨S128x512, .i32⟩
  | .hbm, ⟨9, _⟩ => ⟨S_, .f32⟩
  | .local _ .vmem, ⟨0, _⟩ => ⟨S512x17x128, .f32⟩
  | .local _ .vmem, ⟨1, _⟩ => ⟨S512x128, .i32⟩
  | .local _ .vmem, ⟨2, _⟩ => ⟨S17x17, .f32⟩
  | .local _ .vmem, ⟨3, _⟩ => ⟨S17x17, .f32⟩
  | .local _ .vmem, ⟨4, _⟩ => ⟨S512x128, .i32⟩
  | .local _ .vmem, ⟨5, _⟩ => ⟨S1x1, .f32⟩
  | .local _ .vmem, ⟨6, _⟩ => ⟨S512x17x128, .i32⟩
  | .local _ .vmem, ⟨7, _⟩ => ⟨S17x17x128, .f32⟩
  | .local _ .vmem, ⟨8, _⟩ => ⟨S17x17x128, .f32⟩
  | .local _ .vmem, ⟨9, _⟩ => ⟨S17x17x128, .i32⟩
  | _, _ => ⟨S128x512x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_197 : BitVec 32 := 0#32
  let c31_i32 : BitVec 32 := 31#32
  let v391 : BitVec 32 := Scalar.addi c0_i32_197 c31_i32
  let c1_i32_198 : BitVec 32 := 1#32
  ⟨c0_i32_197, v391, c1_i32_198⟩
def k0_off1 (k0_t1 : Fin k0_t1_loop.trips) (c0_i32_2626 : BitVec 32) (c0_i32_2629 : BitVec 32) : Fin 3 → Nat :=
  let c4_i32_2627 : BitVec 32 := 4#32
  let c4_i32_2625 : BitVec 32 := 4#32
  let c0_i32_197 : BitVec 32 := 0#32
  let c1_i32_198 : BitVec 32 := 1#32
  let arg10 : BitVec 32 := Scf.iv c0_i32_197 c1_i32_198 k0_t1
  let v4779 : BitVec 32 := Scalar.muli c4_i32_2625 arg10
  let v4780 : BitVec 32 := Scalar.addi v4779 c0_i32_2626
  let v4781 : BitVec 32 := Scalar.muli c4_i32_2627 v4780
  let c1_i32_2628 : BitVec 32 := 1#32
  let v4782 : BitVec 32 := Scalar.addi v4781 c1_i32_2628
  let v4783 : BitVec 32 := Scalar.addi v4782 c0_i32_2629
  let v4784 : Index := Scalar.indexCast v4783
  let c0_2630 : Index := 0#32
  let c0_2631 : Index := 0#32
  ![v4784.toNat, 0, 0]
def k0_off2 (k0_t1 : Fin k0_t1_loop.trips) (c0_i32_2626 : BitVec 32) (c0_i32_2641 : BitVec 32) : Fin 2 → Nat :=
  let c4_i32_2627 : BitVec 32 := 4#32
  let c4_i32_2625 : BitVec 32 := 4#32
  let c0_i32_197 : BitVec 32 := 0#32
  let c1_i32_198 : BitVec 32 := 1#32
  let arg10 : BitVec 32 := Scf.iv c0_i32_197 c1_i32_198 k0_t1
  let v4779 : BitVec 32 := Scalar.muli c4_i32_2625 arg10
  let v4780 : BitVec 32 := Scalar.addi v4779 c0_i32_2626
  let v4781 : BitVec 32 := Scalar.muli c4_i32_2627 v4780
  let c1_i32_2628 : BitVec 32 := 1#32
  let v4782 : BitVec 32 := Scalar.addi v4781 c1_i32_2628
  let v4799 : BitVec 32 := Scalar.addi v4782 c0_i32_2641
  let v4800 : Index := Scalar.indexCast v4799
  let c0_2642 : Index := 0#32
  ![v4800.toNat, 0]
@[reducible] def k0_t2_loop : Scf.Loop 32 :=
  let c0_i32_2615 : BitVec 32 := 0#32
  let c170_i32 : BitVec 32 := 170#32
  let v4768 : BitVec 32 := Scalar.addi c0_i32_2615 c170_i32
  let c1_i32_2616 : BitVec 32 := 1#32
  ⟨c0_i32_2615, v4768, c1_i32_2616⟩
def k0_off3 (k0_t2 : Fin k0_t2_loop.trips) (c0_i32_2626 : BitVec 32) : Fin 3 → Nat :=
  let c511_i32 : BitVec 32 := 511#32
  let c3_i32_2625 : BitVec 32 := 3#32
  let c0_i32_2615 : BitVec 32 := 0#32
  let c1_i32_2616 : BitVec 32 := 1#32
  let arg10 : BitVec 32 := Scf.iv c0_i32_2615 c1_i32_2616 k0_t2
  let v4779 : BitVec 32 := Scalar.muli c3_i32_2625 arg10
  let v4780 : BitVec 32 := Scalar.addi v4779 c0_i32_2626
  let v4781 : BitVec 32 := Scalar.subi c511_i32 v4780
  let v4782 : Index := Scalar.indexCast v4781
  let c0_2627 : Index := 0#32
  let c0_2628 : Index := 0#32
  ![v4782.toNat, 0, 0]
def k0_off4 (k0_t2 : Fin k0_t2_loop.trips) (c0_i32_2626 : BitVec 32) : Fin 2 → Nat :=
  let c511_i32 : BitVec 32 := 511#32
  let c3_i32_2625 : BitVec 32 := 3#32
  let c0_i32_2615 : BitVec 32 := 0#32
  let c1_i32_2616 : BitVec 32 := 1#32
  let arg10 : BitVec 32 := Scf.iv c0_i32_2615 c1_i32_2616 k0_t2
  let v4779 : BitVec 32 := Scalar.muli c3_i32_2625 arg10
  let v4780 : BitVec 32 := Scalar.addi v4779 c0_i32_2626
  let v4781 : BitVec 32 := Scalar.subi c511_i32 v4780
  let c1_i32_2631 : BitVec 32 := 1#32
  let v4791 : BitVec 32 := Scalar.subi v4781 c1_i32_2631
  let v4792 : Index := Scalar.indexCast v4791
  let c0_2632 : Index := 0#32
  ![v4792.toNat, 0]
abbrev stage0_0 : Fin 1 → Memref sig .tc .vmem S512x17x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S128x512x17 : Shape := ⟨3, ![128, 512, 17]⟩
abbrev S128x512 : Shape := ⟨2, ![128, 512]⟩
abbrev S17x17 : Shape := ⟨2, ![17, 17]⟩
abbrev S128x1x17 : Shape := ⟨3, ![128, 1, 17]⟩
abbrev S128x17 : Shape := ⟨2, ![128, 17]⟩
abbrev S128x511x17 : Shape := ⟨3, ![128, 511, 17]⟩
abbrev S511x128x17 : Shape := ⟨3, ![511, 128, 17]⟩
abbrev S_ : Shape := ⟨0, ![]⟩
abbrev S1x128x17 : Shape := ⟨3, ![1, 128, 17]⟩
abbrev S128x17x1 : Shape := ⟨3, ![128, 17, 1]⟩
abbrev S1x17x17 : Shape := ⟨3, ![1, 17, 17]⟩
abbrev S128x17x17 : Shape := ⟨3, ![128, 17, 17]⟩
abbrev S128 : Shape := ⟨1, ![128]⟩
abbrev S511x128 : Shape := ⟨2, ![511, 128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S1x128 : Shape := ⟨2, ![1, 128]⟩
abbrev S512x128 : Shape := ⟨2, ![512, 128]⟩
abbrev S128x510x17 : Shape := ⟨3, ![128, 510, 17]⟩
abbrev S510x128x17 : Shape := ⟨3, ![510, 128, 17]⟩
abbrev S128x510 : Shape := ⟨2, ![128, 510]⟩
abbrev S510x128 : Shape := ⟨2, ![510, 128]⟩
abbrev S128x512x1 : Shape := ⟨3, ![128, 512, 1]⟩
abbrev S128x512x1x1 : Shape := ⟨4, ![128, 512, 1, 1]⟩
abbrev S1x1x1x1 : Shape := ⟨4, ![1, 1, 1, 1]⟩
abbrev S128x511 : Shape := ⟨2, ![128, 511]⟩
abbrev S128x511x1 : Shape := ⟨3, ![128, 511, 1]⟩
abbrev S128x511x2 : Shape := ⟨3, ![128, 511, 2]⟩

abbrev nBuf : Space → Nat
  | .hbm => 240
  | .vmem => 0
  | .smem => 0
  | _ => 0

abbrev hbmTy0_0 (i : Nat) : BufTy := match i % 128 with
  | 0 => ⟨S128x512x17, .f32⟩
  | 1 => ⟨S128x512, .i32⟩
  | 2 => ⟨S17x17, .f32⟩
  | 3 => ⟨S128x1x17, .f32⟩
  | 4 => ⟨S128x17, .f32⟩
  | 5 => ⟨S128x511x17, .f32⟩
  | 6 => ⟨S511x128x17, .f32⟩
  | 7 => ⟨S_, .i32⟩
  | 8 => ⟨S511x128x17, .i32⟩
  | 9 => ⟨S_, .i32⟩
  | 10 => ⟨S511x128x17, .f32⟩
  | 11 => ⟨S17x17, .f32⟩
  | 12 => ⟨S_, .i32⟩
  | 13 => ⟨S128x17, .f32⟩
  | 14 => ⟨S511x128x17, .i32⟩
  | 15 => ⟨S_, .i32⟩
  | 16 => ⟨S_, .i1⟩
  | 17 => ⟨S_, .i32⟩
  | 18 => ⟨S_, .i32⟩
  | 19 => ⟨S1x128x17, .f32⟩
  | 20 => ⟨S128x17, .f32⟩
  | 21 => ⟨S128x17x1, .f32⟩
  | 22 => ⟨S1x17x17, .f32⟩
  | 23 => ⟨S128x17x17, .f32⟩
  | 24 => ⟨S128x17x17, .f32⟩
  | 25 => ⟨S128x17x17, .f32⟩
  | 26 => ⟨S128x1x17, .f32⟩
  | 27 => ⟨S128x17x17, .f32⟩
  | 28 => ⟨S128x17x17, .f32⟩
  | 29 => ⟨S_, .f32⟩
  | 30 => ⟨S128x17, .f32⟩
  | 31 => ⟨S128x17x17, .i32⟩
  | 32 => ⟨S_, .f32⟩
  | 33 => ⟨S_, .i32⟩
  | 34 => ⟨S128x17, .f32⟩
  | 35 => ⟨S128x17, .i32⟩
  | 36 => ⟨S1x128x17, .i32⟩
  | 37 => ⟨S_, .i32⟩
  | 38 => ⟨S_, .i32⟩
  | 39 => ⟨S511x128x17, .i32⟩
  | 40 => ⟨S_, .i32⟩
  | 41 => ⟨S_, .i32⟩
  | 42 => ⟨S128x17, .i32⟩
  | 43 => ⟨S_, .f32⟩
  | 44 => ⟨S_, .i32⟩
  | 45 => ⟨S128, .f32⟩
  | 46 => ⟨S128, .i32⟩
  | 47 => ⟨S511x128x17, .i32⟩
  | 48 => ⟨S_, .i32⟩
  | 49 => ⟨S511x128, .i32⟩
  | 50 => ⟨S_, .i32⟩
  | 51 => ⟨S511x128x17, .i32⟩
  | 52 => ⟨S_, .i32⟩
  | 53 => ⟨S128, .i32⟩
  | 54 => ⟨S511x128, .i32⟩
  | 55 => ⟨S_, .i32⟩
  | 56 => ⟨S_, .i1⟩
  | 57 => ⟨S_, .i32⟩
  | 58 => ⟨S_, .i32⟩
  | 59 => ⟨S1x128x17, .i32⟩
  | 60 => ⟨S128x17, .i32⟩
  | 61 => ⟨S128x1, .i32⟩
  | 62 => ⟨S_, .i32⟩
  | 63 => ⟨S128x1, .i32⟩
  | 64 => ⟨S128x1, .i1⟩
  | 65 => ⟨S_, .i32⟩
  | 66 => ⟨S128x1, .i32⟩
  | 67 => ⟨S128x1, .i32⟩
  | 68 => ⟨S128x1, .i32⟩
  | 69 => ⟨S128x1x1, .i32⟩
  | 70 => ⟨S1, .i32⟩
  | 71 => ⟨S_, .i32⟩
  | 72 => ⟨S128x1x1, .i32⟩
  | 73 => ⟨S128x1x1, .i1⟩
  | 74 => ⟨S1x1x1, .i32⟩
  | 75 => ⟨S128x1x1, .i32⟩
  | 76 => ⟨S128x1x1, .i1⟩
  | 77 => ⟨S128x1x1, .i1⟩
  | 78 => ⟨S_, .i1⟩
  | 79 => ⟨S128x1, .i1⟩
  | 80 => ⟨S128x1, .i32⟩
  | 81 => ⟨S_, .i32⟩
  | 82 => ⟨S128x1, .i32⟩
  | 83 => ⟨S128x1, .i32⟩
  | 84 => ⟨S128, .i32⟩
  | 85 => ⟨S1x128, .i32⟩
  | 86 => ⟨S_, .i32⟩
  | 87 => ⟨S511x128, .i32⟩
  | 88 => ⟨S_, .i32⟩
  | 89 => ⟨S_, .i32⟩
  | 90 => ⟨S1x128, .i32⟩
  | 91 => ⟨S511x128, .i32⟩
  | 92 => ⟨S512x128, .i32⟩
  | 93 => ⟨S128x512, .i32⟩
  | 94 => ⟨S_, .i32⟩
  | 95 => ⟨S128x512, .i32⟩
  | 96 => ⟨S128x512, .i1⟩
  | 97 => ⟨S128x512, .f32⟩
  | 98 => ⟨S_, .i32⟩
  | 99 => ⟨S128x512, .i32⟩
  | 100 => ⟨S128x512, .i1⟩
  | 101 => ⟨S128x512, .f32⟩
  | 102 => ⟨S128x1x17, .f32⟩
  | 103 => ⟨S128x17, .f32⟩
  | 104 => ⟨S128x1x17, .f32⟩
  | 105 => ⟨S17x17, .f32⟩
  | 106 => ⟨S1x17x17, .f32⟩
  | 107 => ⟨S128x17x17, .f32⟩
  | 108 => ⟨S128x17x17, .f32⟩
  | 109 => ⟨S128x17x17, .f32⟩
  | 110 => ⟨S_, .f32⟩
  | 111 => ⟨S128x17, .f32⟩
  | 112 => ⟨S128x17x1, .f32⟩
  | 113 => ⟨S128x17x17, .f32⟩
  | 114 => ⟨S128x17x17, .f32⟩
  | 115 => ⟨S128x17x17, .f32⟩
  | 116 => ⟨S_, .f32⟩
  | 117 => ⟨S128x17, .f32⟩
  | 118 => ⟨S128x17, .f32⟩
  | 119 => ⟨S128x17, .f32⟩
  | 120 => ⟨S128x510x17, .f32⟩
  | 121 => ⟨S510x128x17, .f32⟩
  | 122 => ⟨S128x510, .f32⟩
  | 123 => ⟨S510x128, .f32⟩
  | 124 => ⟨S_, .i32⟩
  | 125 => ⟨S510x128x17, .f32⟩
  | 126 => ⟨S510x128, .f32⟩
  | 127 => ⟨S17x17, .f32⟩
  | _ => ⟨S128x512x17, .f32⟩

abbrev hbmTy0_1 (i : Nat) : BufTy := match i % 128 with
  | 0 => ⟨S_, .i32⟩
  | 1 => ⟨S128x17x17, .f32⟩
  | 2 => ⟨S128x17, .f32⟩
  | 3 => ⟨S_, .i32⟩
  | 4 => ⟨S_, .i1⟩
  | 5 => ⟨S_, .i32⟩
  | 6 => ⟨S_, .i32⟩
  | 7 => ⟨S1x128x17, .f32⟩
  | 8 => ⟨S128x17, .f32⟩
  | 9 => ⟨S_, .i32⟩
  | 10 => ⟨S1x128, .f32⟩
  | 11 => ⟨S128, .f32⟩
  | 12 => ⟨S128x17, .f32⟩
  | 13 => ⟨S128x1x17, .f32⟩
  | 14 => ⟨S17x17, .f32⟩
  | 15 => ⟨S1x17x17, .f32⟩
  | 16 => ⟨S128x17x17, .f32⟩
  | 17 => ⟨S128x17x17, .f32⟩
  | 18 => ⟨S128x17x17, .f32⟩
  | 19 => ⟨S128x1x1, .f32⟩
  | 20 => ⟨S128x17x17, .f32⟩
  | 21 => ⟨S128x17x17, .f32⟩
  | 22 => ⟨S_, .f32⟩
  | 23 => ⟨S128, .f32⟩
  | 24 => ⟨S128, .f32⟩
  | 25 => ⟨S128x1x1, .f32⟩
  | 26 => ⟨S128x17x17, .f32⟩
  | 27 => ⟨S128x17x17, .f32⟩
  | 28 => ⟨S128x17x17, .f32⟩
  | 29 => ⟨S_, .f32⟩
  | 30 => ⟨S128x17, .f32⟩
  | 31 => ⟨S128x17x1, .f32⟩
  | 32 => ⟨S128x17x17, .f32⟩
  | 33 => ⟨S128x17x17, .f32⟩
  | 34 => ⟨S128x17x17, .f32⟩
  | 35 => ⟨S_, .f32⟩
  | 36 => ⟨S128x17, .f32⟩
  | 37 => ⟨S128x17, .f32⟩
  | 38 => ⟨S128x17, .f32⟩
  | 39 => ⟨S_, .i32⟩
  | 40 => ⟨S_, .i32⟩
  | 41 => ⟨S128x1x17, .f32⟩
  | 42 => ⟨S128x17, .f32⟩
  | 43 => ⟨S128x17, .f32⟩
  | 44 => ⟨S_, .f32⟩
  | 45 => ⟨S128, .f32⟩
  | 46 => ⟨S128x1, .f32⟩
  | 47 => ⟨S128x17, .f32⟩
  | 48 => ⟨S128x17, .f32⟩
  | 49 => ⟨S128x17, .f32⟩
  | 50 => ⟨S_, .f32⟩
  | 51 => ⟨S128, .f32⟩
  | 52 => ⟨S128, .f32⟩
  | 53 => ⟨S128, .f32⟩
  | 54 => ⟨S128x512x1, .i32⟩
  | 55 => ⟨S_, .i32⟩
  | 56 => ⟨S128x512x1, .i32⟩
  | 57 => ⟨S128x512x1, .i1⟩
  | 58 => ⟨S_, .i32⟩
  | 59 => ⟨S128x512x1, .i32⟩
  | 60 => ⟨S128x512x1, .i32⟩
  | 61 => ⟨S128x512x1, .i32⟩
  | 62 => ⟨S128x512x1x1, .i32⟩
  | 63 => ⟨S1, .i32⟩
  | 64 => ⟨S_, .i32⟩
  | 65 => ⟨S128x512x1x1, .i32⟩
  | 66 => ⟨S128x512x1x1, .i1⟩
  | 67 => ⟨S1x1x1x1, .i32⟩
  | 68 => ⟨S128x512x1x1, .i32⟩
  | 69 => ⟨S128x512x1x1, .i1⟩
  | 70 => ⟨S128x512x1x1, .i1⟩
  | 71 => ⟨S_, .i1⟩
  | 72 => ⟨S128x512x1, .i1⟩
  | 73 => ⟨S128x512x1, .f32⟩
  | 74 => ⟨S_, .f32⟩
  | 75 => ⟨S128x512x1, .f32⟩
  | 76 => ⟨S128x512x1, .f32⟩
  | 77 => ⟨S128x512, .f32⟩
  | 78 => ⟨S128x512, .f32⟩
  | 79 => ⟨S_, .f32⟩
  | 80 => ⟨S128, .f32⟩
  | 81 => ⟨S128x511, .i32⟩
  | 82 => ⟨S128x511, .i32⟩
  | 83 => ⟨S_, .i32⟩
  | 84 => ⟨S128x511, .i32⟩
  | 85 => ⟨S128x511, .i1⟩
  | 86 => ⟨S_, .i32⟩
  | 87 => ⟨S128x511, .i32⟩
  | 88 => ⟨S128x511, .i32⟩
  | 89 => ⟨S128x511, .i32⟩
  | 90 => ⟨S_, .i32⟩
  | 91 => ⟨S128x511, .i32⟩
  | 92 => ⟨S128x511, .i1⟩
  | 93 => ⟨S_, .i32⟩
  | 94 => ⟨S128x511, .i32⟩
  | 95 => ⟨S128x511, .i32⟩
  | 96 => ⟨S128x511, .i32⟩
  | 97 => ⟨S128x511x1, .i32⟩
  | 98 => ⟨S128x511x1, .i32⟩
  | 99 => ⟨S128x511x2, .i32⟩
  | 100 => ⟨S128x511, .f32⟩
  | 101 => ⟨S128x511, .f32⟩
  | 102 => ⟨S128x511, .f32⟩
  | 103 => ⟨S_, .f32⟩
  | 104 => ⟨S128, .f32⟩
  | 105 => ⟨S128, .f32⟩
  | 106 => ⟨S128, .f32⟩
  | 107 => ⟨S128, .f32⟩
  | 108 => ⟨S_, .f32⟩
  | 109 => ⟨S_, .f32⟩
  | 110 => ⟨S_, .f32⟩
  | 111 => ⟨S_, .f32⟩
  | _ => ⟨S128x512x17, .f32⟩

abbrev hbmTy (i : Nat) : BufTy := match i / 128 with
  | 0 => hbmTy0_0 i
  | 1 => hbmTy0_1 i
  | _ => ⟨S128x512x17, .f32⟩

abbrev bufTy : (tb : Table) → Fin (tcTables nBuf tb) → BufTy
  | .hbm, ⟨i, _⟩ => hbmTy i
  | _, _ => ⟨S128x512x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_while0c_c_21 : Ref sig .tc := ⟨.hbm, 15, rfl⟩
abbrev main_while0c_v81 : Ref sig .tc := ⟨.hbm, 16, rfl⟩
abbrev main_while0b_call0_c : Ref sig .tc := ⟨.hbm, 17, rfl⟩
abbrev main_while0b_call0_c_0 : Ref sig .tc := ⟨.hbm, 18, rfl⟩
abbrev main_while0b_call0_v0 : Ref sig .tc := ⟨.hbm, 19, rfl⟩
abbrev main_while0b_v81 : Ref sig .tc := ⟨.hbm, 20, rfl⟩
abbrev main_while0b_v82 : Ref sig .tc := ⟨.hbm, 21, rfl⟩
abbrev main_while0b_v83 : Ref sig .tc := ⟨.hbm, 22, rfl⟩
abbrev main_while0b_v84 : Ref sig .tc := ⟨.hbm, 23, rfl⟩
abbrev main_while0b_v85 : Ref sig .tc := ⟨.hbm, 24, rfl⟩
abbrev main_while0b_v86 : Ref sig .tc := ⟨.hbm, 25, rfl⟩
abbrev main_while0b_v87 : Ref sig .tc := ⟨.hbm, 26, rfl⟩
abbrev main_while0b_v88 : Ref sig .tc := ⟨.hbm, 27, rfl⟩
abbrev main_while0b_v89 : Ref sig .tc := ⟨.hbm, 28, rfl⟩
abbrev main_while0b_cst_21 : Ref sig .tc := ⟨.hbm, 29, rfl⟩
abbrev main_while0b_v90 : Ref sig .tc := ⟨.hbm, 30, rfl⟩
abbrev main_while0b_call1_v0 : Ref sig .tc := ⟨.hbm, 31, rfl⟩
abbrev main_while0b_call1_cst : Ref sig .tc := ⟨.hbm, 32, rfl⟩
abbrev main_while0b_call1_c : Ref sig .tc := ⟨.hbm, 33, rfl⟩
abbrev main_while0b_call1_v1_0 : Ref sig .tc := ⟨.hbm, 34, rfl⟩
abbrev main_while0b_v91 : Ref sig .tc := ⟨.hbm, 35, rfl⟩
abbrev main_while0b_call2_v0 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_v92 : Ref sig .tc := ⟨.hbm, 39, rfl⟩
abbrev main_while0b_c_22 : Ref sig .tc := ⟨.hbm, 40, rfl⟩
abbrev main_while0b_v93 : Ref sig .tc := ⟨.hbm, 41, rfl⟩
abbrev main_call3_v0 : Ref sig .tc := ⟨.hbm, 42, rfl⟩
abbrev main_call3_cst : Ref sig .tc := ⟨.hbm, 43, rfl⟩
abbrev main_call3_c : Ref sig .tc := ⟨.hbm, 44, rfl⟩
abbrev main_call3_v1_0 : Ref sig .tc := ⟨.hbm, 45, rfl⟩
abbrev main_v6 : Ref sig .tc := ⟨.hbm, 46, rfl⟩
abbrev main_v7 : Ref sig .tc := ⟨.hbm, 47, rfl⟩
abbrev main_c_1 : Ref sig .tc := ⟨.hbm, 48, rfl⟩
abbrev main_v8 : Ref sig .tc := ⟨.hbm, 49, rfl⟩
abbrev main_c_2 : Ref sig .tc := ⟨.hbm, 50, rfl⟩
abbrev main_v9_0 : Ref sig .tc := ⟨.hbm, 51, rfl⟩
abbrev main_v9_1 : Ref sig .tc := ⟨.hbm, 52, rfl⟩
abbrev main_v9_2 : Ref sig .tc := ⟨.hbm, 53, rfl⟩
abbrev main_v9_3 : Ref sig .tc := ⟨.hbm, 54, rfl⟩
abbrev main_while1c_c_20 : Ref sig .tc := ⟨.hbm, 55, rfl⟩
abbrev main_while1c_v81 : Ref sig .tc := ⟨.hbm, 56, rfl⟩
abbrev main_while1b_call4_c : Ref sig .tc := ⟨.hbm, 57, rfl⟩
abbrev main_while1b_call4_c_0 : Ref sig .tc := ⟨.hbm, 58, rfl⟩
abbrev main_while1b_call4_v0 : Ref sig .tc := ⟨.hbm, 59, rfl⟩
abbrev main_while1b_v81 : Ref sig .tc := ⟨.hbm, 60, rfl⟩
abbrev main_while1b_v82 : Ref sig .tc := ⟨.hbm, 61, rfl⟩
abbrev main_while1b_call5_c : Ref sig .tc := ⟨.hbm, 62, rfl⟩
abbrev main_while1b_call5_v0 : Ref sig .tc := ⟨.hbm, 63, rfl⟩
abbrev main_while1b_call5_v1 : Ref sig .tc := ⟨.hbm, 64, rfl⟩
abbrev main_while1b_call5_c_0 : Ref sig .tc := ⟨.hbm, 65, rfl⟩
abbrev main_while1b_call5_v2 : Ref sig .tc := ⟨.hbm, 66, rfl⟩
abbrev main_while1b_call5_v3 : Ref sig .tc := ⟨.hbm, 67, rfl⟩
abbrev main_while1b_call5_v4 : Ref sig .tc := ⟨.hbm, 68, rfl⟩
abbrev main_while1b_call5_v5 : Ref sig .tc := ⟨.hbm, 69, rfl⟩
abbrev main_while1b_call5_c_1 : Ref sig .tc := ⟨.hbm, 70, rfl⟩
abbrev main_while1b_call5_c_2 : Ref sig .tc := ⟨.hbm, 71, rfl⟩
abbrev main_while1b_call5_v6 : Ref sig .tc := ⟨.hbm, 72, rfl⟩
abbrev main_while1b_call5_v7 : Ref sig .tc := ⟨.hbm, 73, rfl⟩
abbrev main_while1b_call5_v8 : Ref sig .tc := ⟨.hbm, 74, rfl⟩
abbrev main_while1b_call5_v9 : Ref sig .tc := ⟨.hbm, 75, rfl⟩
abbrev main_while1b_call5_v10 : Ref sig .tc := ⟨.hbm, 76, rfl⟩
abbrev main_while1b_call5_v11 : Ref sig .tc := ⟨.hbm, 77, rfl⟩
abbrev main_while1b_call5_c_3 : Ref sig .tc := ⟨.hbm, 78, rfl⟩
abbrev main_while1b_call5_v12 : Ref sig .tc := ⟨.hbm, 79, rfl⟩
abbrev main_while1b_call5_v13 : Ref sig .tc := ⟨.hbm, 80, rfl⟩
abbrev main_while1b_call5_c_4 : Ref sig .tc := ⟨.hbm, 81, rfl⟩
abbrev main_while1b_call5_v14 : Ref sig .tc := ⟨.hbm, 82, rfl⟩
abbrev main_while1b_v83 : Ref sig .tc := ⟨.hbm, 83, rfl⟩
abbrev main_while1b_v84 : Ref sig .tc := ⟨.hbm, 84, rfl⟩
abbrev main_while1b_call6_v0 : Ref sig .tc := ⟨.hbm, 85, rfl⟩
abbrev main_while1b_call6_c : Ref sig .tc := ⟨.hbm, 86, rfl⟩
abbrev main_while1b_v85 : Ref sig .tc := ⟨.hbm, 87, rfl⟩
abbrev main_while1b_c_20 : Ref sig .tc := ⟨.hbm, 88, rfl⟩
abbrev main_while1b_v86 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_c_3 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_c_4 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_cst_5 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_c_6 : Ref sig .tc := ⟨.hbm, 124, rfl⟩
abbrev main_v40_0 : Ref sig .tc := ⟨.hbm, 125, rfl⟩
abbrev main_v40_1 : Ref sig .tc := ⟨.hbm, 126, rfl⟩
abbrev main_v40_2 : Ref sig .tc := ⟨.hbm, 127, rfl⟩
abbrev main_v40_3 : Ref sig .tc := ⟨.hbm, 128, rfl⟩
abbrev main_v40_4 : Ref sig .tc := ⟨.hbm, 129, rfl⟩
abbrev main_v40_5 : Ref sig .tc := ⟨.hbm, 130, rfl⟩
abbrev main_while2c_c_22 : Ref sig .tc := ⟨.hbm, 131, rfl⟩
abbrev main_while2c_v81 : Ref sig .tc := ⟨.hbm, 132, rfl⟩
abbrev main_while2b_call7_c : Ref sig .tc := ⟨.hbm, 133, rfl⟩
abbrev main_while2b_call7_c_0 : Ref sig .tc := ⟨.hbm, 134, rfl⟩
abbrev main_while2b_call7_v0 : Ref sig .tc := ⟨.hbm, 135, rfl⟩
abbrev main_while2b_v81 : Ref sig .tc := ⟨.hbm, 136, rfl⟩
abbrev main_while2b_call8_c : Ref sig .tc := ⟨.hbm, 137, rfl⟩
abbrev main_while2b_call8_v0 : Ref sig .tc := ⟨.hbm, 138, rfl⟩
abbrev main_while2b_v82 : Ref sig .tc := ⟨.hbm, 139, rfl⟩
abbrev main_while2b_v83 : Ref sig .tc := ⟨.hbm, 140, rfl⟩
abbrev main_while2b_v84 : Ref sig .tc := ⟨.hbm, 141, rfl⟩
abbrev main_while2b_v85 : Ref sig .tc := ⟨.hbm, 142, rfl⟩
abbrev main_while2b_v86 : Ref sig .tc := ⟨.hbm, 143, rfl⟩
abbrev main_while2b_v87 : Ref sig .tc := ⟨.hbm, 144, rfl⟩
abbrev main_while2b_v88 : Ref sig .tc := ⟨.hbm, 145, rfl⟩
abbrev main_while2b_v89 : Ref sig .tc := ⟨.hbm, 146, rfl⟩
abbrev main_while2b_v90 : Ref sig .tc := ⟨.hbm, 147, rfl⟩
abbrev main_while2b_v91 : Ref sig .tc := ⟨.hbm, 148, rfl⟩
abbrev main_while2b_v92 : Ref sig .tc := ⟨.hbm, 149, rfl⟩
abbrev main_while2b_cst_22 : Ref sig .tc := ⟨.hbm, 150, rfl⟩
abbrev main_while2b_v93 : Ref sig .tc := ⟨.hbm, 151, rfl⟩
abbrev main_while2b_v94 : Ref sig .tc := ⟨.hbm, 152, rfl⟩
abbrev main_while2b_v95 : Ref sig .tc := ⟨.hbm, 153, rfl⟩
abbrev main_while2b_v96 : Ref sig .tc := ⟨.hbm, 154, rfl⟩
abbrev main_while2b_v97 : Ref sig .tc := ⟨.hbm, 155, rfl⟩
abbrev main_while2b_v98 : Ref sig .tc := ⟨.hbm, 156, rfl⟩
abbrev main_while2b_cst_23 : Ref sig .tc := ⟨.hbm, 157, rfl⟩
abbrev main_while2b_v99 : Ref sig .tc := ⟨.hbm, 158, rfl⟩
abbrev main_while2b_v100 : Ref sig .tc := ⟨.hbm, 159, rfl⟩
abbrev main_while2b_v101 : Ref sig .tc := ⟨.hbm, 160, rfl⟩
abbrev main_while2b_v102 : Ref sig .tc := ⟨.hbm, 161, rfl⟩
abbrev main_while2b_v103 : Ref sig .tc := ⟨.hbm, 162, rfl⟩
abbrev main_while2b_cst_24 : Ref sig .tc := ⟨.hbm, 163, rfl⟩
abbrev main_while2b_v104 : Ref sig .tc := ⟨.hbm, 164, rfl⟩
abbrev main_while2b_v105 : Ref sig .tc := ⟨.hbm, 165, rfl⟩
abbrev main_while2b_v106 : Ref sig .tc := ⟨.hbm, 166, rfl⟩
abbrev main_while2b_c_25 : Ref sig .tc := ⟨.hbm, 167, rfl⟩
abbrev main_while2b_v107 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_cst_7 : Ref sig .tc := ⟨.hbm, 172, rfl⟩
abbrev main_v44 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩
abbrev main_v48 : Ref sig .tc := ⟨.hbm, 177, rfl⟩
abbrev main_cst_8 : Ref sig .tc := ⟨.hbm, 178, rfl⟩
abbrev main_v49 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_call9_c : Ref sig .tc := ⟨.hbm, 183, rfl⟩
abbrev main_call9_v0 : Ref sig .tc := ⟨.hbm, 184, rfl⟩
abbrev main_call9_v1 : Ref sig .tc := ⟨.hbm, 185, rfl⟩
abbrev main_call9_c_0 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_call9_v5 : Ref sig .tc := ⟨.hbm, 190, rfl⟩
abbrev main_call9_c_1 : Ref sig .tc := ⟨.hbm, 191, rfl⟩
abbrev main_call9_c_2 : Ref sig .tc := ⟨.hbm, 192, rfl⟩
abbrev main_call9_v6 : Ref sig .tc := ⟨.hbm, 193, rfl⟩
abbrev main_call9_v7 : Ref sig .tc := ⟨.hbm, 194, rfl⟩
abbrev main_call9_v8 : Ref sig .tc := ⟨.hbm, 195, rfl⟩
abbrev main_call9_v9 : Ref sig .tc := ⟨.hbm, 196, rfl⟩
abbrev main_call9_v10 : Ref sig .tc := ⟨.hbm, 197, rfl⟩
abbrev main_call9_v11 : Ref sig .tc := ⟨.hbm, 198, rfl⟩
abbrev main_call9_c_3 : Ref sig .tc := ⟨.hbm, 199, rfl⟩
abbrev main_call9_v12 : Ref sig .tc := ⟨.hbm, 200, rfl⟩
abbrev main_call9_v13 : Ref sig .tc := ⟨.hbm, 201, rfl⟩
abbrev main_call9_cst : Ref sig .tc := ⟨.hbm, 202, rfl⟩
abbrev main_call9_v14 : Ref sig .tc := ⟨.hbm, 203, rfl⟩
abbrev main_v53 : Ref sig .tc := ⟨.hbm, 204, rfl⟩
abbrev main_v54 : Ref sig .tc := ⟨.hbm, 205, rfl⟩
abbrev main_v55 : Ref sig .tc := ⟨.hbm, 206, rfl⟩
abbrev main_cst_9 : Ref sig .tc := ⟨.hbm, 207, rfl⟩
abbrev main_v56 : Ref sig .tc := ⟨.hbm, 208, rfl⟩
abbrev main_v57 : Ref sig .tc := ⟨.hbm, 209, rfl⟩
abbrev main_v58 : Ref sig .tc := ⟨.hbm, 210, rfl⟩
abbrev main_c_10 : Ref sig .tc := ⟨.hbm, 211, rfl⟩
abbrev main_v59 : Ref sig .tc := ⟨.hbm, 212, rfl⟩
abbrev main_v60 : Ref sig .tc := ⟨.hbm, 213, rfl⟩
abbrev main_c_11 : Ref sig .tc := ⟨.hbm, 214, rfl⟩
abbrev main_v61 : Ref sig .tc := ⟨.hbm, 215, rfl⟩
abbrev main_v62 : Ref sig .tc := ⟨.hbm, 216, rfl⟩
abbrev main_v63 : Ref sig .tc := ⟨.hbm, 217, rfl⟩
abbrev main_c_12 : Ref sig .tc := ⟨.hbm, 218, rfl⟩
abbrev main_v64 : Ref sig .tc := ⟨.hbm, 219, rfl⟩
abbrev main_v65 : Ref sig .tc := ⟨.hbm, 220, rfl⟩
abbrev main_c_13 : Ref sig .tc := ⟨.hbm, 221, rfl⟩
abbrev main_v66 : Ref sig .tc := ⟨.hbm, 222, rfl⟩
abbrev main_v67 : Ref sig .tc := ⟨.hbm, 223, rfl⟩
abbrev main_v68 : Ref sig .tc := ⟨.hbm, 224, rfl⟩
abbrev main_v69 : Ref sig .tc := ⟨.hbm, 225, rfl⟩
abbrev main_v70 : Ref sig .tc := ⟨.hbm, 226, rfl⟩
abbrev main_v71 : Ref sig .tc := ⟨.hbm, 227, rfl⟩
abbrev main_v72 : Ref sig .tc := ⟨.hbm, 228, rfl⟩
abbrev main_v73 : Ref sig .tc := ⟨.hbm, 229, rfl⟩
abbrev main_v74 : Ref sig .tc := ⟨.hbm, 230, rfl⟩
abbrev main_cst_14 : Ref sig .tc := ⟨.hbm, 231, rfl⟩
abbrev main_v75 : Ref sig .tc := ⟨.hbm, 232, rfl⟩
abbrev main_v76 : Ref sig .tc := ⟨.hbm, 233, rfl⟩
abbrev main_v77 : Ref sig .tc := ⟨.hbm, 234, rfl⟩
abbrev main_v78 : Ref sig .tc := ⟨.hbm, 235, rfl⟩
abbrev main_cst_15 : Ref sig .tc := ⟨.hbm, 236, rfl⟩
abbrev main_v79 : Ref sig .tc := ⟨.hbm, 237, rfl⟩
abbrev main_cst_16 : Ref sig .tc := ⟨.hbm, 238, rfl⟩
abbrev main_v80 : Ref sig .tc := ⟨.hbm, 239, rfl⟩

abbrev nD : Nat := 1
abbrev τ : Topo := Topo.v7x

variable {F : FTy → Type} [FloatOps F]

abbrev main_while0_count : Scf.Loop 32 := ⟨0#32, 511#32, 1#32⟩

abbrev main_while1_count : Scf.Loop 32 := ⟨0#32, 511#32, 1#32⟩

abbrev main_while2_count : Scf.Loop 32 := ⟨0#32, 510#32, 1#32⟩
-- ==== Proof.IdealLoops.lean ====
/-
  The two counted loops of the kernel body (the forward loop over sixteen time steps a trip, `k0_t1`, and the backtracking
  loop over three time steps a trip, `k0_t2`): one trip of each run symbolically, the state before trip `k` by recursion, and
  the invariant the body's run goes through the loop by. The text is the printed obligation's own (`Loops`), with a larger
  budget for the long trip.
-/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- one trip of the forward loop is sixteen hundred operations long
set_option maxRecDepth 65536
set_option maxHeartbeats 40000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0__crf_kernel` -/

/-- The type of an invariant of the backtracking loop. -/
abbrev LoopInvTy_k0_t2 (Ix Name U Lvl : Type) [DecidableEq Ix] [DecidableEq Name] [RA.URA U] [Preorder Lvl]
    (𝒱 : Variants) (c : Dev nD) (bd : Option 𝒱.V) (E : Set Name) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (init : IVec S1x128 32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok init (k0_t2_body (F := F) arg0 harg0 arg1 harg1 arg2 harg2 arg3 harg3 arg4 harg4 arg5 harg5 arg6 harg6 arg7 harg7 arg8 harg8 arg9 harg9 v276)

/-! ### `k0_t2_loop`: the invariant -/

/-- One trip's resources: what the region reads (arg6) at its contents, what it writes (arg4) at
   any. -/
abbrev Trip_k0_t2 (c : Dev nD) (arg6 : Memref sig .tc .vmem S512x17x128 .i32) (arg4 : Memref sig .tc .vmem S512x128 .i32) (X_arg6 : BufTy.Contents (Elt F) arg6.view.ty) (f_arg4 : BufTy.Contents (Elt F) arg4.view.ty) : sProp 𝕄G :=
  iprop((arg6.view.loc (c : Thread nD τ) ↦[arg6.view.set]{fullShare} X_arg6) ∗ (arg4.view.loc (c : Thread nD τ) ↦[arg4.view.set]{fullShare} f_arg4))

/-- ONE TRIP of `k0_t2_loop` at a symbolic `k` and carried value `acc`, run by `sl_exec` (its
   rectangles' offsets closed forms of `k`, their geometry linear arithmetic): what it yields and
   the pieces it writes into arg4 are the run's own finds — the witnesses `sl_close` assigns handing
   the buffers to the continuation, as functions of the carried value. `@[irreducible]`: cited,
   never unfolded. -/
@[irreducible] def trip_k0_t2 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (k : Fin k0_t2_loop.trips) :
    Σ' (R_k0_t2 : ((IVec S1x128 32) → IVec S1x128 32)) , { L_arg4 : ((IVec S1x128 32) → List (View.Piece (Elt F) S512x128 .i32)) // ∀ (E : Set ℕ) (acc : IVec S1x128 32) (f_arg4 : BufTy.Contents (Elt F) arg4.view.ty),
      Trip_k0_t2 (F := F) c arg6 arg4 X_arg6 f_arg4
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 v276 k acc)
          (fun yld => iprop(⌜yld = R_k0_t2 acc⌝ ∗ Trip_k0_t2 (F := F) c arg6 arg4 X_arg6 (arg4.view.writes (Elt F) f_arg4 (L_arg4 acc)))) } := by
  have hk : k.val < 170 := Nat.lt_of_lt_of_le k.isLt k0_t2_abs.2.1
  refine ⟨?_, ?_, fun E acc f_arg4 => ?run⟩
  case run =>
    unfold k0_t2_body
    iintro ⟨HR_arg6, HW_arg4⟩
    sl_exec
    sl_step
    sl_close

/-- The trip's result (a plain projection of `trip_…`, for the recursion below to cite without its
   proof). -/
abbrev tripR_k0_t2 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (k : Fin k0_t2_loop.trips) (acc : IVec S1x128 32) : IVec S1x128 32 :=
  (trip_k0_t2 (F := F) 𝒱 c bd arg0 harg0 arg1 harg1 arg2 harg2 arg3 harg3 arg4 harg4 arg5 harg5 arg6 harg6 arg7 harg7 arg8 harg8 arg9 harg9 v276 X_arg6 k).1 acc

/-- The trip's piece lists (plain projections of `trip_…`, for the recursion below to cite without
   its proof), at the carried value. -/
abbrev tripL_k0_t2 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (k : Fin k0_t2_loop.trips) (acc : IVec S1x128 32) : List (View.Piece (Elt F) S512x128 .i32) :=
  (trip_k0_t2 (F := F) 𝒱 c bd arg0 harg0 arg1 harg1 arg2 harg2 arg3 harg3 arg4 harg4 arg5 harg5 arg6 harg6 arg7 harg7 arg8 harg8 arg9 harg9 v276 X_arg6 k).2.1 acc

/-- Trip `k`'s contribution to the state the recursion `st_k0_t2` below carries (`prev`): its result
   as the new carried value and its pieces in front, per written memref; past the last trip, `prev`
   itself. -/
@[irreducible] def st_k0_t2Step (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (init : IVec S1x128 32) (k : ℕ) (prev : (IVec S1x128 32) × List (View.Piece (Elt F) S512x128 .i32)) : (IVec S1x128 32) × List (View.Piece (Elt F) S512x128 .i32) :=
  if h : k < k0_t2_loop.trips then
    (tripR_k0_t2 (F := F) 𝒱 c bd arg0 harg0 arg1 harg1 arg2 harg2 arg3 harg3 arg4 harg4 arg5 harg5 arg6 harg6 arg7 harg7 arg8 harg8 arg9 harg9 v276 X_arg6 ⟨k, h⟩ prev.1, (tripL_k0_t2 (F := F) 𝒱 c bd arg0 harg0 arg1 harg1 arg2 harg2 arg3 harg3 arg4 harg4 arg5 harg5 arg6 harg6 arg7 harg7 arg8 harg8 arg9 harg9 v276 X_arg6 ⟨k, h⟩ prev.1) ++ prev.2)
  else prev

/-- The STATE before trip `k`: the carried value and, per written memref, the pieces of the trips
   before (last first), from the loop's initial value `init`. -/
def st_k0_t2 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (init : IVec S1x128 32) : ℕ → (IVec S1x128 32) × List (View.Piece (Elt F) S512x128 .i32)
  | 0 => (init, [])
  | k + 1 => st_k0_t2Step 𝒱 c bd arg0 harg0 arg1 harg1 arg2 harg2 arg3 harg3 arg4 harg4 arg5 harg5 arg6 harg6 arg7 harg7 arg8 harg8 arg9 harg9 v276 X_arg6 init k (st_k0_t2 𝒱 c bd arg0 harg0 arg1 harg1 arg2 harg2 arg3 harg3 arg4 harg4 arg5 harg5 arg6 harg6 arg7 harg7 arg8 harg8 arg9 harg9 v276 X_arg6 init k)

theorem st_k0_t2_succ (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (init : IVec S1x128 32) (k : Fin k0_t2_loop.trips) :
    st_k0_t2 (F := F) 𝒱 c bd arg0 harg0 arg1 harg1 arg2 harg2 arg3 harg3 arg4 harg4 arg5 harg5 arg6 harg6 arg7 harg7 arg8 harg8 arg9 harg9 v276 X_arg6 init (k.val + 1)
      = ((tripR_k0_t2 (F := F) 𝒱 c bd arg0 harg0 arg1 harg1 arg2 harg2 arg3 harg3 arg4 harg4 arg5 harg5 arg6 harg6 arg7 harg7 arg8 harg8 arg9 harg9 v276 X_arg6 k (st_k0_t2 (F := F) 𝒱 c bd arg0 harg0 arg1 harg1 arg2 harg2 arg3 harg3 arg4 harg4 arg5 harg5 arg6 harg6 arg7 harg7 arg8 harg8 arg9 harg9 v276 X_arg6 init k.val).1), (tripL_k0_t2 (F := F) 𝒱 c bd arg0 harg0 arg1 harg1 arg2 harg2 arg3 harg3 arg4 harg4 arg5 harg5 arg6 harg6 arg7 harg7 arg8 harg8 arg9 harg9 v276 X_arg6 k (st_k0_t2 (F := F) 𝒱 c bd arg0 harg0 arg1 harg1 arg2 harg2 arg3 harg3 arg4 harg4 arg5 harg5 arg6 harg6 arg7 harg7 arg8 harg8 arg9 harg9 v276 X_arg6 init k.val).1) ++ (st_k0_t2 (F := F) 𝒱 c bd arg0 harg0 arg1 harg1 arg2 harg2 arg3 harg3 arg4 harg4 arg5 harg5 arg6 harg6 arg7 harg7 arg8 harg8 arg9 harg9 v276 X_arg6 init k.val).2) := by
  rw [st_k0_t2.eq_2]; unfold st_k0_t2Step; exact dif_pos k.isLt

/-- The carried value before trip 0 is the initial one: the invariant's equation at loop entry,
   which the run closes by this (`sl_pure`) without unfolding the value it holds. -/
theorem st_k0_t2_zero (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (init : IVec S1x128 32) :
    (st_k0_t2 (F := F) 𝒱 c bd arg0 harg0 arg1 harg1 arg2 harg2 arg3 harg3 arg4 harg4 arg5 harg5 arg6 harg6 arg7 harg7 arg8 harg8 arg9 harg9 v276 X_arg6 init 0).1 = init := rfl

/-- THE INVARIANT before trip `k`: arg6 read at `X_·`; arg4 holding the pieces of the trips before
   `k` written over the contents at loop entry `G_·` (stated `∃ f, … ∗ ⌜f = …⌝`, so that a
   hypothesis of any contents matches and the equation is what is proved); and `acc` equal to the
   state's carried value (an equation the run substitutes after the loop). -/
abbrev inv_k0_t2 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (G_arg4 : BufTy.Contents (Elt F) arg4.view.ty) (init : IVec S1x128 32) (k : ℕ) (acc : IVec S1x128 32) : sProp 𝕄G :=
  iprop((arg6.view.loc (c : Thread nD τ) ↦[arg6.view.set]{fullShare} X_arg6) ∗ (∃ f, (arg4.view.loc (c : Thread nD τ) ↦[arg4.view.set]{fullShare} f) ∗ ⌜f = arg4.view.writes (Elt F) G_arg4 (st_k0_t2 (F := F) 𝒱 c bd arg0 harg0 arg1 harg1 arg2 harg2 arg3 harg3 arg4 harg4 arg5 harg5 arg6 harg6 arg7 harg7 arg8 harg8 arg9 harg9 v276 X_arg6 init k).2⌝) ∗ ⌜acc = (st_k0_t2 (F := F) 𝒱 c bd arg0 harg0 arg1 harg1 arg2 harg2 arg3 harg3 arg4 harg4 arg5 harg5 arg6 harg6 arg7 harg7 arg8 harg8 arg9 harg9 v276 X_arg6 init k).1⌝)

set_option warn.classDefReducibility false in
/-- THE LOOP BY ITS INVARIANT (`@[sl_loop]`: `sl_exec` finds it meeting `k0_t2_loop`,
   fixing `X_· G_·` and `init` against the context; after the loop each written memref holds `writes
   G (st … trips).2` and what it yields is `(st … trips).1`). -/
@[sl_loop] def loopInv_k0_t2 (𝒱 : Variants) (c : Dev nD) (bd : Option 𝒱.V) (E : Set ℕ) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v276 : IVec S17x128 32) (X_arg6 : BufTy.Contents (Elt F) arg6.view.ty) (G_arg4 : BufTy.Contents (Elt F) arg4.view.ty) (init : IVec S1x128 32) :
    LoopInvTy_k0_t2 (F := F) Unit ℕ (UR sig nD τ) ℕ 𝒱 c bd E arg0 harg0 arg1 harg1 arg2 harg2 arg3 harg3 arg4 harg4 arg5 harg5 arg6 harg6 arg7 harg7 arg8 harg8 arg9 harg9 v276 init where
  inv := inv_k0_t2 (F := F) 𝒱 c bd arg0 harg0 arg1 harg1 arg2 harg2 arg3 harg3 arg4 harg4 arg5 harg5 arg6 harg6 arg7 harg7 arg8 harg8 arg9 harg9 v276 X_arg6 G_arg4 init
  step k acc := by
    iintro ⟨HR_arg6, ⟨%f_arg4, HW_arg4, %h_arg4⟩, %h_acc⟩
    subst h_acc
    iapply (wp_wand_r Idealize.ShloMosaic.frame (wpE (defs₀ (F := F)) 𝒱 (c : Thread nD τ) bd) E)
    isplitl [HR_arg6 HW_arg4]
    · iapply ((trip_k0_t2 (F := F) 𝒱 c bd arg0 harg0 arg1 harg1 arg2 harg2 arg3 harg3 arg4 harg4 arg5 harg5 arg6 harg6 arg7 harg7 arg8 harg8 arg9 harg9 v276 X_arg6 k).2.2 E (st_k0_t2 (F := F) 𝒱 c bd arg0 harg0 arg1 harg1 arg2 harg2 arg3 harg3 arg4 harg4 arg5 harg5 arg6 harg6 arg7 harg7 arg8 harg8 arg9 harg9 v276 X_arg6 init k).1 f_arg4)
      isplitl [HR_arg6]; · iexact HR_arg6
      iexact HW_arg4
    · iintro %yld ⟨%h_res, HR_arg6, HW_arg4⟩
      isplitl [HR_arg6]; · iexact HR_arg6
      simp only [st_k0_t2_succ]
      isplitl [HW_arg4]
      · iexists _; isplitl [HW_arg4]; · iexact HW_arg4
        ipureintro; rw [h_arg4, ← View.writes_append]
      ipureintro; rw [h_res]

/-- The type of an invariant of the forward loop. -/
abbrev LoopInvTy_k0_t1 (Ix Name U Lvl : Type) [DecidableEq Ix] [DecidableEq Name] [RA.URA U] [Preorder Lvl]
    (𝒱 : Variants) (c : Dev nD) (bd : Option 𝒱.V) (E : Set Name) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (init : FVec F S17x128 .f32 × FVec F S17x128 .f32 × FVec F S1x128 .f32 × FVec F S17x128 .f32 × IVec S1x128 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 v0 v276 v278 v280 v282 v360 v365 v370 v371 v372 v373 v374 v375 v376 v377)

/-! ### `k0_t1_loop`: the invariant -/

/-- One trip's resources: what the region reads (arg0, arg1, arg7, arg8, arg9) at its contents, what
   it writes (arg6) at any. -/
abbrev Trip_k0_t1 (c : Dev nD) (arg0 : Memref sig .tc .vmem S512x17x128 .f32) (arg1 : Memref sig .tc .vmem S512x128 .i32) (arg7 : Memref sig .tc .vmem S17x17x128 .f32) (arg8 : Memref sig .tc .vmem S17x17x128 .f32) (arg9 : Memref sig .tc .vmem S17x17x128 .i32) (arg6 : Memref sig .tc .vmem S512x17x128 .i32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (f_arg6 : BufTy.Contents (Elt F) arg6.view.ty) : sProp 𝕄G :=
  iprop((arg0.view.loc (c : Thread nD τ) ↦[arg0.view.set]{fullShare} X_arg0) ∗ (arg1.view.loc (c : Thread nD τ) ↦[arg1.view.set]{fullShare} X_arg1) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg6.view.loc (c : Thread nD τ) ↦[arg6.view.set]{fullShare} f_arg6))

/-- ONE TRIP of `k0_t1_loop` at a symbolic `k` and carried value `acc`, run by `sl_exec` (its
   rectangles' offsets closed forms of `k`, their geometry linear arithmetic): what it yields and
   the pieces it writes into arg6 are the run's own finds — the witnesses `sl_close` assigns handing
   the buffers to the continuation, as functions of the carried value. `@[irreducible]`: cited,
   never unfolded. -/
@[irreducible] def trip_k0_t1 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (k : Fin k0_t1_loop.trips) :
    Σ' (R_k0_t1 : ((FVec F S17x128 .f32 × FVec F S17x128 .f32 × FVec F S1x128 .f32 × FVec F S17x128 .f32 × IVec S1x128 32) → FVec F S17x128 .f32 × FVec F S17x128 .f32 × FVec F S1x128 .f32 × FVec F S17x128 .f32 × IVec S1x128 32)) , { L_arg6 : ((FVec F S17x128 .f32 × FVec F S17x128 .f32 × FVec F S1x128 .f32 × FVec F S17x128 .f32 × IVec S1x128 32) → List (View.Piece (Elt F) S512x17x128 .i32)) // ∀ (E : Set ℕ) (acc : FVec F S17x128 .f32 × FVec F S17x128 .f32 × FVec F S1x128 .f32 × FVec F S17x128 .f32 × IVec S1x128 32) (f_arg6 : BufTy.Contents (Elt F) arg6.view.ty),
      Trip_k0_t1 (F := F) c arg0 arg1 arg7 arg8 arg9 arg6 X_arg0 X_arg1 X_arg7 X_arg8 X_arg9 f_arg6
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 k acc)
          (fun yld => iprop(⌜yld = R_k0_t1 acc⌝ ∗ Trip_k0_t1 (F := F) c arg0 arg1 arg7 arg8 arg9 arg6 X_arg0 X_arg1 X_arg7 X_arg8 X_arg9 (arg6.view.writes (Elt F) f_arg6 (L_arg6 acc)))) } := by
  have hk : k.val < 31 := Nat.lt_of_lt_of_le k.isLt k0_t1_abs.2.1
  refine ⟨?_, ?_, fun E acc f_arg6 => ?run⟩
  case run =>
    unfold k0_t1_body
    iintro ⟨HR_arg0, HR_arg1, HR_arg7, HR_arg8, HR_arg9, HW_arg6⟩
    sl_exec
    sl_step
    sl_close

/-- The trip's result (a plain projection of `trip_…`, for the recursion below to cite without its
   proof). -/
abbrev tripR_k0_t1 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (k : Fin k0_t1_loop.trips) (acc : FVec F S17x128 .f32 × FVec F S17x128 .f32 × FVec F S1x128 .f32 × FVec F S17x128 .f32 × IVec S1x128 32) : FVec F S17x128 .f32 × FVec F S17x128 .f32 × FVec F S1x128 .f32 × FVec F S17x128 .f32 × IVec S1x128 32 :=
  (trip_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 k).1 acc

/-- The trip's piece lists (plain projections of `trip_…`, for the recursion below to cite without
   its proof), at the carried value. -/
abbrev tripL_k0_t1 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (k : Fin k0_t1_loop.trips) (acc : FVec F S17x128 .f32 × FVec F S17x128 .f32 × FVec F S1x128 .f32 × FVec F S17x128 .f32 × IVec S1x128 32) : List (View.Piece (Elt F) S512x17x128 .i32) :=
  (trip_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 k).2.1 acc

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (init : FVec F S17x128 .f32 × FVec F S17x128 .f32 × FVec F S1x128 .f32 × FVec F S17x128 .f32 × IVec S1x128 32) (k : ℕ) (prev : (FVec F S17x128 .f32 × FVec F S17x128 .f32 × FVec F S1x128 .f32 × FVec F S17x128 .f32 × IVec S1x128 32) × List (View.Piece (Elt F) S512x17x128 .i32)) : (FVec F S17x128 .f32 × FVec F S17x128 .f32 × FVec F S1x128 .f32 × FVec F S17x128 .f32 × IVec S1x128 32) × List (View.Piece (Elt F) S512x17x128 .i32) :=
  if h : k < k0_t1_loop.trips then
    (tripR_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 ⟨k, h⟩ prev.1, (tripL_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 ⟨k, h⟩ prev.1) ++ prev.2)
  else prev

/-- The STATE before trip `k`: the carried value and, per written memref, the pieces of the trips
   before (last first), from the loop's initial value `init`. -/
def st_k0_t1 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (init : FVec F S17x128 .f32 × FVec F S17x128 .f32 × FVec F S1x128 .f32 × FVec F S17x128 .f32 × IVec S1x128 32) : ℕ → (FVec F S17x128 .f32 × FVec F S17x128 .f32 × FVec F S1x128 .f32 × FVec F S17x128 .f32 × IVec S1x128 32) × List (View.Piece (Elt F) S512x17x128 .i32)
  | 0 => (init, [])
  | k + 1 => st_k0_t1Step 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k (st_k0_t1 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k)

theorem st_k0_t1_succ (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (init : FVec F S17x128 .f32 × FVec F S17x128 .f32 × FVec F S1x128 .f32 × FVec F S17x128 .f32 × IVec S1x128 32) (k : Fin k0_t1_loop.trips) :
    st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init (k.val + 1)
      = ((tripR_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 k (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k.val).1), (tripL_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 k (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k.val).1) ++ (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k.val).2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (init : FVec F S17x128 .f32 × FVec F S17x128 .f32 × FVec F S1x128 .f32 × FVec F S17x128 .f32 × IVec S1x128 32) :
    (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init 0).1 = init := rfl

/-- THE INVARIANT before trip `k`: arg0, arg1, arg7, arg8, arg9 read at `X_·`; arg6 holding the
   pieces of the trips before `k` written over the contents at loop entry `G_·` (stated `∃ f, … ∗ ⌜f
   = …⌝`, so that a hypothesis of any contents matches and the equation is what is proved); and
   `acc` equal to the state's carried value (an equation the run substitutes after the loop). -/
abbrev inv_k0_t1 (𝒱 : Variants) (c : Dev nD) (bd : Option 𝒱.V) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (G_arg6 : BufTy.Contents (Elt F) arg6.view.ty) (init : FVec F S17x128 .f32 × FVec F S17x128 .f32 × FVec F S1x128 .f32 × FVec F S17x128 .f32 × IVec S1x128 32) (k : ℕ) (acc : FVec F S17x128 .f32 × FVec F S17x128 .f32 × FVec F S1x128 .f32 × FVec F S17x128 .f32 × IVec S1x128 32) : sProp 𝕄G :=
  iprop((arg0.view.loc (c : Thread nD τ) ↦[arg0.view.set]{fullShare} X_arg0) ∗ (arg1.view.loc (c : Thread nD τ) ↦[arg1.view.set]{fullShare} X_arg1) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg6.view.loc (c : Thread nD τ) ↦[arg6.view.set]{fullShare} f) ∗ ⌜f = arg6.view.writes (Elt F) G_arg6 (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k).2⌝) ∗ ⌜acc = (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k).1⌝)

set_option warn.classDefReducibility false in
/-- THE LOOP BY ITS INVARIANT (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (arg0 : Memref sig .tc .vmem S512x17x128 .f32) (harg0 : arg0.IsWhole) (arg1 : Memref sig .tc .vmem S512x128 .i32) (harg1 : arg1.IsWhole) (arg2 : Memref sig .tc .vmem S17x17 .f32) (harg2 : arg2.IsWhole) (arg3 : Memref sig .tc .vmem S17x17 .f32) (harg3 : arg3.IsWhole) (arg4 : Memref sig .tc .vmem S512x128 .i32) (harg4 : arg4.IsWhole) (arg5 : Memref sig .tc .vmem S1x1 .f32) (harg5 : arg5.IsWhole) (arg6 : Memref sig .tc .vmem S512x17x128 .i32) (harg6 : arg6.IsWhole) (arg7 : Memref sig .tc .vmem S17x17x128 .f32) (harg7 : arg7.IsWhole) (arg8 : Memref sig .tc .vmem S17x17x128 .f32) (harg8 : arg8.IsWhole) (arg9 : Memref sig .tc .vmem S17x17x128 .i32) (harg9 : arg9.IsWhole) (v0 : Vec F S17x17 .f32) (v276 : IVec S17x128 32) (v278 : FVec F S17x128 .f32) (v280 : IVec S1x128 32) (v282 : FVec F S1x128 .f32) (v360 : FVec F S17x128 .f32) (v365 : FVec F S17x128 .f32) (v370 : FVec F S17x128 .f32) (v371 : FVec F S17x128 .f32) (v372 : FVec F S17x128 .f32) (v373 : FVec F S17x128 .f32) (v374 : FVec F S17x128 .f32) (v375 : FVec F S17x128 .f32) (v376 : FVec F S17x128 .f32) (v377 : FVec F S17x128 .f32) (X_arg0 : BufTy.Contents (Elt F) arg0.view.ty) (X_arg1 : BufTy.Contents (Elt F) arg1.view.ty) (X_arg7 : BufTy.Contents (Elt F) arg7.view.ty) (X_arg8 : BufTy.Contents (Elt F) arg8.view.ty) (X_arg9 : BufTy.Contents (Elt F) arg9.view.ty) (G_arg6 : BufTy.Contents (Elt F) arg6.view.ty) (init : FVec F S17x128 .f32 × FVec F S17x128 .f32 × FVec F S1x128 .f32 × FVec F S17x128 .f32 × IVec S1x128 32) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 init where
  inv := inv_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 G_arg6 init
  step k acc := by
    iintro ⟨HR_arg0, HR_arg1, HR_arg7, HR_arg8, HR_arg9, ⟨%f_arg6, HW_arg6, %h_arg6⟩, %h_acc⟩
    subst h_acc
    iapply (wp_wand_r Idealize.ShloMosaic.frame (wpE (defs₀ (F := F)) 𝒱 (c : Thread nD τ) bd) E)
    isplitl [HR_arg0 HR_arg1 HR_arg7 HR_arg8 HR_arg9 HW_arg6]
    · iapply ((trip_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 k).2.2 E (st_k0_t1 (F := F) 𝒱 c bd arg0 harg0 arg1 harg1 arg2 harg2 arg3 harg3 arg4 harg4 arg5 harg5 arg6 harg6 arg7 harg7 arg8 harg8 arg9 harg9 v0 v276 v278 v280 v282 v360 v365 v370 v371 v372 v373 v374 v375 v376 v377 X_arg0 X_arg1 X_arg7 X_arg8 X_arg9 init k).1 f_arg6)
      isplitl [HR_arg0]; · iexact HR_arg0
      isplitl [HR_arg1]; · iexact HR_arg1
      isplitl [HR_arg7]; · iexact HR_arg7
      isplitl [HR_arg8]; · iexact HR_arg8
      isplitl [HR_arg9]; · iexact HR_arg9
      iexact HW_arg6
    · iintro %yld ⟨%h_res, HR_arg0, HR_arg1, HR_arg7, HR_arg8, HR_arg9, HW_arg6⟩
      isplitl [HR_arg0]; · iexact HR_arg0
      isplitl [HR_arg1]; · iexact HR_arg1
      isplitl [HR_arg7]; · iexact HR_arg7
      isplitl [HR_arg8]; · iexact HR_arg8
      isplitl [HR_arg9]; · iexact HR_arg9
      simp only [st_k0_t1_succ]
      isplitl [HW_arg6]
      · iexists _; isplitl [HW_arg6]; · iexact HW_arg6
        ipureintro; rw [h_arg6, ← View.writes_append]
      ipureintro; rw [h_res]

end Cert.KernelIdeal.Gen

end
-- ==== Proof.IdealBody.lean ====
/-
  The kernel body run once, symbolically, from the contents `f0 … f3` of its four inputs' staging buffers: it returns, the
  inputs as they were and the two results at pieces the run finds (`kernelRun`). The pieces of the path are a function of
  what the table of back pointers held before (its rows are loaded back before they are stored).
-/
module

public import proofs.«01_k».proof.Proof.IdealLoops
public import proofs.«01_k».proof.Proof.Gen.KernelIdeal.Frame

@[expose] public section

-- the body is some four thousand operations long
set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's elements held whole at contents `f` on core `c`. -/
abbrev pt (c : Dev nD) {sp : Space} {S : Shape} {e : EltTy} (M : Memref sig .tc sp S e)
    (f : BufTy.Contents (Elt F) M.view.ty) : sProp 𝕄 :=
  iprop(M.view.loc (c : Thread nD τ) ↦[M.view.set]{fullShare} f)

/-- The body's run: the pieces of the path (of what the back-pointer table `arg6` held before) and the pieces of the loss. -/
@[irreducible] def kernelRun (c : Dev nD)
    (arg0 : Memref sig .tc .vmem S512x17x128 .f32) (harg0 : arg0.IsWhole) (arg1 : Memref sig .tc .vmem S512x128 .i32) (harg1 : arg1.IsWhole)
    (arg2 : Memref sig .tc .vmem S17x17 .f32) (harg2 : arg2.IsWhole) (arg3 : Memref sig .tc .vmem S17x17 .f32) (harg3 : arg3.IsWhole)
    (arg4 : Memref sig .tc .vmem S512x128 .i32) (harg4 : arg4.IsWhole) (arg5 : Memref sig .tc .vmem S1x1 .f32) (harg5 : arg5.IsWhole)
    (arg6 : Memref sig .tc .vmem S512x17x128 .i32) (harg6 : arg6.IsWhole) (arg7 : Memref sig .tc .vmem S17x17x128 .f32) (harg7 : arg7.IsWhole)
    (arg8 : Memref sig .tc .vmem S17x17x128 .f32) (harg8 : arg8.IsWhole) (arg9 : Memref sig .tc .vmem S17x17x128 .i32) (harg9 : arg9.IsWhole)
    (f0 : BufTy.Contents (Elt F) arg0.view.ty) (f1 : BufTy.Contents (Elt F) arg1.view.ty)
    (f2 : BufTy.Contents (Elt F) arg2.view.ty) (f3 : BufTy.Contents (Elt F) arg3.view.ty)
    (f6 : BufTy.Contents (Elt F) arg6.view.ty) (f7 : BufTy.Contents (Elt F) arg7.view.ty)
    (f8 : BufTy.Contents (Elt F) arg8.view.ty) (f9 : BufTy.Contents (Elt F) arg9.view.ty) :
    Σ' (L4 : List (View.Piece (Elt F) S512x128 .i32)),
      { L5 : List (View.Piece (Elt F) S1x1 .f32) //
        ∀ (f4 : BufTy.Contents (Elt F) arg4.view.ty) (f5 : BufTy.Contents (Elt F) arg5.view.ty),
          iprop(pt c arg0 f0 ∗ pt c arg1 f1 ∗ pt c arg2 f2 ∗ pt c arg3 f3 ∗ pt c arg4 f4 ∗ pt c arg5 f5
              ∗ pt c arg6 f6 ∗ pt c arg7 f7 ∗ pt c arg8 f8 ∗ pt c arg9 f9)
            ⊢ wp frame (wpE (defs₀ (F := F)) Variants.none (c : Thread nD τ) none) Set.univ
                (cc0__crf_kernel arg0 harg0 arg1 harg1 arg2 harg2 arg3 harg3 arg4 harg4 arg5 harg5 arg6 harg6 arg7 harg7
                  arg8 harg8 arg9 harg9)
                (fun _ => iprop(pt c arg0 f0 ∗ pt c arg1 f1 ∗ pt c arg2 f2 ∗ pt c arg3 f3
                  ∗ pt c arg4 (arg4.view.writes (Elt F) f4 L4) ∗ pt c arg5 (arg5.view.writes (Elt F) arg5.view.junk L5)
                  ∗ (∃ f, pt c arg6 f) ∗ (∃ f, pt c arg7 f) ∗ (∃ f, pt c arg8 f) ∗ (∃ f, pt c arg9 f))) } := by
  refine ⟨?_, ?_, fun f4 f5 => ?run⟩
  case run =>
    sl_unfold [Cert.KernelIdeal.cc0__crf_kernel]
    iintro ⟨H0, H1, H2, H3, H4, H5, H6, H7, H8, H9⟩
    sl_exec
    sl_step
    sl_close

end Cert.KernelIdeal.Hand

end
-- ==== Proof.IdealFrame.lean ====
/-
  The launch of the kernel around its body's run (`kernelRun`): every weakly fair execution of @main terminates, the three
  argument arrays end as they were launched, and every semaphore counter is back at zero (`run_frame`). Nothing is said here
  of the two results: their windows are forgotten.
-/
module

public import proofs.«01_k».proof.Proof.IdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The operands the body is handed -/

/-- The six windows' staging memrefs at a point. -/
abbrev ms0 (t : Fin cfg0.N) : Memref sig .tc .vmem S512x17x128 .f32 := win0_0.stage (cfg0.slots t 0)
abbrev ms1 (t : Fin cfg0.N) : Memref sig .tc .vmem S512x128 .i32 := win0_1.stage (cfg0.slots t 1)
abbrev ms2 (t : Fin cfg0.N) : Memref sig .tc .vmem S17x17 .f32 := win0_2.stage (cfg0.slots t 2)
abbrev ms3 (t : Fin cfg0.N) : Memref sig .tc .vmem S17x17 .f32 := win0_3.stage (cfg0.slots t 3)
abbrev ms4 (t : Fin cfg0.N) : Memref sig .tc .vmem S512x128 .i32 := win0_4.stage (cfg0.slots t 4)
abbrev ms5 (t : Fin cfg0.N) : Memref sig .tc .vmem S1x1 .f32 := win0_5.stage (cfg0.slots t 5)
/-- The four scratch buffers, whole. -/
abbrev sc0 : Memref sig .tc .vmem S512x17x128 .i32 := Memref.whole cc0_scratch0
abbrev sc1 : Memref sig .tc .vmem S17x17x128 .f32 := Memref.whole cc0_scratch1
abbrev sc2 : Memref sig .tc .vmem S17x17x128 .f32 := Memref.whole cc0_scratch2
abbrev sc3 : Memref sig .tc .vmem S17x17x128 .i32 := Memref.whole cc0_scratch3

/-- The invariant between the point's ends: the scratch owned at some contents, the generator register at some state. -/
theorem PhiA_eq (c : Dev nD) :
    (Pipeline.ΦA spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [owns_whole]; try rfl

/-! ## The body's triple over owned windows -/

/-- The body from its inputs' staging buffers holding `d0 … d3`, the two results' and the scratch at anything: it hands the
    inputs back as they were, the rest at some contents. -/
theorem body_triple (c : Dev nD) (t : Fin cfg0.N) (d0 d1 d2 d3) :
    iprop(owns (c : Thread nD τ) (ms0 t) fullShare d0 ∗ owns (c : Thread nD τ) (ms1 t) fullShare d1
        ∗ owns (c : Thread nD τ) (ms2 t) fullShare d2 ∗ owns (c : Thread nD τ) (ms3 t) fullShare d3
        ∗ (∃ d, owns (c : Thread nD τ) (ms4 t) fullShare d) ∗ (∃ d, owns (c : Thread nD τ) (ms5 t) fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d))
      ⊢ wp frame (wpE (defs₀ (F := F)) Variants.none (c : Thread nD τ) none) Set.univ (bodyAt0 t)
          (fun _ => (iprop(owns (c : Thread nD τ) (ms0 t) fullShare d0 ∗ owns (c : Thread nD τ) (ms1 t) fullShare d1
        ∗ owns (c : Thread nD τ) (ms2 t) fullShare d2 ∗ owns (c : Thread nD τ) (ms3 t) fullShare d3
        ∗ (∃ d, owns (c : Thread nD τ) (ms4 t) fullShare d) ∗ (∃ d, owns (c : Thread nD τ) (ms5 t) fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) : sProp 𝕄)) := by
  unfold owns
  iintro ⟨⟨%f0, %h0, H0⟩, ⟨%f1, %h1, H1⟩, ⟨%f2, %h2, H2⟩, ⟨%f3, %h3, H3⟩, ⟨%d4, %f4, -, H4⟩, ⟨%d5, %f5, -, H5⟩,
    ⟨%d6, %f6, -, H6⟩, ⟨%d7, %f7, -, H7⟩, ⟨%d8, %f8, -, H8⟩, ⟨%d9, %f9, -, H9⟩⟩
  iapply (wp_mono _ _ _ (Q := fun _ => iprop(pt c (ms0 t) f0 ∗ pt c (ms1 t) f1 ∗ pt c (ms2 t) f2 ∗ pt c (ms3 t) f3
      ∗ (∃ f, pt c (ms4 t) f) ∗ (∃ f, pt c (ms5 t) f) ∗ (∃ f, pt c sc0 f) ∗ (∃ f, pt c sc1 f) ∗ (∃ f, pt c sc2 f)
      ∗ (∃ f, pt c sc3 f))) ?_)
  · intro _
    iintro ⟨H0, H1, H2, H3, ⟨%g4, H4⟩, ⟨%g5, H5⟩, ⟨%g6, H6⟩, ⟨%g7, H7⟩, ⟨%g8, H8⟩, ⟨%g9, H9⟩⟩
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists _, g4; isplitr; · ipureintro; rfl
      iexact H4
    isplitl [H5]
    · iexists _, g5; isplitr; · ipureintro; rfl
      iexact H5
    isplitl [H6]
    · iexists _, g6; isplitr; · ipureintro; rfl
      iexact H6
    isplitl [H7]
    · iexists _, g7; isplitr; · ipureintro; rfl
      iexact H7
    isplitl [H8]
    · iexists _, g8; isplitr; · ipureintro; rfl
      iexact H8
    iexists _, g9; isplitr; · ipureintro; rfl
    iexact H9
  iapply (wp_mono _ _ _ ?_)
  rotate_left
  · iapply ((kernelRun c (ms0 t) (hstage0_0 0) (ms1 t) (hstage0_1 0) (ms2 t) (hstage0_2 0) (ms3 t) (hstage0_3 0)
      (ms4 t) (hstage0_4 0) (ms5 t) (hstage0_5 0) sc0 (Memref.isWhole_whole _) sc1 (Memref.isWhole_whole _)
      sc2 (Memref.isWhole_whole _) sc3 (Memref.isWhole_whole _) f0 f1 f2 f3 f6 f7 f8 f9).2.2 f4 f5)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · intro _
    iintro ⟨H0, H1, H2, H3, H4, H5, H6⟩
    isplitl [H0]; · iexact H0
    isplitl [H1]; · iexact H1
    isplitl [H2]; · iexact H2
    isplitl [H3]; · iexact H3
    isplitl [H4]; · iexists _; iexact H4
    isplitl [H5]; · iexists _; iexact H5
    iexact H6

/-! ## The proof data and the body obligation -/

/-- The two results' windows are forgotten. -/
def forgets0 : Fin 6 → Bool := fun w => 4 ≤ w.val

/-- The proof data on core `c`: the arrays as the region finds them; an input's block is left in place; the invariant `ΦA`;
    full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | ⟨4, _⟩ => Pipeline.Dat.unnamed (cfg := cfg0) 4 t
    | ⟨5, _⟩ => Pipeline.Dat.unnamed (cfg := cfg0) 5 t
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d)
    ∗ (∃ d, owns (c : Thread nD τ) (ms5 t) fullShare d))
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ (∃ d, owns (c : Thread nD τ) (ms4 t) fullShare d)
    ∗ (∃ d, owns (c : Thread nD τ) (ms5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) rfl (fun _ => rfl), before0_1_of m (dats m 0 c) rfl (fun _ => rfl),
    before0_2_of m (dats m 0 c) rfl (fun _ => rfl), before0_3_of m (dats m 0 c) rfl (fun _ => rfl)]
  refine (?_ : _ ⊢ iprop((iprop(owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ (∃ d, owns (c : Thread nD τ) (ms4 t) fullShare d) ∗ (∃ d, owns (c : Thread nD τ) (ms5 t) fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)))
      ∗ ((∃ r, prngReg c r) ∗ (dats m 0 c).owesAt () t.castSucc))).trans
    ((sep_mono_left (body_triple c t _ _ _ _)).trans ((wp_frame_r _ _ _).trans (wp_mono _ _ _ fun _ => ?_)))
  · iintro ⟨⟨⟨S0, S1, S2, S3⟩, Hg⟩, HO, ⟨%_, H0⟩, ⟨%_, H1⟩, ⟨%_, H2⟩, ⟨%_, H3⟩, H4, H5⟩
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    isplitl [Hg]; · iexact Hg
    iexact HO
  · iintro ⟨⟨H0, H1, H2, H3, H4, H5, S0, S1, S2, S3⟩, Hg, HO⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexact H3
    isplitl [H4]; · iexact H4
    iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the two results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write: the two results. -/
def written : Finset (Ref sig .tc) := {main_v0_0, main_v0_1}

theorem hT : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, StableHlo.reshape_writes, Finset.mem_singleton] at hb
    have := Proc.devRef_injective .tc hb
    subst this; decide

set_option backward.isDefEq.respectTransparency.types false in
/-- From any memory with zero counters every weakly fair execution of @main on the TensorCores terminates, the arguments end
    as launched and the counters at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget (Q' := _) cfgs (dats m) (0 : Fin 1) launch0 defs₀ Variants.none forgets0 written m ρ main
    (hbody := fun c => (body_obligation m c).loose) (hshare := fun c => (dats m 0 c).share_full fun _ => rfl)
    (howed := fun _ _ => rfl) (V₀ := V0 m) [hostOps1] sfx_sub sfx_fresh sfx_keeps hT (hmain m Variants.none)
    (hA := A_eq m) (hΦ := fun _ _ => rfl)
    (hQ' := fun r h => ⟨fun c =>
      ⟨((h.1 c).2 main_arg0 (by decide)).trans (V_main_arg0 m c),
       ((h.1 c).2 main_arg1 (by decide)).trans (V_main_arg1 m c),
       ((((dats m 0 c).toRForget_arrAt_iff (w := 2) (by decide) _ _).mp ((h.1 c).1 2)).trans
          (((dats m 0 c).arrAt_in 2 rfl _).trans (V_main_arg2 m c)))⟩, h.2⟩)

end Cert.KernelIdeal.Hand

end
-- ==== Proof.RefOps.lean ====
/- The reference program's host operations, stretch by stretch: each run of operations of its main function and of its
   three loops' bodies, and each call, as one list; that each touches TensorCore references only; and that main and the
   bodies are the chains of these stretches. -/
module

public import proofs.«01_k».proof.Proof.Gen.ReferenceIdeal
public import Idealize.ShloMosaic.Lib.StableHlo.RunLoop

@[expose] public section

set_option maxRecDepth 20000
set_option maxHeartbeats 4000000

noncomputable section

namespace Cert.ReferenceIdeal.Hand

open Idealize.ShloMosaic Idealize.ShloMosaic.TcCoe
open Idealize.SL.Sem
open Cert.ReferenceIdeal Cert.ReferenceIdeal.Gen

variable {F : FTy → Type} [FloatOps F]

/-- The type of a program of this module. -/
abbrev PT (F : FTy → Type) [FloatOps F] := Prog (TpuEff nD τ sig (Elt F) (HostLoop.Sig (Pipeline.Sig Λ₀ (Fin 0) fun p => (pcfgs (F := F) p).Adm) 3) .tc) PUnit

/-- Stretch 0 of main_part0. -/
abbrev p0_0 : List (HloOp τ sig (Elt F)) :=
  [ StableHlo.unary main_arg0 main_v0 ((extractStridedSlice S128x1x17 ![0, 0, 0] · slices_S128x512x17_S128x1x17_0_0_0) : (⟨S128x512x17, .f32⟩ : BufTy).Contents (Elt F) → (⟨S128x1x17, .f32⟩ : BufTy).Contents (Elt F)),
    StableHlo.reshape main_v0 main_v1 (rfl : (.f32 : EltTy) = .f32) shapeCasts_S128x1x17_S128x17,
    StableHlo.unary main_arg0 main_v2 ((extractStridedSlice S128x511x17 ![0, 1, 0] · slices_S128x512x17_S128x511x17_0_1_0) : (⟨S128x512x17, .f32⟩ : BufTy).Contents (Elt F) → (⟨S128x511x17, .f32⟩ : BufTy).Contents (Elt F)),
    StableHlo.unary main_v2 main_v3 ((transpose S511x128x17 [1, 0, 2] · transposes_S128x511x17_S511x128x17_1_0_2) : (⟨S128x511x17, .f32⟩ : BufTy).Contents (Elt F) → (⟨S511x128x17, .f32⟩ : BufTy).Contents (Elt F)),
    StableHlo.nullary main_c (constantI S_ 32 0#32),
    StableHlo.unary main_c main_v4 (broadcastInDim S511x128x17 ![] bcast_S_S511x128x17 : (⟨S_, .i32⟩ : BufTy).Contents (Elt F) → (⟨S511x128x17, .i32⟩ : BufTy).Contents (Elt F)),
    StableHlo.nullary main_c_0 (constantI S_ 32 0#32),
    StableHlo.unary main_v3 main_v5_0 id,
    StableHlo.unary main_arg2 main_v5_1 id,
    StableHlo.unary main_c_0 main_v5_2 id,
    StableHlo.unary main_v1 main_v5_3 id,
    StableHlo.unary main_v4 main_v5_4 id ]
theorem p0_0_sub : (p0_0 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- What p0_0 writes. -/
abbrev p0_0_W : List (Ref sig .tc) :=
  [main_v0, main_v1, main_v2, main_v3, main_c, main_v4, main_c_0, main_v5_0, main_v5_1, main_v5_2, main_v5_3, main_v5_4]
theorem p0_0_writes : (p0_0 : List (HloOp τ sig (Elt F))).map HloOp.writes = p0_0_W.map fun w => {Proc.devRef (τ := τ) .tc w} := rfl
/-- Stretch 2 of main_part0: a call. -/
abbrev p0_2 : List (HloOp τ sig (Elt F)) :=
  [ StableHlo.TRef.nullary (.of main_call3_v0 : StableHlo.TRef sig ⟨S128x17, .i32⟩) (iotaInDim S128x17 32 1),
    StableHlo.TRef.nullary (.of main_call3_cst : StableHlo.TRef sig ⟨S_, .f32⟩) (constant S_ .f32 0xFF800000#32),
    StableHlo.TRef.nullary (.of main_call3_c : StableHlo.TRef sig ⟨S_, .i32⟩) (constantI S_ 32 0#32),
    StableHlo.TRef.quaternary (.of main_v5_3 : StableHlo.TRef sig ⟨S128x17, .f32⟩) (.of main_call3_v0 : StableHlo.TRef sig ⟨S128x17, .i32⟩) (.of main_call3_cst : StableHlo.TRef sig ⟨S_, .f32⟩) (.of main_call3_c : StableHlo.TRef sig ⟨S_, .i32⟩) (.of main_call3_v1_0 : StableHlo.TRef sig ⟨S128, .f32⟩) (fun x y u v j => (Host.argReduce reducer_argmax_f32_i32 x y u v reducesTo_S128x17_S128_d1 h_S_ j).1),
    StableHlo.TRef.quaternary (.of main_v5_3 : StableHlo.TRef sig ⟨S128x17, .f32⟩) (.of main_call3_v0 : StableHlo.TRef sig ⟨S128x17, .i32⟩) (.of main_call3_cst : StableHlo.TRef sig ⟨S_, .f32⟩) (.of main_call3_c : StableHlo.TRef sig ⟨S_, .i32⟩) (.of main_v6 : StableHlo.TRef sig ⟨S128, .i32⟩) (fun x y u v j => (Host.argReduce reducer_argmax_f32_i32 x y u v reducesTo_S128x17_S128_d1 h_S_ j).2) ]
theorem p0_2_sub : (p0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- What p0_2 writes. -/
abbrev p0_2_W : List (Ref sig .tc) :=
  [main_call3_v0, main_call3_cst, main_call3_c, main_call3_v1_0, main_v6]
theorem p0_2_writes : (p0_2 : List (HloOp τ sig (Elt F))).map HloOp.writes = p0_2_W.map fun w => {Proc.devRef (τ := τ) .tc w} := rfl
theorem p0_2_call : (fn_argmax_0.body (F := F) (.of main_v5_3) main_call3 : PT F) = StableHlo.seq p0_2 := by
  chain_rfl
/-- Stretch 3 of main_part0. -/
abbrev p0_3 : List (HloOp τ sig (Elt F)) :=
  [ StableHlo.unary main_v5_4 main_v7 (Host.reverse [0] : (⟨S511x128x17, .i32⟩ : BufTy).Contents (Elt F) → (⟨S511x128x17, .i32⟩ : BufTy).Contents (Elt F)),
    StableHlo.nullary main_c_1 (constantI S_ 32 0#32),
    StableHlo.unary main_c_1 main_v8 (broadcastInDim S511x128 ![] bcast_S_S511x128 : (⟨S_, .i32⟩ : BufTy).Contents (Elt F) → (⟨S511x128, .i32⟩ : BufTy).Contents (Elt F)),
    StableHlo.nullary main_c_2 (constantI S_ 32 0#32),
    StableHlo.unary main_v7 main_v9_0 id,
    StableHlo.unary main_c_2 main_v9_1 id,
    StableHlo.unary main_v6 main_v9_2 id,
    StableHlo.unary main_v8 main_v9_3 id ]
theorem p0_3_sub : (p0_3 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- What p0_3 writes. -/
abbrev p0_3_W : List (Ref sig .tc) :=
  [main_v7, main_c_1, main_v8, main_c_2, main_v9_0, main_v9_1, main_v9_2, main_v9_3]
theorem p0_3_writes : (p0_3 : List (HloOp τ sig (Elt F))).map HloOp.writes = p0_3_W.map fun w => {Proc.devRef (τ := τ) .tc w} := rfl
/-- Stretch 5 of main_part0. -/
abbrev p0_5 : List (HloOp τ sig (Elt F)) :=
  [ StableHlo.unary main_v9_2 main_v10 (broadcastInDim S1x128 ![1] bcast_S128_S1x128_1 : (⟨S128, .i32⟩ : BufTy).Contents (Elt F) → (⟨S1x128, .i32⟩ : BufTy).Contents (Elt F)),
    StableHlo.unary main_v9_3 main_v11 (Host.reverse [0] : (⟨S511x128, .i32⟩ : BufTy).Contents (Elt F) → (⟨S511x128, .i32⟩ : BufTy).Contents (Elt F)),
    StableHlo.binary main_v10 main_v11 main_v12 ((fun a b => concatenate S512x128 0 [⟨S1x128, a⟩, ⟨S511x128, b⟩] concatenates_S1x128_S511x128_S512x128_d0) : (⟨S1x128, .i32⟩ : BufTy).Contents (Elt F) → (⟨S511x128, .i32⟩ : BufTy).Contents (Elt F) → (⟨S512x128, .i32⟩ : BufTy).Contents (Elt F)),
    StableHlo.unary main_v12 main_v13 ((transpose S128x512 [1, 0] · transposes_S512x128_S128x512_1_0) : (⟨S512x128, .i32⟩ : BufTy).Contents (Elt F) → (⟨S128x512, .i32⟩ : BufTy).Contents (Elt F)),
    StableHlo.nullary main_c_3 (constantI S_ 32 0#32),
    StableHlo.unary main_c_3 main_v14 (broadcastInDim S128x512 ![] bcast_S_S128x512 : (⟨S_, .i32⟩ : BufTy).Contents (Elt F) → (⟨S128x512, .i32⟩ : BufTy).Contents (Elt F)),
    StableHlo.binary main_arg1 main_v14 main_v15 (cmpi .sge : (⟨S128x512, .i32⟩ : BufTy).Contents (Elt F) → (⟨S128x512, .i32⟩ : BufTy).Contents (Elt F) → (⟨S128x512, .i1⟩ : BufTy).Contents (Elt F)),
    StableHlo.unary main_v15 main_v16 (uitofp .f32 : (⟨S128x512, .i1⟩ : BufTy).Contents (Elt F) → (⟨S128x512, .f32⟩ : BufTy).Contents (Elt F)),
    StableHlo.nullary main_c_4 (constantI S_ 32 0#32),
    StableHlo.unary main_c_4 main_v17 (broadcastInDim S128x512 ![] bcast_S_S128x512 : (⟨S_, .i32⟩ : BufTy).Contents (Elt F) → (⟨S128x512, .i32⟩ : BufTy).Contents (Elt F)),
    StableHlo.binary main_arg1 main_v17 main_v18 (cmpi .sge : (⟨S128x512, .i32⟩ : BufTy).Contents (Elt F) → (⟨S128x512, .i32⟩ : BufTy).Contents (Elt F) → (⟨S128x512, .i1⟩ : BufTy).Contents (Elt F)),
    StableHlo.unary main_v18 main_v19 (uitofp .f32 : (⟨S128x512, .i1⟩ : BufTy).Contents (Elt F) → (⟨S128x512, .f32⟩ : BufTy).Contents (Elt F)),
    StableHlo.unary main_arg0 main_v20 ((extractStridedSlice S128x1x17 ![0, 0, 0] · slices_S128x512x17_S128x1x17_0_0_0) : (⟨S128x512x17, .f32⟩ : BufTy).Contents (Elt F) → (⟨S128x1x17, .f32⟩ : BufTy).Contents (Elt F)),
    StableHlo.reshape main_v20 main_v21 (rfl : (.f32 : EltTy) = .f32) shapeCasts_S128x1x17_S128x17,
    StableHlo.unary main_v21 main_v22 (broadcastInDim S128x1x17 ![0, 2] bcast_S128x17_S128x1x17_0_2 : (⟨S128x17, .f32⟩ : BufTy).Contents (Elt F) → (⟨S128x1x17, .f32⟩ : BufTy).Contents (Elt F)),
    StableHlo.unary main_arg2 main_v23 ((transpose S17x17 [1, 0] · transposes_S17x17_S17x17_1_0) : (⟨S17x17, .f32⟩ : BufTy).Contents (Elt F) → (⟨S17x17, .f32⟩ : BufTy).Contents (Elt F)),
    StableHlo.unary main_v23 main_v24 (broadcastInDim S1x17x17 ![1, 2] bcast_S17x17_S1x17x17_1_2 : (⟨S17x17, .f32⟩ : BufTy).Contents (Elt F) → (⟨S1x17x17, .f32⟩ : BufTy).Contents (Elt F)),
    StableHlo.unary main_v22 main_v25 (broadcastInDim S128x17x17 ![0, 1, 2] bcast_S128x1x17_S128x17x17_0_1_2 : (⟨S128x1x17, .f32⟩ : BufTy).Contents (Elt F) → (⟨S128x17x17, .f32⟩ : BufTy).Contents (Elt F)),
    StableHlo.unary main_v24 main_v26 (broadcastInDim S128x17x17 ![0, 1, 2] bcast_S1x17x17_S128x17x17_0_1_2 : (⟨S1x17x17, .f32⟩ : BufTy).Contents (Elt F) → (⟨S128x17x17, .f32⟩ : BufTy).Contents (Elt F)),
    StableHlo.binary main_v25 main_v26 main_v27 (addf : (⟨S128x17x17, .f32⟩ : BufTy).Contents (Elt F) → (⟨S128x17x17, .f32⟩ : BufTy).Contents (Elt F) → (⟨S128x17x17, .f32⟩ : BufTy).Contents (Elt F)),
    StableHlo.nullary main_cst (constant S_ .f32 0xFF800000#32),
    StableHlo.binary main_v27 main_cst main_v28 ((fun x v => Host.reduce FloatOps.maximumf x v reducesTo_S128x17x17_S128x17_d2 h_S_) : (⟨S128x17x17, .f32⟩ : BufTy).Contents (Elt F) → (⟨S_, .f32⟩ : BufTy).Contents (Elt F) → (⟨S128x17, .f32⟩ : BufTy).Contents (Elt F)),
    StableHlo.unary main_v28 main_v29 (broadcastInDim S128x17x1 ![0, 1] bcast_S128x17_S128x17x1_0_1 : (⟨S128x17, .f32⟩ : BufTy).Contents (Elt F) → (⟨S128x17x1, .f32⟩ : BufTy).Contents (Elt F)),
    StableHlo.unary main_v29 main_v30 (broadcastInDim S128x17x17 ![0, 1, 2] bcast_S128x17x1_S128x17x17_0_1_2 : (⟨S128x17x1, .f32⟩ : BufTy).Contents (Elt F) → (⟨S128x17x17, .f32⟩ : BufTy).Contents (Elt F)),
    StableHlo.binary main_v27 main_v30 main_v31 (subf : (⟨S128x17x17, .f32⟩ : BufTy).Contents (Elt F) → (⟨S128x17x17, .f32⟩ : BufTy).Contents (Elt F) → (⟨S128x17x17, .f32⟩ : BufTy).Contents (Elt F)),
    StableHlo.unary main_v31 main_v32 (Host.exp : (⟨S128x17x17, .f32⟩ : BufTy).Contents (Elt F) → (⟨S128x17x17, .f32⟩ : BufTy).Contents (Elt F)),
    StableHlo.nullary main_cst_5 (constant S_ .f32 0x00000000#32),
    StableHlo.binary main_v32 main_cst_5 main_v33 ((fun x v => Host.reduceAdd x v reducesTo_S128x17x17_S128x17_d2 h_S_) : (⟨S128x17x17, .f32⟩ : BufTy).Contents (Elt F) → (⟨S_, .f32⟩ : BufTy).Contents (Elt F) → (⟨S128x17, .f32⟩ : BufTy).Contents (Elt F)),
    StableHlo.unary main_v33 main_v34 (Host.log : (⟨S128x17, .f32⟩ : BufTy).Contents (Elt F) → (⟨S128x17, .f32⟩ : BufTy).Contents (Elt F)),
    StableHlo.binary main_v34 main_v28 main_v35 (addf : (⟨S128x17, .f32⟩ : BufTy).Contents (Elt F) → (⟨S128x17, .f32⟩ : BufTy).Contents (Elt F) → (⟨S128x17, .f32⟩ : BufTy).Contents (Elt F)),
    StableHlo.unary main_arg0 main_v36 ((extractStridedSlice S128x510x17 ![0, 1, 0] · slices_S128x512x17_S128x510x17_0_1_0) : (⟨S128x512x17, .f32⟩ : BufTy).Contents (Elt F) → (⟨S128x510x17, .f32⟩ : BufTy).Contents (Elt F)),
    StableHlo.unary main_v36 main_v37 ((transpose S510x128x17 [1, 0, 2] · transposes_S128x510x17_S510x128x17_1_0_2) : (⟨S128x510x17, .f32⟩ : BufTy).Contents (Elt F) → (⟨S510x128x17, .f32⟩ : BufTy).Contents (Elt F)),
    StableHlo.unary main_v19 main_v38 ((extractStridedSlice S128x510 ![0, 1] · slices_S128x512_S128x510_0_1) : (⟨S128x512, .f32⟩ : BufTy).Contents (Elt F) → (⟨S128x510, .f32⟩ : BufTy).Contents (Elt F)),
    StableHlo.unary main_v38 main_v39 ((transpose S510x128 [1, 0] · transposes_S128x510_S510x128_1_0) : (⟨S128x510, .f32⟩ : BufTy).Contents (Elt F) → (⟨S510x128, .f32⟩ : BufTy).Contents (Elt F)),
    StableHlo.nullary main_c_6 (constantI S_ 32 0#32),
    StableHlo.unary main_v37 main_v40_0 id,
    StableHlo.unary main_v39 main_v40_1 id ]
theorem p0_5_sub : (p0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.unary_bufs_sub ..⟩
/-- What p0_5 writes. -/
abbrev p0_5_W : List (Ref sig .tc) :=
  [main_v10, main_v11, main_v12, main_v13, main_c_3, main_v14, main_v15, main_v16, main_c_4, main_v17, main_v18, main_v19, main_v20, main_v21, main_v22, main_v23, main_v24, main_v25, main_v26, main_v27, main_cst, main_v28, main_v29, main_v30, main_v31, main_v32, main_cst_5, main_v33, main_v34, main_v35, main_v36, main_v37, main_v38, main_v39, main_c_6, main_v40_0, main_v40_1]
theorem p0_5_writes : (p0_5 : List (HloOp τ sig (Elt F))).map HloOp.writes = p0_5_W.map fun w => {Proc.devRef (τ := τ) .tc w} := rfl

theorem main_part0_items (c : Dev nD) : main_part0 (F := F) c = (Pipeline.chainK
  [ StableHlo.seq p0_0,
    HostLoop.enter 0,
    fn_argmax_0.body (F := F) (.of main_v5_3) main_call3,
    StableHlo.seq p0_3,
    HostLoop.enter 1 ]
    (StableHlo.seq p0_5) : PT F) := by
  rewrite [StableHlo.chainK_seq_cons, Pipeline.chainK_cons, Pipeline.chainK_cons, StableHlo.chainK_seq_cons, Pipeline.chainK_cons]
  chain_rfl
theorem main_part0_chain (c : Dev nD) : main_part0 (F := F) c = (Pipeline.chainK
  [ StableHlo.seq p0_0,
    HostLoop.enter 0,
    StableHlo.seq p0_2,
    StableHlo.seq p0_3,
    HostLoop.enter 1 ]
    (StableHlo.seq p0_5) : PT F) := by
  rewrite [main_part0_items, p0_2_call]; rfl

/-- Stretch 0 of main_part1. -/
abbrev p1_0 : List (HloOp τ sig (Elt F)) :=
  [ StableHlo.unary main_arg2 main_v40_2 id,
    StableHlo.unary main_c_6 main_v40_3 id,
    StableHlo.unary main_v27 main_v40_4 id,
    StableHlo.unary main_v35 main_v40_5 id ]
theorem p1_0_sub : (p1_0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- What p1_0 writes. -/
abbrev p1_0_W : List (Ref sig .tc) :=
  [main_v40_2, main_v40_3, main_v40_4, main_v40_5]
theorem p1_0_writes : (p1_0 : List (HloOp τ sig (Elt F))).map HloOp.writes = p1_0_W.map fun w => {Proc.devRef (τ := τ) .tc w} := rfl
/-- Stretch 2 of main_part1. -/
abbrev p1_2 : List (HloOp τ sig (Elt F)) :=
  [ StableHlo.unary main_arg0 main_v41 ((extractStridedSlice S128x1x17 ![0, 511, 0] · slices_S128x512x17_S128x1x17_0_511_0) : (⟨S128x512x17, .f32⟩ : BufTy).Contents (Elt F) → (⟨S128x1x17, .f32⟩ : BufTy).Contents (Elt F)),
    StableHlo.reshape main_v41 main_v42 (rfl : (.f32 : EltTy) = .f32) shapeCasts_S128x1x17_S128x17,
    StableHlo.binary main_v42 main_v40_5 main_v43 (addf : (⟨S128x17, .f32⟩ : BufTy).Contents (Elt F) → (⟨S128x17, .f32⟩ : BufTy).Contents (Elt F) → (⟨S128x17, .f32⟩ : BufTy).Contents (Elt F)),
    StableHlo.nullary main_cst_7 (constant S_ .f32 0xFF800000#32),
    StableHlo.binary main_v43 main_cst_7 main_v44 ((fun x v => Host.reduce FloatOps.maximumf x v reducesTo_S128x17_S128_d1 h_S_) : (⟨S128x17, .f32⟩ : BufTy).Contents (Elt F) → (⟨S_, .f32⟩ : BufTy).Contents (Elt F) → (⟨S128, .f32⟩ : BufTy).Contents (Elt F)),
    StableHlo.unary main_v44 main_v45 (broadcastInDim S128x1 ![0] bcast_S128_S128x1_0 : (⟨S128, .f32⟩ : BufTy).Contents (Elt F) → (⟨S128x1, .f32⟩ : BufTy).Contents (Elt F)),
    StableHlo.unary main_v45 main_v46 (broadcastInDim S128x17 ![0, 1] bcast_S128x1_S128x17_0_1 : (⟨S128x1, .f32⟩ : BufTy).Contents (Elt F) → (⟨S128x17, .f32⟩ : BufTy).Contents (Elt F)),
    StableHlo.binary main_v43 main_v46 main_v47 (subf : (⟨S128x17, .f32⟩ : BufTy).Contents (Elt F) → (⟨S128x17, .f32⟩ : BufTy).Contents (Elt F) → (⟨S128x17, .f32⟩ : BufTy).Contents (Elt F)),
    StableHlo.unary main_v47 main_v48 (Host.exp : (⟨S128x17, .f32⟩ : BufTy).Contents (Elt F) → (⟨S128x17, .f32⟩ : BufTy).Contents (Elt F)),
    StableHlo.nullary main_cst_8 (constant S_ .f32 0x00000000#32),
    StableHlo.binary main_v48 main_cst_8 main_v49 ((fun x v => Host.reduceAdd x v reducesTo_S128x17_S128_d1 h_S_) : (⟨S128x17, .f32⟩ : BufTy).Contents (Elt F) → (⟨S_, .f32⟩ : BufTy).Contents (Elt F) → (⟨S128, .f32⟩ : BufTy).Contents (Elt F)),
    StableHlo.unary main_v49 main_v50 (Host.log : (⟨S128, .f32⟩ : BufTy).Contents (Elt F) → (⟨S128, .f32⟩ : BufTy).Contents (Elt F)),
    StableHlo.binary main_v50 main_v44 main_v51 (addf : (⟨S128, .f32⟩ : BufTy).Contents (Elt F) → (⟨S128, .f32⟩ : BufTy).Contents (Elt F) → (⟨S128, .f32⟩ : BufTy).Contents (Elt F)),
    StableHlo.unary main_arg1 main_v52 (broadcastInDim S128x512x1 ![0, 1] bcast_S128x512_S128x512x1_0_1 : (⟨S128x512, .i32⟩ : BufTy).Contents (Elt F) → (⟨S128x512x1, .i32⟩ : BufTy).Contents (Elt F)) ]
theorem p1_2_sub : (p1_2 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub ..⟩
/-- What p1_2 writes. -/
abbrev p1_2_W : List (Ref sig .tc) :=
  [main_v41, main_v42, main_v43, main_cst_7, main_v44, main_v45, main_v46, main_v47, main_v48, main_cst_8, main_v49, main_v50, main_v51, main_v52]
theorem p1_2_writes : (p1_2 : List (HloOp τ sig (Elt F))).map HloOp.writes = p1_2_W.map fun w => {Proc.devRef (τ := τ) .tc w} := rfl
/-- Stretch 3 of main_part1: a call. -/
abbrev p1_3 : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S128x512x1, .i32⟩) (broadcastInDim S128x512x1 ![] bcast_S_S128x512x1),
    StableHlo.TRef.binary (.of main_v52 : StableHlo.TRef sig ⟨S128x512x1, .i32⟩) (.of main_call9_v0 : StableHlo.TRef sig ⟨S128x512x1, .i32⟩) (.of main_call9_v1 : StableHlo.TRef sig ⟨S128x512x1, .i1⟩) (cmpi .slt),
    StableHlo.TRef.nullary (.of main_call9_c_0 : StableHlo.TRef sig ⟨S_, .i32⟩) (constantI S_ 32 17#32),
    StableHlo.TRef.unary (.of main_call9_c_0 : StableHlo.TRef sig ⟨S_, .i32⟩) (.of main_call9_v2 : StableHlo.TRef sig ⟨S128x512x1, .i32⟩) (broadcastInDim S128x512x1 ![] bcast_S_S128x512x1),
    StableHlo.TRef.binary (.of main_v52 : StableHlo.TRef sig ⟨S128x512x1, .i32⟩) (.of main_call9_v2 : StableHlo.TRef sig ⟨S128x512x1, .i32⟩) (.of main_call9_v3 : StableHlo.TRef sig ⟨S128x512x1, .i32⟩) addi,
    StableHlo.TRef.ternary (.of main_call9_v1 : StableHlo.TRef sig ⟨S128x512x1, .i1⟩) (.of main_call9_v3 : StableHlo.TRef sig ⟨S128x512x1, .i32⟩) (.of main_v52 : StableHlo.TRef sig ⟨S128x512x1, .i32⟩) (.of main_call9_v4 : StableHlo.TRef sig ⟨S128x512x1, .i32⟩) select,
    StableHlo.TRef.reshape (.of main_call9_v4 : StableHlo.TRef sig ⟨S128x512x1, .i32⟩) (.of main_call9_v5 : StableHlo.TRef sig ⟨S128x512x1x1, .i32⟩) (rfl : (.i32 : EltTy) = .i32) shapeCasts_S128x512x1_S128x512x1x1,
    StableHlo.TRef.nullary (.of main_call9_c_1 : StableHlo.TRef sig ⟨S1, .i32⟩) (constantI S1 32 16#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S128x512x1x1, .i32⟩) (broadcastInDim S128x512x1x1 ![] bcast_S_S128x512x1x1),
    StableHlo.TRef.binary (.of main_call9_v5 : StableHlo.TRef sig ⟨S128x512x1x1, .i32⟩) (.of main_call9_v6 : StableHlo.TRef sig ⟨S128x512x1x1, .i32⟩) (.of main_call9_v7 : StableHlo.TRef sig ⟨S128x512x1x1, .i1⟩) (cmpi .sge),
    StableHlo.TRef.unary (.of main_call9_c_1 : StableHlo.TRef sig ⟨S1, .i32⟩) (.of main_call9_v8 : StableHlo.TRef sig ⟨S1x1x1x1, .i32⟩) (broadcastInDim S1x1x1x1 ![3] bcast_S1_S1x1x1x1_3),
    StableHlo.TRef.unary (.of main_call9_v8 : StableHlo.TRef sig ⟨S1x1x1x1, .i32⟩) (.of main_call9_v9 : StableHlo.TRef sig ⟨S128x512x1x1, .i32⟩) (broadcastInDim S128x512x1x1 ![0, 1, 2, 3] bcast_S1x1x1x1_S128x512x1x1_0_1_2_3),
    StableHlo.TRef.binary (.of main_call9_v5 : StableHlo.TRef sig ⟨S128x512x1x1, .i32⟩) (.of main_call9_v9 : StableHlo.TRef sig ⟨S128x512x1x1, .i32⟩) (.of main_call9_v10 : StableHlo.TRef sig ⟨S128x512x1x1, .i1⟩) (cmpi .sle),
    StableHlo.TRef.binary (.of main_call9_v7 : StableHlo.TRef sig ⟨S128x512x1x1, .i1⟩) (.of main_call9_v10 : StableHlo.TRef sig ⟨S128x512x1x1, .i1⟩) (.of main_call9_v11 : StableHlo.TRef sig ⟨S128x512x1x1, .i1⟩) andi,
    StableHlo.TRef.nullary (.of main_call9_c_3 : StableHlo.TRef sig ⟨S_, .i1⟩) (constantI S_ 1 1#1),
    StableHlo.TRef.binary (.of main_call9_v11 : StableHlo.TRef sig ⟨S128x512x1x1, .i1⟩) (.of main_call9_c_3 : StableHlo.TRef sig ⟨S_, .i1⟩) (.of main_call9_v12 : StableHlo.TRef sig ⟨S128x512x1, .i1⟩) (fun x v => Host.reduce IntOp.andi x v reducesTo_S128x512x1x1_S128x512x1_d3 h_S_),
    StableHlo.TRef.binary (.of main_arg0 : StableHlo.TRef sig ⟨S128x512x17, .f32⟩) (.of main_call9_v5 : StableHlo.TRef sig ⟨S128x512x1x1, .i32⟩) (.of main_call9_v13 : StableHlo.TRef sig ⟨S128x512x1, .f32⟩) (fun x i => Host.gather gather_S128x512x17_S128x512x1x1_S128x512x1_n_2_01_01_2_3_111 x i),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v14 : StableHlo.TRef sig ⟨S128x512x1, .f32⟩) (broadcastInDim S128x512x1 ![] bcast_S_S128x512x1),
    StableHlo.TRef.ternary (.of main_call9_v12 : StableHlo.TRef sig ⟨S128x512x1, .i1⟩) (.of main_call9_v13 : StableHlo.TRef sig ⟨S128x512x1, .f32⟩) (.of main_call9_v14 : StableHlo.TRef sig ⟨S128x512x1, .f32⟩) (.of main_v53 : StableHlo.TRef sig ⟨S128x512x1, .f32⟩) select ]
theorem p1_3_sub : (p1_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- What p1_3 writes. -/
abbrev p1_3_W : List (Ref sig .tc) :=
  [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v53]
theorem p1_3_writes : (p1_3 : List (HloOp τ sig (Elt F))).map HloOp.writes = p1_3_W.map fun w => {Proc.devRef (τ := τ) .tc w} := rfl
theorem p1_3_call : (fn_take_along_axis_5.body (F := F) (.of main_arg0) (.of main_v52) main_call9 : PT F) = StableHlo.seq p1_3 := by
  chain_rfl
/-- Stretch 4 of main_part1. -/
abbrev p1_4 : List (HloOp τ sig (Elt F)) :=
  [ StableHlo.reshape main_v53 main_v54 (rfl : (.f32 : EltTy) = .f32) shapeCasts_S128x512x1_S128x512,
    StableHlo.binary main_v16 main_v54 main_v55 (mulf : (⟨S128x512, .f32⟩ : BufTy).Contents (Elt F) → (⟨S128x512, .f32⟩ : BufTy).Contents (Elt F) → (⟨S128x512, .f32⟩ : BufTy).Contents (Elt F)),
    StableHlo.nullary main_cst_9 (constant S_ .f32 0x00000000#32),
    StableHlo.binary main_v55 main_cst_9 main_v56 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_arg1 main_v57 ((extractStridedSlice S128x511 ![0, 1] · slices_S128x512_S128x511_0_1) : (⟨S128x512, .i32⟩ : BufTy).Contents (Elt F) → (⟨S128x511, .i32⟩ : BufTy).Contents (Elt F)),
    StableHlo.unary main_arg1 main_v58 ((extractStridedSlice S128x511 ![0, 0] · slices_S128x512_S128x511_0_0) : (⟨S128x512, .i32⟩ : BufTy).Contents (Elt F) → (⟨S128x511, .i32⟩ : BufTy).Contents (Elt F)),
    StableHlo.nullary main_c_10 (constantI S_ 32 0#32),
    StableHlo.unary main_c_10 main_v59 (broadcastInDim S128x511 ![] bcast_S_S128x511 : (⟨S_, .i32⟩ : BufTy).Contents (Elt F) → (⟨S128x511, .i32⟩ : BufTy).Contents (Elt F)),
    StableHlo.binary main_v57 main_v59 main_v60 (cmpi .slt : (⟨S128x511, .i32⟩ : BufTy).Contents (Elt F) → (⟨S128x511, .i32⟩ : BufTy).Contents (Elt F) → (⟨S128x511, .i1⟩ : BufTy).Contents (Elt F)),
    StableHlo.nullary main_c_11 (constantI S_ 32 17#32),
    StableHlo.unary main_c_11 main_v61 (broadcastInDim S128x511 ![] bcast_S_S128x511 : (⟨S_, .i32⟩ : BufTy).Contents (Elt F) → (⟨S128x511, .i32⟩ : BufTy).Contents (Elt F)),
    StableHlo.binary main_v57 main_v61 main_v62 (addi : (⟨S128x511, .i32⟩ : BufTy).Contents (Elt F) → (⟨S128x511, .i32⟩ : BufTy).Contents (Elt F) → (⟨S128x511, .i32⟩ : BufTy).Contents (Elt F)),
    StableHlo.ternary main_v60 main_v62 main_v57 main_v63 (select : (⟨S128x511, .i1⟩ : BufTy).Contents (Elt F) → (⟨S128x511, .i32⟩ : BufTy).Contents (Elt F) → (⟨S128x511, .i32⟩ : BufTy).Contents (Elt F) → (⟨S128x511, .i32⟩ : BufTy).Contents (Elt F)),
    StableHlo.nullary main_c_12 (constantI S_ 32 0#32),
    StableHlo.unary main_c_12 main_v64 (broadcastInDim S128x511 ![] bcast_S_S128x511 : (⟨S_, .i32⟩ : BufTy).Contents (Elt F) → (⟨S128x511, .i32⟩ : BufTy).Contents (Elt F)),
    StableHlo.binary main_v58 main_v64 main_v65 (cmpi .slt : (⟨S128x511, .i32⟩ : BufTy).Contents (Elt F) → (⟨S128x511, .i32⟩ : BufTy).Contents (Elt F) → (⟨S128x511, .i1⟩ : BufTy).Contents (Elt F)),
    StableHlo.nullary main_c_13 (constantI S_ 32 17#32),
    StableHlo.unary main_c_13 main_v66 (broadcastInDim S128x511 ![] bcast_S_S128x511 : (⟨S_, .i32⟩ : BufTy).Contents (Elt F) → (⟨S128x511, .i32⟩ : BufTy).Contents (Elt F)),
    StableHlo.binary main_v58 main_v66 main_v67 (addi : (⟨S128x511, .i32⟩ : BufTy).Contents (Elt F) → (⟨S128x511, .i32⟩ : BufTy).Contents (Elt F) → (⟨S128x511, .i32⟩ : BufTy).Contents (Elt F)),
    StableHlo.ternary main_v65 main_v67 main_v58 main_v68 (select : (⟨S128x511, .i1⟩ : BufTy).Contents (Elt F) → (⟨S128x511, .i32⟩ : BufTy).Contents (Elt F) → (⟨S128x511, .i32⟩ : BufTy).Contents (Elt F) → (⟨S128x511, .i32⟩ : BufTy).Contents (Elt F)),
    StableHlo.unary main_v63 main_v69 (broadcastInDim S128x511x1 ![0, 1] bcast_S128x511_S128x511x1_0_1 : (⟨S128x511, .i32⟩ : BufTy).Contents (Elt F) → (⟨S128x511x1, .i32⟩ : BufTy).Contents (Elt F)),
    StableHlo.unary main_v68 main_v70 (broadcastInDim S128x511x1 ![0, 1] bcast_S128x511_S128x511x1_0_1 : (⟨S128x511, .i32⟩ : BufTy).Contents (Elt F) → (⟨S128x511x1, .i32⟩ : BufTy).Contents (Elt F)),
    StableHlo.binary main_v69 main_v70 main_v71 ((fun a b => concatenate S128x511x2 2 [⟨S128x511x1, a⟩, ⟨S128x511x1, b⟩] concatenates_S128x511x1_S128x511x1_S128x511x2_d2) : (⟨S128x511x1, .i32⟩ : BufTy).Contents (Elt F) → (⟨S128x511x1, .i32⟩ : BufTy).Contents (Elt F) → (⟨S128x511x2, .i32⟩ : BufTy).Contents (Elt F)),
    StableHlo.binary main_arg2 main_v71 main_v72 ((fun x i => Host.gather gather_S17x17_S128x511x2_S128x511_n_01_n_n_01_2_11 x i) : (⟨S17x17, .f32⟩ : BufTy).Contents (Elt F) → (⟨S128x511x2, .i32⟩ : BufTy).Contents (Elt F) → (⟨S128x511, .f32⟩ : BufTy).Contents (Elt F)),
    StableHlo.unary main_v16 main_v73 ((extractStridedSlice S128x511 ![0, 1] · slices_S128x512_S128x511_0_1) : (⟨S128x512, .f32⟩ : BufTy).Contents (Elt F) → (⟨S128x511, .f32⟩ : BufTy).Contents (Elt F)),
    StableHlo.binary main_v73 main_v72 main_v74 (mulf : (⟨S128x511, .f32⟩ : BufTy).Contents (Elt F) → (⟨S128x511, .f32⟩ : BufTy).Contents (Elt F) → (⟨S128x511, .f32⟩ : BufTy).Contents (Elt F)),
    StableHlo.nullary main_cst_14 (constant S_ .f32 0x00000000#32),
    StableHlo.binary main_v74 main_cst_14 main_v75 ((fun x v => Host.reduceAdd x v reducesTo_S128x511_S128_d1 h_S_) : (⟨S128x511, .f32⟩ : BufTy).Contents (Elt F) → (⟨S_, .f32⟩ : BufTy).Contents (Elt F) → (⟨S128, .f32⟩ : BufTy).Contents (Elt F)),
    StableHlo.binary main_v56 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.negf : (⟨S128, .f32⟩ : BufTy).Contents (Elt F) → (⟨S128, .f32⟩ : BufTy).Contents (Elt F)),
    StableHlo.binary main_v77 main_v51 main_v78 (addf : (⟨S128, .f32⟩ : BufTy).Contents (Elt F) → (⟨S128, .f32⟩ : BufTy).Contents (Elt F) → (⟨S128, .f32⟩ : BufTy).Contents (Elt F)),
    StableHlo.nullary main_cst_15 (constant S_ .f32 0x00000000#32),
    StableHlo.binary main_v78 main_cst_15 main_v79 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_16 (constant S_ .f32 0x43000000#32),
    StableHlo.binary main_v79 main_cst_16 main_v80 (Host.divf : (⟨S_, .f32⟩ : BufTy).Contents (Elt F) → (⟨S_, .f32⟩ : BufTy).Contents (Elt F) → (⟨S_, .f32⟩ : BufTy).Contents (Elt F)) ]
theorem p1_4_sub : (p1_4 : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub ..⟩
/-- What p1_4 writes. -/
abbrev p1_4_W : List (Ref sig .tc) :=
  [main_v54, main_v55, main_cst_9, main_v56, main_v57, main_v58, main_c_10, main_v59, main_v60, main_c_11, main_v61, main_v62, main_v63, main_c_12, main_v64, main_v65, main_c_13, main_v66, main_v67, main_v68, main_v69, main_v70, main_v71, main_v72, main_v73, main_v74, main_cst_14, main_v75, main_v76, main_v77, main_v78, main_cst_15, main_v79, main_cst_16, main_v80]
theorem p1_4_writes : (p1_4 : List (HloOp τ sig (Elt F))).map HloOp.writes = p1_4_W.map fun w => {Proc.devRef (τ := τ) .tc w} := rfl

theorem main_part1_items (c : Dev nD) : main_part1 (F := F) c = (Pipeline.chain
  [ StableHlo.seq p1_0,
    HostLoop.enter 2,
    StableHlo.seq p1_2,
    fn_take_along_axis_5.body (F := F) (.of main_arg0) (.of main_v52) main_call9,
    StableHlo.seq p1_4 ] : PT F) := by
  rewrite [StableHlo.chain_seq_cons, Pipeline.chain_cons, StableHlo.chain_seq_cons, Pipeline.chain_cons, StableHlo.chain_seq_cons]
  chain_rfl
theorem main_part1_chain (c : Dev nD) : main_part1 (F := F) c = (Pipeline.chain
  [ StableHlo.seq p1_0,
    HostLoop.enter 2,
    StableHlo.seq p1_2,
    StableHlo.seq p1_3,
    StableHlo.seq p1_4 ] : PT F) := by
  rewrite [main_part1_items, p1_3_call]; rfl

/-- Stretch 0 of main_while0_body: a call. -/
abbrev w0_0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v5_0 : StableHlo.TRef sig ⟨S511x128x17, .f32⟩) ![(.of main_v5_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x128x17, .f32⟩) (fun x i => Host.dynamicSlice S1x128x17 x (fun k => (i k (Shape.Idx.first h_S_)).toInt) sliceFits_S511x128x17_S1x128x17),
    StableHlo.TRef.reshape (.of main_while0b_call0_v0 : StableHlo.TRef sig ⟨S1x128x17, .f32⟩) (.of main_while0b_v81 : StableHlo.TRef sig ⟨S128x17, .f32⟩) (rfl : (.f32 : EltTy) = .f32) shapeCasts_S1x128x17_S128x17 ]
theorem w0_0_sub : (w0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- What w0_0 writes. -/
abbrev w0_0_W : List (Ref sig .tc) :=
  [main_while0b_call0_c, main_while0b_call0_c_0, main_while0b_call0_v0, main_while0b_v81]
theorem w0_0_writes : (w0_0 : List (HloOp τ sig (Elt F))).map HloOp.writes = w0_0_W.map fun w => {Proc.devRef (τ := τ) .tc w} := rfl
theorem w0_0_call : (fn_dynamic_index_in_dim.body (F := F) (.of main_v5_0) (.of main_v5_2) main_while0b_call0 : PT F) = StableHlo.seq w0_0 := by
  chain_rfl
/-- Stretch 1 of main_while0_body. -/
abbrev w0_1 : List (HloOp τ sig (Elt F)) :=
  [ StableHlo.unary main_v5_3 main_while0b_v82 (broadcastInDim S128x17x1 ![0, 1] bcast_S128x17_S128x17x1_0_1 : (⟨S128x17, .f32⟩ : BufTy).Contents (Elt F) → (⟨S128x17x1, .f32⟩ : BufTy).Contents (Elt F)),
    StableHlo.unary main_v5_1 main_while0b_v83 (broadcastInDim S1x17x17 ![1, 2] bcast_S17x17_S1x17x17_1_2 : (⟨S17x17, .f32⟩ : BufTy).Contents (Elt F) → (⟨S1x17x17, .f32⟩ : BufTy).Contents (Elt F)),
    StableHlo.unary main_while0b_v82 main_while0b_v84 (broadcastInDim S128x17x17 ![0, 1, 2] bcast_S128x17x1_S128x17x17_0_1_2 : (⟨S128x17x1, .f32⟩ : BufTy).Contents (Elt F) → (⟨S128x17x17, .f32⟩ : BufTy).Contents (Elt F)),
    StableHlo.unary main_while0b_v83 main_while0b_v85 (broadcastInDim S128x17x17 ![0, 1, 2] bcast_S1x17x17_S128x17x17_0_1_2 : (⟨S1x17x17, .f32⟩ : BufTy).Contents (Elt F) → (⟨S128x17x17, .f32⟩ : BufTy).Contents (Elt F)),
    StableHlo.binary main_while0b_v84 main_while0b_v85 main_while0b_v86 (addf : (⟨S128x17x17, .f32⟩ : BufTy).Contents (Elt F) → (⟨S128x17x17, .f32⟩ : BufTy).Contents (Elt F) → (⟨S128x17x17, .f32⟩ : BufTy).Contents (Elt F)),
    StableHlo.unary main_while0b_v81 main_while0b_v87 (broadcastInDim S128x1x17 ![0, 2] bcast_S128x17_S128x1x17_0_2 : (⟨S128x17, .f32⟩ : BufTy).Contents (Elt F) → (⟨S128x1x17, .f32⟩ : BufTy).Contents (Elt F)),
    StableHlo.unary main_while0b_v87 main_while0b_v88 (broadcastInDim S128x17x17 ![0, 1, 2] bcast_S128x1x17_S128x17x17_0_1_2 : (⟨S128x1x17, .f32⟩ : BufTy).Contents (Elt F) → (⟨S128x17x17, .f32⟩ : BufTy).Contents (Elt F)),
    StableHlo.binary main_while0b_v86 main_while0b_v88 main_while0b_v89 (addf : (⟨S128x17x17, .f32⟩ : BufTy).Contents (Elt F) → (⟨S128x17x17, .f32⟩ : BufTy).Contents (Elt F) → (⟨S128x17x17, .f32⟩ : BufTy).Contents (Elt F)),
    StableHlo.nullary main_while0b_cst_21 (constant S_ .f32 0xFF800000#32),
    StableHlo.binary main_while0b_v89 main_while0b_cst_21 main_while0b_v90 ((fun x v => Host.reduce FloatOps.maximumf x v reducesTo_S128x17x17_S128x17_d1 h_S_) : (⟨S128x17x17, .f32⟩ : BufTy).Contents (Elt F) → (⟨S_, .f32⟩ : BufTy).Contents (Elt F) → (⟨S128x17, .f32⟩ : BufTy).Contents (Elt F)) ]
theorem w0_1_sub : (w0_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub ..⟩
/-- What w0_1 writes. -/
abbrev w0_1_W : List (Ref sig .tc) :=
  [main_while0b_v82, main_while0b_v83, main_while0b_v84, main_while0b_v85, main_while0b_v86, main_while0b_v87, main_while0b_v88, main_while0b_v89, main_while0b_cst_21, main_while0b_v90]
theorem w0_1_writes : (w0_1 : List (HloOp τ sig (Elt F))).map HloOp.writes = w0_1_W.map fun w => {Proc.devRef (τ := τ) .tc w} := rfl
/-- Stretch 2 of main_while0_body: a call. -/
abbrev w0_2 : List (HloOp τ sig (Elt F)) :=
  [ StableHlo.TRef.nullary (.of main_while0b_call1_v0 : StableHlo.TRef sig ⟨S128x17x17, .i32⟩) (iotaInDim S128x17x17 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v89 : StableHlo.TRef sig ⟨S128x17x17, .f32⟩) (.of main_while0b_call1_v0 : StableHlo.TRef sig ⟨S128x17x17, .i32⟩) (.of main_while0b_call1_cst : StableHlo.TRef sig ⟨S_, .f32⟩) (.of main_while0b_call1_c : StableHlo.TRef sig ⟨S_, .i32⟩) (.of main_while0b_call1_v1_0 : StableHlo.TRef sig ⟨S128x17, .f32⟩) (fun x y u v j => (Host.argReduce reducer_argmax_f32_i32 x y u v reducesTo_S128x17x17_S128x17_d1 h_S_ j).1),
    StableHlo.TRef.quaternary (.of main_while0b_v89 : StableHlo.TRef sig ⟨S128x17x17, .f32⟩) (.of main_while0b_call1_v0 : StableHlo.TRef sig ⟨S128x17x17, .i32⟩) (.of main_while0b_call1_cst : StableHlo.TRef sig ⟨S_, .f32⟩) (.of main_while0b_call1_c : StableHlo.TRef sig ⟨S_, .i32⟩) (.of main_while0b_v91 : StableHlo.TRef sig ⟨S128x17, .i32⟩) (fun x y u v j => (Host.argReduce reducer_argmax_f32_i32 x y u v reducesTo_S128x17x17_S128x17_d1 h_S_ j).2) ]
theorem w0_2_sub : (w0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- What w0_2 writes. -/
abbrev w0_2_W : List (Ref sig .tc) :=
  [main_while0b_call1_v0, main_while0b_call1_cst, main_while0b_call1_c, main_while0b_call1_v1_0, main_while0b_v91]
theorem w0_2_writes : (w0_2 : List (HloOp τ sig (Elt F))).map HloOp.writes = w0_2_W.map fun w => {Proc.devRef (τ := τ) .tc w} := rfl
theorem w0_2_call : (fn_argmax.body (F := F) (.of main_while0b_v89) main_while0b_call1 : PT F) = StableHlo.seq w0_2 := by
  chain_rfl
/-- Stretch 3 of main_while0_body: a call. -/
abbrev w0_3 : List (HloOp τ sig (Elt F)) :=
  [ StableHlo.TRef.unary (.of main_while0b_v91 : StableHlo.TRef sig ⟨S128x17, .i32⟩) (.of main_while0b_call2_v0 : StableHlo.TRef sig ⟨S1x128x17, .i32⟩) (broadcastInDim S1x128x17 ![1, 2] bcast_S128x17_S1x128x17_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v5_4 : StableHlo.TRef sig ⟨S511x128x17, .i32⟩) (.of main_while0b_call2_v0 : StableHlo.TRef sig ⟨S1x128x17, .i32⟩) ![(.of main_v5_2 : StableHlo.TRef sig ⟨S_, .i32⟩), (.of main_while0b_call2_c : StableHlo.TRef sig ⟨S_, .i32⟩), (.of main_while0b_call2_c_0 : StableHlo.TRef sig ⟨S_, .i32⟩)] (.of main_while0b_v92 : StableHlo.TRef sig ⟨S511x128x17, .i32⟩) (fun x u i => Host.dynamicUpdateSlice x u (fun k => (i k (Shape.Idx.first h_S_)).toInt) updateFits_S511x128x17_S1x128x17) ]
theorem w0_3_sub : (w0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- What w0_3 writes. -/
abbrev w0_3_W : List (Ref sig .tc) :=
  [main_while0b_call2_v0, main_while0b_call2_c, main_while0b_call2_c_0, main_while0b_v92]
theorem w0_3_writes : (w0_3 : List (HloOp τ sig (Elt F))).map HloOp.writes = w0_3_W.map fun w => {Proc.devRef (τ := τ) .tc w} := rfl
theorem w0_3_call : (fn_dynamic_update_index_in_dim.body (F := F) (.of main_v5_4) (.of main_while0b_v91) (.of main_v5_2) main_while0b_call2 : PT F) = StableHlo.seq w0_3 := by
  chain_rfl
/-- Stretch 4 of main_while0_body. -/
abbrev w0_4 : List (HloOp τ sig (Elt F)) :=
  [ StableHlo.nullary main_while0b_c_22 (constantI S_ 32 1#32),
    StableHlo.binary main_v5_2 main_while0b_c_22 main_while0b_v93 (addi : (⟨S_, .i32⟩ : BufTy).Contents (Elt F) → (⟨S_, .i32⟩ : BufTy).Contents (Elt F) → (⟨S_, .i32⟩ : BufTy).Contents (Elt F)),
    StableHlo.unary main_while0b_v93 main_v5_2 id,
    StableHlo.unary main_while0b_v90 main_v5_3 id,
    StableHlo.unary main_while0b_v92 main_v5_4 id ]
theorem w0_4_sub : (w0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- What w0_4 writes. -/
abbrev w0_4_W : List (Ref sig .tc) :=
  [main_while0b_c_22, main_while0b_v93, main_v5_2, main_v5_3, main_v5_4]
theorem w0_4_writes : (w0_4 : List (HloOp τ sig (Elt F))).map HloOp.writes = w0_4_W.map fun w => {Proc.devRef (τ := τ) .tc w} := rfl

theorem main_while0_body_items : main_while0_body (F := F) = (Pipeline.chain
  [ fn_dynamic_index_in_dim.body (F := F) (.of main_v5_0) (.of main_v5_2) main_while0b_call0,
    StableHlo.seq w0_1,
    fn_argmax.body (F := F) (.of main_while0b_v89) main_while0b_call1,
    fn_dynamic_update_index_in_dim.body (F := F) (.of main_v5_4) (.of main_while0b_v91) (.of main_v5_2) main_while0b_call2,
    StableHlo.seq w0_4 ] : PT F) := by
  rewrite [Pipeline.chain_cons, StableHlo.chain_seq_cons, Pipeline.chain_cons, Pipeline.chain_cons, StableHlo.chain_seq_cons]
  chain_rfl
theorem main_while0_body_chain : main_while0_body (F := F) = (Pipeline.chain
  [ StableHlo.seq w0_0,
    StableHlo.seq w0_1,
    StableHlo.seq w0_2,
    StableHlo.seq w0_3,
    StableHlo.seq w0_4 ] : PT F) := by
  rewrite [main_while0_body_items, w0_0_call, w0_2_call, w0_3_call]; rfl

/-- Stretch 0 of main_while1_body: a call. -/
abbrev w1_0 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.unaryIndexed (.of main_v9_0 : StableHlo.TRef sig ⟨S511x128x17, .i32⟩) ![(.of main_v9_1 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x128x17, .i32⟩) (fun x i => Host.dynamicSlice S1x128x17 x (fun k => (i k (Shape.Idx.first h_S_)).toInt) sliceFits_S511x128x17_S1x128x17),
    StableHlo.TRef.reshape (.of main_while1b_call4_v0 : StableHlo.TRef sig ⟨S1x128x17, .i32⟩) (.of main_while1b_v81 : StableHlo.TRef sig ⟨S128x17, .i32⟩) (rfl : (.i32 : EltTy) = .i32) shapeCasts_S1x128x17_S128x17 ]
theorem w1_0_sub : (w1_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- What w1_0 writes. -/
abbrev w1_0_W : List (Ref sig .tc) :=
  [main_while1b_call4_c, main_while1b_call4_c_0, main_while1b_call4_v0, main_while1b_v81]
theorem w1_0_writes : (w1_0 : List (HloOp τ sig (Elt F))).map HloOp.writes = w1_0_W.map fun w => {Proc.devRef (τ := τ) .tc w} := rfl
theorem w1_0_call : (fn_dynamic_index_in_dim_1.body (F := F) (.of main_v9_0) (.of main_v9_1) main_while1b_call4 : PT F) = StableHlo.seq w1_0 := by
  chain_rfl
/-- Stretch 1 of main_while1_body. -/
abbrev w1_1 : List (HloOp τ sig (Elt F)) :=
  [ StableHlo.unary main_v9_2 main_while1b_v82 (broadcastInDim S128x1 ![0] bcast_S128_S128x1_0 : (⟨S128, .i32⟩ : BufTy).Contents (Elt F) → (⟨S128x1, .i32⟩ : BufTy).Contents (Elt F)) ]
theorem w1_1_sub : (w1_1 : List (HloOp τ sig (Elt F))).Forall fun op => op.bufs ⊆ StableHlo.tcRefs τ sig :=
  by simp only [List.Forall]; exact StableHlo.unary_bufs_sub ..
/-- What w1_1 writes. -/
abbrev w1_1_W : List (Ref sig .tc) :=
  [main_while1b_v82]
theorem w1_1_writes : (w1_1 : List (HloOp τ sig (Elt F))).map HloOp.writes = w1_1_W.map fun w => {Proc.devRef (τ := τ) .tc w} := rfl
/-- Stretch 2 of main_while1_body: a call. -/
abbrev w1_2 : List (HloOp τ sig (Elt F)) :=
  [ StableHlo.TRef.nullary (.of main_while1b_call5_c : StableHlo.TRef sig ⟨S_, .i32⟩) (constantI S_ 32 0#32),
    StableHlo.TRef.unary (.of main_while1b_call5_c : StableHlo.TRef sig ⟨S_, .i32⟩) (.of main_while1b_call5_v0 : StableHlo.TRef sig ⟨S128x1, .i32⟩) (broadcastInDim S128x1 ![] bcast_S_S128x1),
    StableHlo.TRef.binary (.of main_while1b_v82 : StableHlo.TRef sig ⟨S128x1, .i32⟩) (.of main_while1b_call5_v0 : StableHlo.TRef sig ⟨S128x1, .i32⟩) (.of main_while1b_call5_v1 : StableHlo.TRef sig ⟨S128x1, .i1⟩) (cmpi .slt),
    StableHlo.TRef.nullary (.of main_while1b_call5_c_0 : StableHlo.TRef sig ⟨S_, .i32⟩) (constantI S_ 32 17#32),
    StableHlo.TRef.unary (.of main_while1b_call5_c_0 : StableHlo.TRef sig ⟨S_, .i32⟩) (.of main_while1b_call5_v2 : StableHlo.TRef sig ⟨S128x1, .i32⟩) (broadcastInDim S128x1 ![] bcast_S_S128x1),
    StableHlo.TRef.binary (.of main_while1b_v82 : StableHlo.TRef sig ⟨S128x1, .i32⟩) (.of main_while1b_call5_v2 : StableHlo.TRef sig ⟨S128x1, .i32⟩) (.of main_while1b_call5_v3 : StableHlo.TRef sig ⟨S128x1, .i32⟩) addi,
    StableHlo.TRef.ternary (.of main_while1b_call5_v1 : StableHlo.TRef sig ⟨S128x1, .i1⟩) (.of main_while1b_call5_v3 : StableHlo.TRef sig ⟨S128x1, .i32⟩) (.of main_while1b_v82 : StableHlo.TRef sig ⟨S128x1, .i32⟩) (.of main_while1b_call5_v4 : StableHlo.TRef sig ⟨S128x1, .i32⟩) select,
    StableHlo.TRef.reshape (.of main_while1b_call5_v4 : StableHlo.TRef sig ⟨S128x1, .i32⟩) (.of main_while1b_call5_v5 : StableHlo.TRef sig ⟨S128x1x1, .i32⟩) (rfl : (.i32 : EltTy) = .i32) shapeCasts_S128x1_S128x1x1,
    StableHlo.TRef.nullary (.of main_while1b_call5_c_1 : StableHlo.TRef sig ⟨S1, .i32⟩) (constantI S1 32 16#32),
    StableHlo.TRef.nullary (.of main_while1b_call5_c_2 : StableHlo.TRef sig ⟨S_, .i32⟩) (constantI S_ 32 0#32),
    StableHlo.TRef.unary (.of main_while1b_call5_c_2 : StableHlo.TRef sig ⟨S_, .i32⟩) (.of main_while1b_call5_v6 : StableHlo.TRef sig ⟨S128x1x1, .i32⟩) (broadcastInDim S128x1x1 ![] bcast_S_S128x1x1),
    StableHlo.TRef.binary (.of main_while1b_call5_v5 : StableHlo.TRef sig ⟨S128x1x1, .i32⟩) (.of main_while1b_call5_v6 : StableHlo.TRef sig ⟨S128x1x1, .i32⟩) (.of main_while1b_call5_v7 : StableHlo.TRef sig ⟨S128x1x1, .i1⟩) (cmpi .sge),
    StableHlo.TRef.unary (.of main_while1b_call5_c_1 : StableHlo.TRef sig ⟨S1, .i32⟩) (.of main_while1b_call5_v8 : StableHlo.TRef sig ⟨S1x1x1, .i32⟩) (broadcastInDim S1x1x1 ![2] bcast_S1_S1x1x1_2),
    StableHlo.TRef.unary (.of main_while1b_call5_v8 : StableHlo.TRef sig ⟨S1x1x1, .i32⟩) (.of main_while1b_call5_v9 : StableHlo.TRef sig ⟨S128x1x1, .i32⟩) (broadcastInDim S128x1x1 ![0, 1, 2] bcast_S1x1x1_S128x1x1_0_1_2),
    StableHlo.TRef.binary (.of main_while1b_call5_v5 : StableHlo.TRef sig ⟨S128x1x1, .i32⟩) (.of main_while1b_call5_v9 : StableHlo.TRef sig ⟨S128x1x1, .i32⟩) (.of main_while1b_call5_v10 : StableHlo.TRef sig ⟨S128x1x1, .i1⟩) (cmpi .sle),
    StableHlo.TRef.binary (.of main_while1b_call5_v7 : StableHlo.TRef sig ⟨S128x1x1, .i1⟩) (.of main_while1b_call5_v10 : StableHlo.TRef sig ⟨S128x1x1, .i1⟩) (.of main_while1b_call5_v11 : StableHlo.TRef sig ⟨S128x1x1, .i1⟩) andi,
    StableHlo.TRef.nullary (.of main_while1b_call5_c_3 : StableHlo.TRef sig ⟨S_, .i1⟩) (constantI S_ 1 1#1),
    StableHlo.TRef.binary (.of main_while1b_call5_v11 : StableHlo.TRef sig ⟨S128x1x1, .i1⟩) (.of main_while1b_call5_c_3 : StableHlo.TRef sig ⟨S_, .i1⟩) (.of main_while1b_call5_v12 : StableHlo.TRef sig ⟨S128x1, .i1⟩) (fun x v => Host.reduce IntOp.andi x v reducesTo_S128x1x1_S128x1_d2 h_S_),
    StableHlo.TRef.binary (.of main_while1b_v81 : StableHlo.TRef sig ⟨S128x17, .i32⟩) (.of main_while1b_call5_v5 : StableHlo.TRef sig ⟨S128x1x1, .i32⟩) (.of main_while1b_call5_v13 : StableHlo.TRef sig ⟨S128x1, .i32⟩) (fun x i => Host.gather gather_S128x17_S128x1x1_S128x1_n_1_0_0_1_2_11 x i),
    StableHlo.TRef.nullary (.of main_while1b_call5_c_4 : StableHlo.TRef sig ⟨S_, .i32⟩) (constantI S_ 32 2147483648#32),
    StableHlo.TRef.unary (.of main_while1b_call5_c_4 : StableHlo.TRef sig ⟨S_, .i32⟩) (.of main_while1b_call5_v14 : StableHlo.TRef sig ⟨S128x1, .i32⟩) (broadcastInDim S128x1 ![] bcast_S_S128x1),
    StableHlo.TRef.ternary (.of main_while1b_call5_v12 : StableHlo.TRef sig ⟨S128x1, .i1⟩) (.of main_while1b_call5_v13 : StableHlo.TRef sig ⟨S128x1, .i32⟩) (.of main_while1b_call5_v14 : StableHlo.TRef sig ⟨S128x1, .i32⟩) (.of main_while1b_v83 : StableHlo.TRef sig ⟨S128x1, .i32⟩) select ]
theorem w1_2_sub : (w1_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- What w1_2 writes. -/
abbrev w1_2_W : List (Ref sig .tc) :=
  [main_while1b_call5_c, main_while1b_call5_v0, main_while1b_call5_v1, main_while1b_call5_c_0, main_while1b_call5_v2, main_while1b_call5_v3, main_while1b_call5_v4, main_while1b_call5_v5, main_while1b_call5_c_1, main_while1b_call5_c_2, main_while1b_call5_v6, main_while1b_call5_v7, main_while1b_call5_v8, main_while1b_call5_v9, main_while1b_call5_v10, main_while1b_call5_v11, main_while1b_call5_c_3, main_while1b_call5_v12, main_while1b_call5_v13, main_while1b_call5_c_4, main_while1b_call5_v14, main_while1b_v83]
theorem w1_2_writes : (w1_2 : List (HloOp τ sig (Elt F))).map HloOp.writes = w1_2_W.map fun w => {Proc.devRef (τ := τ) .tc w} := rfl
theorem w1_2_call : (fn_take_along_axis.body (F := F) (.of main_while1b_v81) (.of main_while1b_v82) main_while1b_call5 : PT F) = StableHlo.seq w1_2 := by
  chain_rfl
/-- Stretch 3 of main_while1_body. -/
abbrev w1_3 : List (HloOp τ sig (Elt F)) :=
  [ StableHlo.reshape main_while1b_v83 main_while1b_v84 (rfl : (.i32 : EltTy) = .i32) shapeCasts_S128x1_S128 ]
theorem w1_3_sub : (w1_3 : List (HloOp τ sig (Elt F))).Forall fun op => op.bufs ⊆ StableHlo.tcRefs τ sig :=
  by simp only [List.Forall]; exact StableHlo.reshape_bufs_sub ..
/-- What w1_3 writes. -/
abbrev w1_3_W : List (Ref sig .tc) :=
  [main_while1b_v84]
theorem w1_3_writes : (w1_3 : List (HloOp τ sig (Elt F))).map HloOp.writes = w1_3_W.map fun w => {Proc.devRef (τ := τ) .tc w} := rfl
/-- Stretch 4 of main_while1_body: a call. -/
abbrev w1_4 : List (HloOp τ sig (Elt F)) :=
  [ StableHlo.TRef.unary (.of main_v9_2 : StableHlo.TRef sig ⟨S128, .i32⟩) (.of main_while1b_call6_v0 : StableHlo.TRef sig ⟨S1x128, .i32⟩) (broadcastInDim S1x128 ![1] bcast_S128_S1x128_1),
    StableHlo.TRef.nullary (.of main_while1b_call6_c : StableHlo.TRef sig ⟨S_, .i32⟩) (constantI S_ 32 0#32),
    StableHlo.TRef.binaryIndexed (.of main_v9_3 : StableHlo.TRef sig ⟨S511x128, .i32⟩) (.of main_while1b_call6_v0 : StableHlo.TRef sig ⟨S1x128, .i32⟩) ![(.of main_v9_1 : StableHlo.TRef sig ⟨S_, .i32⟩), (.of main_while1b_call6_c : StableHlo.TRef sig ⟨S_, .i32⟩)] (.of main_while1b_v85 : StableHlo.TRef sig ⟨S511x128, .i32⟩) (fun x u i => Host.dynamicUpdateSlice x u (fun k => (i k (Shape.Idx.first h_S_)).toInt) updateFits_S511x128_S1x128) ]
theorem w1_4_sub : (w1_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- What w1_4 writes. -/
abbrev w1_4_W : List (Ref sig .tc) :=
  [main_while1b_call6_v0, main_while1b_call6_c, main_while1b_v85]
theorem w1_4_writes : (w1_4 : List (HloOp τ sig (Elt F))).map HloOp.writes = w1_4_W.map fun w => {Proc.devRef (τ := τ) .tc w} := rfl
theorem w1_4_call : (fn_dynamic_update_index_in_dim_2.body (F := F) (.of main_v9_3) (.of main_v9_2) (.of main_v9_1) main_while1b_call6 : PT F) = StableHlo.seq w1_4 := by
  chain_rfl
/-- Stretch 5 of main_while1_body. -/
abbrev w1_5 : List (HloOp τ sig (Elt F)) :=
  [ StableHlo.nullary main_while1b_c_20 (constantI S_ 32 1#32),
    StableHlo.binary main_v9_1 main_while1b_c_20 main_while1b_v86 (addi : (⟨S_, .i32⟩ : BufTy).Contents (Elt F) → (⟨S_, .i32⟩ : BufTy).Contents (Elt F) → (⟨S_, .i32⟩ : BufTy).Contents (Elt F)),
    StableHlo.unary main_while1b_v86 main_v9_1 id,
    StableHlo.unary main_while1b_v84 main_v9_2 id,
    StableHlo.unary main_while1b_v85 main_v9_3 id ]
theorem w1_5_sub : (w1_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- What w1_5 writes. -/
abbrev w1_5_W : List (Ref sig .tc) :=
  [main_while1b_c_20, main_while1b_v86, main_v9_1, main_v9_2, main_v9_3]
theorem w1_5_writes : (w1_5 : List (HloOp τ sig (Elt F))).map HloOp.writes = w1_5_W.map fun w => {Proc.devRef (τ := τ) .tc w} := rfl

theorem main_while1_body_items : main_while1_body (F := F) = (Pipeline.chain
  [ fn_dynamic_index_in_dim_1.body (F := F) (.of main_v9_0) (.of main_v9_1) main_while1b_call4,
    StableHlo.seq w1_1,
    fn_take_along_axis.body (F := F) (.of main_while1b_v81) (.of main_while1b_v82) main_while1b_call5,
    StableHlo.seq w1_3,
    fn_dynamic_update_index_in_dim_2.body (F := F) (.of main_v9_3) (.of main_v9_2) (.of main_v9_1) main_while1b_call6,
    StableHlo.seq w1_5 ] : PT F) := by
  rewrite [Pipeline.chain_cons, StableHlo.chain_seq_cons, Pipeline.chain_cons, StableHlo.chain_seq_cons, Pipeline.chain_cons, StableHlo.chain_seq_cons]
  chain_rfl
theorem main_while1_body_chain : main_while1_body (F := F) = (Pipeline.chain
  [ StableHlo.seq w1_0,
    StableHlo.seq w1_1,
    StableHlo.seq w1_2,
    StableHlo.seq w1_3,
    StableHlo.seq w1_4,
    StableHlo.seq w1_5 ] : PT F) := by
  rewrite [main_while1_body_items, w1_0_call, w1_2_call, w1_4_call]; rfl

/-- Stretch 0 of main_while2_body: a call. -/
abbrev w2_0 : List (HloOp τ sig (Elt F)) :=
  [ StableHlo.TRef.nullary (.of main_while2b_call7_c : StableHlo.TRef sig ⟨S_, .i32⟩) (constantI S_ 32 0#32),
    StableHlo.TRef.nullary (.of main_while2b_call7_c_0 : StableHlo.TRef sig ⟨S_, .i32⟩) (constantI S_ 32 0#32),
    StableHlo.TRef.unaryIndexed (.of main_v40_0 : StableHlo.TRef sig ⟨S510x128x17, .f32⟩) ![(.of main_v40_3 : StableHlo.TRef sig ⟨S_, .i32⟩), (.of main_while2b_call7_c : StableHlo.TRef sig ⟨S_, .i32⟩), (.of main_while2b_call7_c_0 : StableHlo.TRef sig ⟨S_, .i32⟩)] (.of main_while2b_call7_v0 : StableHlo.TRef sig ⟨S1x128x17, .f32⟩) (fun x i => Host.dynamicSlice S1x128x17 x (fun k => (i k (Shape.Idx.first h_S_)).toInt) sliceFits_S510x128x17_S1x128x17),
    StableHlo.TRef.reshape (.of main_while2b_call7_v0 : StableHlo.TRef sig ⟨S1x128x17, .f32⟩) (.of main_while2b_v81 : StableHlo.TRef sig ⟨S128x17, .f32⟩) (rfl : (.f32 : EltTy) = .f32) shapeCasts_S1x128x17_S128x17 ]
theorem w2_0_sub : (w2_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- What w2_0 writes. -/
abbrev w2_0_W : List (Ref sig .tc) :=
  [main_while2b_call7_c, main_while2b_call7_c_0, main_while2b_call7_v0, main_while2b_v81]
theorem w2_0_writes : (w2_0 : List (HloOp τ sig (Elt F))).map HloOp.writes = w2_0_W.map fun w => {Proc.devRef (τ := τ) .tc w} := rfl
theorem w2_0_call : (fn_dynamic_index_in_dim_3.body (F := F) (.of main_v40_0) (.of main_v40_3) main_while2b_call7 : PT F) = StableHlo.seq w2_0 := by
  chain_rfl
/-- Stretch 1 of main_while2_body: a call. -/
abbrev w2_1 : List (HloOp τ sig (Elt F)) :=
  [ StableHlo.TRef.nullary (.of main_while2b_call8_c : StableHlo.TRef sig ⟨S_, .i32⟩) (constantI S_ 32 0#32),
    StableHlo.TRef.unaryIndexed (.of main_v40_1 : StableHlo.TRef sig ⟨S510x128, .f32⟩) ![(.of main_v40_3 : StableHlo.TRef sig ⟨S_, .i32⟩), (.of main_while2b_call8_c : StableHlo.TRef sig ⟨S_, .i32⟩)] (.of main_while2b_call8_v0 : StableHlo.TRef sig ⟨S1x128, .f32⟩) (fun x i => Host.dynamicSlice S1x128 x (fun k => (i k (Shape.Idx.first h_S_)).toInt) sliceFits_S510x128_S1x128),
    StableHlo.TRef.reshape (.of main_while2b_call8_v0 : StableHlo.TRef sig ⟨S1x128, .f32⟩) (.of main_while2b_v82 : StableHlo.TRef sig ⟨S128, .f32⟩) (rfl : (.f32 : EltTy) = .f32) shapeCasts_S1x128_S128 ]
theorem w2_1_sub : (w2_1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- What w2_1 writes. -/
abbrev w2_1_W : List (Ref sig .tc) :=
  [main_while2b_call8_c, main_while2b_call8_v0, main_while2b_v82]
theorem w2_1_writes : (w2_1 : List (HloOp τ sig (Elt F))).map HloOp.writes = w2_1_W.map fun w => {Proc.devRef (τ := τ) .tc w} := rfl
theorem w2_1_call : (fn_dynamic_index_in_dim_4.body (F := F) (.of main_v40_1) (.of main_v40_3) main_while2b_call8 : PT F) = StableHlo.seq w2_1 := by
  chain_rfl
/-- Stretch 2 of main_while2_body. -/
abbrev w2_2 : List (HloOp τ sig (Elt F)) :=
  [ StableHlo.binary main_while2b_v81 main_v40_5 main_while2b_v83 (addf : (⟨S128x17, .f32⟩ : BufTy).Contents (Elt F) → (⟨S128x17, .f32⟩ : BufTy).Contents (Elt F) → (⟨S128x17, .f32⟩ : BufTy).Contents (Elt F)),
    StableHlo.unary main_while2b_v83 main_while2b_v84 (broadcastInDim S128x1x17 ![0, 2] bcast_S128x17_S128x1x17_0_2 : (⟨S128x17, .f32⟩ : BufTy).Contents (Elt F) → (⟨S128x1x17, .f32⟩ : BufTy).Contents (Elt F)),
    StableHlo.unary main_v40_2 main_while2b_v85 ((transpose S17x17 [1, 0] · transposes_S17x17_S17x17_1_0) : (⟨S17x17, .f32⟩ : BufTy).Contents (Elt F) → (⟨S17x17, .f32⟩ : BufTy).Contents (Elt F)),
    StableHlo.unary main_while2b_v85 main_while2b_v86 (broadcastInDim S1x17x17 ![1, 2] bcast_S17x17_S1x17x17_1_2 : (⟨S17x17, .f32⟩ : BufTy).Contents (Elt F) → (⟨S1x17x17, .f32⟩ : BufTy).Contents (Elt F)),
    StableHlo.unary main_while2b_v84 main_while2b_v87 (broadcastInDim S128x17x17 ![0, 1, 2] bcast_S128x1x17_S128x17x17_0_1_2 : (⟨S128x1x17, .f32⟩ : BufTy).Contents (Elt F) → (⟨S128x17x17, .f32⟩ : BufTy).Contents (Elt F)),
    StableHlo.unary main_while2b_v86 main_while2b_v88 (broadcastInDim S128x17x17 ![0, 1, 2] bcast_S1x17x17_S128x17x17_0_1_2 : (⟨S1x17x17, .f32⟩ : BufTy).Contents (Elt F) → (⟨S128x17x17, .f32⟩ : BufTy).Contents (Elt F)),
    StableHlo.binary main_while2b_v87 main_while2b_v88 main_while2b_v89 (addf : (⟨S128x17x17, .f32⟩ : BufTy).Contents (Elt F) → (⟨S128x17x17, .f32⟩ : BufTy).Contents (Elt F) → (⟨S128x17x17, .f32⟩ : BufTy).Contents (Elt F)),
    StableHlo.unary main_while2b_v82 main_while2b_v90 (broadcastInDim S128x1x1 ![0] bcast_S128_S128x1x1_0 : (⟨S128, .f32⟩ : BufTy).Contents (Elt F) → (⟨S128x1x1, .f32⟩ : BufTy).Contents (Elt F)),
    StableHlo.unary main_while2b_v90 main_while2b_v91 (broadcastInDim S128x17x17 ![0, 1, 2] bcast_S128x1x1_S128x17x17_0_1_2 : (⟨S128x1x1, .f32⟩ : BufTy).Contents (Elt F) → (⟨S128x17x17, .f32⟩ : BufTy).Contents (Elt F)),
    StableHlo.binary main_while2b_v91 main_while2b_v89 main_while2b_v92 (mulf : (⟨S128x17x17, .f32⟩ : BufTy).Contents (Elt F) → (⟨S128x17x17, .f32⟩ : BufTy).Contents (Elt F) → (⟨S128x17x17, .f32⟩ : BufTy).Contents (Elt F)),
    StableHlo.nullary main_while2b_cst_22 (constant S_ .f32 0x3F800000#32),
    StableHlo.unary main_while2b_cst_22 main_while2b_v93 (broadcastInDim S128 ![] bcast_S_S128 : (⟨S_, .f32⟩ : BufTy).Contents (Elt F) → (⟨S128, .f32⟩ : BufTy).Contents (Elt F)),
    StableHlo.binary main_while2b_v93 main_while2b_v82 main_while2b_v94 (subf : (⟨S128, .f32⟩ : BufTy).Contents (Elt F) → (⟨S128, .f32⟩ : BufTy).Contents (Elt F) → (⟨S128, .f32⟩ : BufTy).Contents (Elt F)),
    StableHlo.unary main_while2b_v94 main_while2b_v95 (broadcastInDim S128x1x1 ![0] bcast_S128_S128x1x1_0 : (⟨S128, .f32⟩ : BufTy).Contents (Elt F) → (⟨S128x1x1, .f32⟩ : BufTy).Contents (Elt F)),
    StableHlo.unary main_while2b_v95 main_while2b_v96 (broadcastInDim S128x17x17 ![0, 1, 2] bcast_S128x1x1_S128x17x17_0_1_2 : (⟨S128x1x1, .f32⟩ : BufTy).Contents (Elt F) → (⟨S128x17x17, .f32⟩ : BufTy).Contents (Elt F)),
    StableHlo.binary main_while2b_v96 main_v40_4 main_while2b_v97 (mulf : (⟨S128x17x17, .f32⟩ : BufTy).Contents (Elt F) → (⟨S128x17x17, .f32⟩ : BufTy).Contents (Elt F) → (⟨S128x17x17, .f32⟩ : BufTy).Contents (Elt F)),
    StableHlo.binary main_while2b_v92 main_while2b_v97 main_while2b_v98 (addf : (⟨S128x17x17, .f32⟩ : BufTy).Contents (Elt F) → (⟨S128x17x17, .f32⟩ : BufTy).Contents (Elt F) → (⟨S128x17x17, .f32⟩ : BufTy).Contents (Elt F)),
    StableHlo.nullary main_while2b_cst_23 (constant S_ .f32 0xFF800000#32),
    StableHlo.binary main_while2b_v98 main_while2b_cst_23 main_while2b_v99 ((fun x v => Host.reduce FloatOps.maximumf x v reducesTo_S128x17x17_S128x17_d2 h_S_) : (⟨S128x17x17, .f32⟩ : BufTy).Contents (Elt F) → (⟨S_, .f32⟩ : BufTy).Contents (Elt F) → (⟨S128x17, .f32⟩ : BufTy).Contents (Elt F)),
    StableHlo.unary main_while2b_v99 main_while2b_v100 (broadcastInDim S128x17x1 ![0, 1] bcast_S128x17_S128x17x1_0_1 : (⟨S128x17, .f32⟩ : BufTy).Contents (Elt F) → (⟨S128x17x1, .f32⟩ : BufTy).Contents (Elt F)),
    StableHlo.unary main_while2b_v100 main_while2b_v101 (broadcastInDim S128x17x17 ![0, 1, 2] bcast_S128x17x1_S128x17x17_0_1_2 : (⟨S128x17x1, .f32⟩ : BufTy).Contents (Elt F) → (⟨S128x17x17, .f32⟩ : BufTy).Contents (Elt F)),
    StableHlo.binary main_while2b_v98 main_while2b_v101 main_while2b_v102 (subf : (⟨S128x17x17, .f32⟩ : BufTy).Contents (Elt F) → (⟨S128x17x17, .f32⟩ : BufTy).Contents (Elt F) → (⟨S128x17x17, .f32⟩ : BufTy).Contents (Elt F)),
    StableHlo.unary main_while2b_v102 main_while2b_v103 (Host.exp : (⟨S128x17x17, .f32⟩ : BufTy).Contents (Elt F) → (⟨S128x17x17, .f32⟩ : BufTy).Contents (Elt F)),
    StableHlo.nullary main_while2b_cst_24 (constant S_ .f32 0x00000000#32),
    StableHlo.binary main_while2b_v103 main_while2b_cst_24 main_while2b_v104 ((fun x v => Host.reduceAdd x v reducesTo_S128x17x17_S128x17_d2 h_S_) : (⟨S128x17x17, .f32⟩ : BufTy).Contents (Elt F) → (⟨S_, .f32⟩ : BufTy).Contents (Elt F) → (⟨S128x17, .f32⟩ : BufTy).Contents (Elt F)),
    StableHlo.unary main_while2b_v104 main_while2b_v105 (Host.log : (⟨S128x17, .f32⟩ : BufTy).Contents (Elt F) → (⟨S128x17, .f32⟩ : BufTy).Contents (Elt F)),
    StableHlo.binary main_while2b_v105 main_while2b_v99 main_while2b_v106 (addf : (⟨S128x17, .f32⟩ : BufTy).Contents (Elt F) → (⟨S128x17, .f32⟩ : BufTy).Contents (Elt F) → (⟨S128x17, .f32⟩ : BufTy).Contents (Elt F)),
    StableHlo.nullary main_while2b_c_25 (constantI S_ 32 1#32),
    StableHlo.binary main_v40_3 main_while2b_c_25 main_while2b_v107 (addi : (⟨S_, .i32⟩ : BufTy).Contents (Elt F) → (⟨S_, .i32⟩ : BufTy).Contents (Elt F) → (⟨S_, .i32⟩ : BufTy).Contents (Elt F)),
    StableHlo.unary main_while2b_v107 main_v40_3 id,
    StableHlo.unary main_while2b_v98 main_v40_4 id,
    StableHlo.unary main_while2b_v106 main_v40_5 id ]
theorem w2_2_sub : (w2_2 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩
/-- What w2_2 writes. -/
abbrev w2_2_W : List (Ref sig .tc) :=
  [main_while2b_v83, main_while2b_v84, main_while2b_v85, main_while2b_v86, main_while2b_v87, main_while2b_v88, main_while2b_v89, main_while2b_v90, main_while2b_v91, main_while2b_v92, main_while2b_cst_22, main_while2b_v93, main_while2b_v94, main_while2b_v95, main_while2b_v96, main_while2b_v97, main_while2b_v98, main_while2b_cst_23, main_while2b_v99, main_while2b_v100, main_while2b_v101, main_while2b_v102, main_while2b_v103, main_while2b_cst_24, main_while2b_v104, main_while2b_v105, main_while2b_v106, main_while2b_c_25, main_while2b_v107, main_v40_3, main_v40_4, main_v40_5]
theorem w2_2_writes : (w2_2 : List (HloOp τ sig (Elt F))).map HloOp.writes = w2_2_W.map fun w => {Proc.devRef (τ := τ) .tc w} := rfl

theorem main_while2_body_items : main_while2_body (F := F) = (Pipeline.chain
  [ fn_dynamic_index_in_dim_3.body (F := F) (.of main_v40_0) (.of main_v40_3) main_while2b_call7,
    fn_dynamic_index_in_dim_4.body (F := F) (.of main_v40_1) (.of main_v40_3) main_while2b_call8,
    StableHlo.seq w2_2 ] : PT F) := by
  rewrite [Pipeline.chain_cons, Pipeline.chain_cons, StableHlo.chain_seq_cons]
  chain_rfl
theorem main_while2_body_chain : main_while2_body (F := F) = (Pipeline.chain
  [ StableHlo.seq w2_0,
    StableHlo.seq w2_1,
    StableHlo.seq w2_2 ] : PT F) := by
  rewrite [main_while2_body_items, w2_0_call, w2_1_call]; rfl

end Cert.ReferenceIdeal.Hand

end

end
-- ==== Proof.RefRun.lean ====
/- The run of the reference program: three counted loops between stretches of host operations, so each TensorCore buffer
   ends at the fold of all of them (`fin`), the arguments as they began. -/
module

public import proofs.«01_k».proof.Proof.RefOps
public import Idealize.ShloMosaic.Lib.StableHlo.RunRead
public import Idealize.ShloMosaic.Lib.Quiescent

@[expose] public section

set_option maxRecDepth 20000
set_option maxHeartbeats 4000000

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket PCfg ucRefs sub_ucRefs)
open Cert.ReferenceIdeal Cert.ReferenceIdeal.Gen

variable {F : FTy → Type} [FloatOps F]

/-! ## The buffers' contents along the run -/

/-- The three conditions' operations: the bound, then the comparison of the counter with it. -/
abbrev cond0 : List (HloOp τ sig (Elt F)) :=
  [ StableHlo.nullary main_while0c_c_21 (constantI S_ 32 511#32),
    StableHlo.binary main_v5_2 main_while0c_c_21 main_while0c_v81 (cmpi .slt : (⟨S_, .i32⟩ : BufTy).Contents (Elt F) → (⟨S_, .i32⟩ : BufTy).Contents (Elt F) → (⟨S_, .i1⟩ : BufTy).Contents (Elt F)) ]
abbrev cond1 : List (HloOp τ sig (Elt F)) :=
  [ StableHlo.nullary main_while1c_c_20 (constantI S_ 32 511#32),
    StableHlo.binary main_v9_1 main_while1c_c_20 main_while1c_v81 (cmpi .slt : (⟨S_, .i32⟩ : BufTy).Contents (Elt F) → (⟨S_, .i32⟩ : BufTy).Contents (Elt F) → (⟨S_, .i1⟩ : BufTy).Contents (Elt F)) ]
abbrev cond2 : List (HloOp τ sig (Elt F)) :=
  [ StableHlo.nullary main_while2c_c_22 (constantI S_ 32 510#32),
    StableHlo.binary main_v40_3 main_while2c_c_22 main_while2c_v81 (cmpi .slt : (⟨S_, .i32⟩ : BufTy).Contents (Elt F) → (⟨S_, .i32⟩ : BufTy).Contents (Elt F) → (⟨S_, .i1⟩ : BufTy).Contents (Elt F)) ]

/-- The stretches of the three bodies, and of main before, between and after the loops. -/
abbrev body0 : List (List (HloOp τ sig (Elt F))) := [w0_0, w0_1, w0_2, w0_3, w0_4]
abbrev body1 : List (List (HloOp τ sig (Elt F))) := [w1_0, w1_1, w1_2, w1_3, w1_4, w1_5]
abbrev body2 : List (List (HloOp τ sig (Elt F))) := [w2_0, w2_1, w2_2]
abbrev pre0 : List (List (HloOp τ sig (Elt F))) := [p0_0]
abbrev mid1 : List (List (HloOp τ sig (Elt F))) := [p0_2, p0_3]
abbrev mid2 : List (List (HloOp τ sig (Elt F))) := [p0_5, p1_0]
abbrev post : List (List (HloOp τ sig (Elt F))) := [p1_2, p1_3, p1_4]

theorem pre0_plain : Plain (pre0 (F := F)) := .cons p0_0_sub .nil
theorem mid1_plain : Plain (mid1 (F := F)) := .cons p0_2_sub (.cons p0_3_sub .nil)
theorem mid2_plain : Plain (mid2 (F := F)) := .cons p0_5_sub (.cons p1_0_sub .nil)
theorem post_plain : Plain (post (F := F)) := .cons p1_2_sub (.cons p1_3_sub (.cons p1_4_sub .nil))
theorem body0_plain : Plain (body0 (F := F)) := .cons w0_0_sub (.cons w0_1_sub (.cons w0_2_sub (.cons w0_3_sub (.cons w0_4_sub .nil))))
theorem body1_plain : Plain (body1 (F := F)) :=
  .cons w1_0_sub (.cons w1_1_sub (.cons w1_2_sub (.cons w1_3_sub (.cons w1_4_sub (.cons w1_5_sub .nil)))))
theorem body2_plain : Plain (body2 (F := F)) := .cons w2_0_sub (.cons w2_1_sub (.cons w2_2_sub .nil))

variable (m : (ℓ : Loc nD τ sig) → Buf (Elt F) ℓ)

/-- The contents at each loop's entry (`ent`), at its trips (`trip`) and after its last condition (`exi`). -/
def ent0 (c : Dev nD) : Valuation τ sig (Elt F) := afterL pre0 (launchContents m c)
def trip0 (k : ℕ) (c : Dev nD) : Valuation τ sig (Elt F) := atTrip cond0 body0 (ent0 m) k c
def exi0 (c : Dev nD) : Valuation τ sig (Elt F) := after cond0 (trip0 m 511 c)
def ent1 (c : Dev nD) : Valuation τ sig (Elt F) := afterL mid1 (exi0 m c)
def trip1 (k : ℕ) (c : Dev nD) : Valuation τ sig (Elt F) := atTrip cond1 body1 (ent1 m) k c
def exi1 (c : Dev nD) : Valuation τ sig (Elt F) := after cond1 (trip1 m 511 c)
def ent2 (c : Dev nD) : Valuation τ sig (Elt F) := afterL mid2 (exi1 m c)
def trip2 (k : ℕ) (c : Dev nD) : Valuation τ sig (Elt F) := atTrip cond2 body2 (ent2 m) k c
def exi2 (c : Dev nD) : Valuation τ sig (Elt F) := after cond2 (trip2 m 510 c)
/-- The contents at the end. -/
def fin (c : Dev nD) : Valuation τ sig (Elt F) := afterL post (exi2 m c)

theorem trip0_succ (k : ℕ) (c : Dev nD) : trip0 m (k + 1) c = afterL body0 (after cond0 (trip0 m k c)) := rfl
theorem trip1_succ (k : ℕ) (c : Dev nD) : trip1 m (k + 1) c = afterL body1 (after cond1 (trip1 m k c)) := rfl
theorem trip2_succ (k : ℕ) (c : Dev nD) : trip2 m (k + 1) c = afterL body2 (after cond2 (trip2 m k c)) := rfl

/-! ## Buffers a stretch leaves alone -/

/-- `ops` leaves `r` alone. -/
def Keeps (ops : List (HloOp τ sig (Elt F))) (r : Ref sig .tc) : Prop := ∀ V, after ops V (Proc.devRef .tc r) = V (Proc.devRef .tc r)

theorem keeps_of {ops : List (HloOp τ sig (Elt F))} {W : List (Ref sig .tc)} {r : Ref sig .tc}
    (hW : ops.map HloOp.writes = W.map fun w => {Proc.devRef (τ := τ) .tc w}) (hr : r ∉ W) : Keeps ops r :=
  fun V => after_unwritten W hW hr V

theorem afterL_keeps {r : Ref sig .tc} : ∀ (items : List (List (HloOp τ sig (Elt F)))) (_ : ∀ ops ∈ items, Keeps ops r) (V : Valuation τ sig (Elt F)),
    afterL items V (Proc.devRef .tc r) = V (Proc.devRef .tc r)
  | [], _, _ => rfl
  | ops :: rest, h, V => by
    rw [afterL_cons, afterL_keeps rest (fun o ho => h o (List.mem_cons_of_mem _ ho)), h ops List.mem_cons_self]

theorem atTrip_keeps {r : Ref sig .tc} {cond : List (HloOp τ sig (Elt F))} {body : List (List (HloOp τ sig (Elt F)))}
    {W₀ : Dev nD → Valuation τ sig (Elt F)} (hc : Keeps cond r) (hb : ∀ ops ∈ body, Keeps ops r) (c : Dev nD) :
    ∀ k, atTrip cond body W₀ k c (Proc.devRef .tc r) = W₀ c (Proc.devRef .tc r)
  | 0 => rfl
  | k + 1 => by rw [atTrip_succ, afterL_keeps _ hb, hc, atTrip_keeps hc hb c k]

abbrev cond0_W : List (Ref sig .tc) := [main_while0c_c_21, main_while0c_v81]
abbrev cond1_W : List (Ref sig .tc) := [main_while1c_c_20, main_while1c_v81]
abbrev cond2_W : List (Ref sig .tc) := [main_while2c_c_22, main_while2c_v81]
theorem cond0_keeps {r : Ref sig .tc} (h : r ∉ cond0_W) : Keeps (cond0 (F := F)) r := keeps_of (W := cond0_W) rfl h
theorem cond1_keeps {r : Ref sig .tc} (h : r ∉ cond1_W) : Keeps (cond1 (F := F)) r := keeps_of (W := cond1_W) rfl h
theorem cond2_keeps {r : Ref sig .tc} (h : r ∉ cond2_W) : Keeps (cond2 (F := F)) r := keeps_of (W := cond2_W) rfl h

theorem forall1 {α : Type*} {p : α → Prop} {a : α} {l : List α} (h : p a) (hl : ∀ x ∈ l, p x) : ∀ x ∈ a :: l, p x := fun x hx => by
  rcases List.mem_cons.mp hx with rfl | hx
  · exact h
  · exact hl x hx
theorem forall0 {α : Type*} {p : α → Prop} : ∀ x ∈ ([] : List α), p x := fun _ h => nomatch h

theorem body0_keeps {r : Ref sig .tc} (h : r ∉ w0_0_W ++ w0_1_W ++ w0_2_W ++ w0_3_W ++ w0_4_W) : ∀ ops ∈ (body0 (F := F)), Keeps ops r := by
  simp only [List.mem_append, not_or] at h
  exact forall1 (keeps_of w0_0_writes h.1.1.1.1) (forall1 (keeps_of w0_1_writes h.1.1.1.2) (forall1 (keeps_of w0_2_writes h.1.1.2)
    (forall1 (keeps_of w0_3_writes h.1.2) (forall1 (keeps_of w0_4_writes h.2) forall0))))
theorem body1_keeps {r : Ref sig .tc} (h : r ∉ w1_0_W ++ w1_1_W ++ w1_2_W ++ w1_3_W ++ w1_4_W ++ w1_5_W) : ∀ ops ∈ (body1 (F := F)), Keeps ops r := by
  simp only [List.mem_append, not_or] at h
  exact forall1 (keeps_of w1_0_writes h.1.1.1.1.1) (forall1 (keeps_of w1_1_writes h.1.1.1.1.2) (forall1 (keeps_of w1_2_writes h.1.1.1.2)
    (forall1 (keeps_of w1_3_writes h.1.1.2) (forall1 (keeps_of w1_4_writes h.1.2) (forall1 (keeps_of w1_5_writes h.2) forall0)))))
theorem body2_keeps {r : Ref sig .tc} (h : r ∉ w2_0_W ++ w2_1_W ++ w2_2_W) : ∀ ops ∈ (body2 (F := F)), Keeps ops r := by
  simp only [List.mem_append, not_or] at h
  exact forall1 (keeps_of w2_0_writes h.1.1) (forall1 (keeps_of w2_1_writes h.1.2) (forall1 (keeps_of w2_2_writes h.2) forall0))

/-- A buffer a loop never writes is throughout its trips as at its entry. -/
theorem trip0_keeps {r : Ref sig .tc} (hc : r ∉ cond0_W) (h : r ∉ w0_0_W ++ w0_1_W ++ w0_2_W ++ w0_3_W ++ w0_4_W) (k : ℕ) (c : Dev nD) :
    trip0 m k c (Proc.devRef .tc r) = ent0 m c (Proc.devRef .tc r) := atTrip_keeps (cond0_keeps hc) (body0_keeps h) c k
theorem trip1_keeps {r : Ref sig .tc} (hc : r ∉ cond1_W) (h : r ∉ w1_0_W ++ w1_1_W ++ w1_2_W ++ w1_3_W ++ w1_4_W ++ w1_5_W) (k : ℕ) (c : Dev nD) :
    trip1 m k c (Proc.devRef .tc r) = ent1 m c (Proc.devRef .tc r) := atTrip_keeps (cond1_keeps hc) (body1_keeps h) c k
theorem trip2_keeps {r : Ref sig .tc} (hc : r ∉ cond2_W) (h : r ∉ w2_0_W ++ w2_1_W ++ w2_2_W) (k : ℕ) (c : Dev nD) :
    trip2 m k c (Proc.devRef .tc r) = ent2 m c (Proc.devRef .tc r) := atTrip_keeps (cond2_keeps hc) (body2_keeps h) c k

/-- Nothing the loops write. -/
abbrev loops_W : List (Ref sig .tc) :=
  cond0_W ++ (w0_0_W ++ w0_1_W ++ w0_2_W ++ w0_3_W ++ w0_4_W) ++ cond1_W ++ (w1_0_W ++ w1_1_W ++ w1_2_W ++ w1_3_W ++ w1_4_W ++ w1_5_W)
    ++ cond2_W ++ (w2_0_W ++ w2_1_W ++ w2_2_W)

/-- What the whole program never writes ends as it began. -/
theorem fin_keeps {r : Ref sig .tc} (h : r ∉ loops_W) (hm : r ∉ p0_0_W ++ p0_2_W ++ p0_3_W ++ p0_5_W ++ p1_0_W ++ p1_2_W ++ p1_3_W ++ p1_4_W) (c : Dev nD) :
    fin m c (Proc.devRef .tc r) = launchContents m c (Proc.devRef .tc r) := by
  rw [loops_W, List.mem_append, not_or, List.mem_append, not_or, List.mem_append, not_or, List.mem_append, not_or, List.mem_append, not_or] at h
  obtain ⟨⟨⟨⟨⟨a, b⟩, d⟩, e⟩, f⟩, g⟩ := h
  simp only [List.mem_append, not_or] at hm
  obtain ⟨⟨⟨⟨⟨⟨⟨h0, h1⟩, h2⟩, h3⟩, h4⟩, h5⟩, h6⟩, h7⟩ := hm
  rw [fin, afterL_keeps post (forall1 (keeps_of p1_2_writes h5) (forall1 (keeps_of p1_3_writes h6) (forall1 (keeps_of p1_4_writes h7) forall0))),
    exi2, cond2_keeps f, trip2_keeps m f g, ent2, afterL_keeps mid2 (forall1 (keeps_of p0_5_writes h3) (forall1 (keeps_of p1_0_writes h4) forall0)),
    exi1, cond1_keeps d, trip1_keeps m d e, ent1, afterL_keeps mid1 (forall1 (keeps_of p0_2_writes h1) (forall1 (keeps_of p0_3_writes h2) forall0)),
    exi0, cond0_keeps a, trip0_keeps m a b, ent0, afterL_keeps pre0 (forall1 (keeps_of p0_0_writes h0) forall0)]

/-! ## The counters -/

theorem ofNat_succ32 (k : ℕ) : BitVec.ofNat 32 k + 1#32 = BitVec.ofNat 32 (k + 1) := by rw [BitVec.ofNat_add]

theorem ctr0 (c : Dev nD) : ∀ k, trip0 m k c (Proc.devRef .tc main_v5_2) = fun _ => (BitVec.ofNat 32 k : BitVec 32)
  | 0 => by
    simp only [trip0, atTrip_zero, ent0, afterL_cons, afterL_nil]
    after_reads_simp
    rfl
  | k + 1 => by
    rw [trip0_succ]
    simp only [afterL_cons, afterL_nil]
    after_reads_simp
    rw [ctr0 c k]
    funext i
    exact ofNat_succ32 k

theorem ctr1 (c : Dev nD) : ∀ k, trip1 m k c (Proc.devRef .tc main_v9_1) = fun _ => (BitVec.ofNat 32 k : BitVec 32)
  | 0 => by
    show afterL mid1 _ _ = _
    rw [afterL_cons, afterL_cons, afterL_nil, p0_3]
    after_reads_simp
    rfl
  | k + 1 => by
    rw [trip1_succ]
    simp only [afterL_cons, afterL_nil]
    after_reads_simp
    rw [ctr1 c k]
    funext i
    exact ofNat_succ32 k

theorem ctr2 (c : Dev nD) : ∀ k, trip2 m k c (Proc.devRef .tc main_v40_3) = fun _ => (BitVec.ofNat 32 k : BitVec 32)
  | 0 => by
    show afterL mid2 _ _ = _
    rw [afterL_cons, afterL_cons, afterL_nil, p1_0]
    after_reads_simp
    rfl
  | k + 1 => by
    rw [trip2_succ]
    simp only [afterL_cons, afterL_nil]
    after_reads_simp
    rw [ctr2 c k]
    funext i
    exact ofNat_succ32 k

/-- The comparisons: before trip `k` of `n` the condition holds exactly while `k < n`. -/
theorem lt511 : ∀ k : Fin 512, (IntOp.cmpi .slt (BitVec.ofNat 32 k) 511#32 = 1#1 ↔ (k : ℕ) < 511) := by decide +kernel
theorem lt510 : ∀ k : Fin 511, (IntOp.cmpi .slt (BitVec.ofNat 32 k) 510#32 = 1#1 ↔ (k : ℕ) < 510) := by decide +kernel

/-! ## The conditions -/

local notation "𝕄" => MT nD τ sig Unit (Elt F) ℕ (Option PUnit) ℕ

/-- The type of a condition. -/
abbrev CT (F : FTy → Type) [FloatOps F] := Prog (TpuEff nD τ sig (Elt F) (HostLoop.Sig (Pipeline.Sig Λ₀ (Fin 0) fun p => (pcfgs (F := F) p).Adm) 3) .tc) (Elt F .i1)

set_option backward.isDefEq.respectTransparency.types false in
/-- A condition of two operations, the second read for its element: its specification, from the element's value. -/
theorem condSpec_of {cond : CT F} {op1 op2 : HloOp τ sig (Elt F)} (h1 : op1.bufs ⊆ tcRefs τ sig) (h2 : op2.bufs ⊆ tcRefs τ sig)
    (f1 : op1.fresh = ∅) (f2 : op2.fresh = ∅)
    {el : ((b : op2.writes) → b.1.ty.Contents (Elt F)) → Elt F .i1}
    (hcond : cond = (hlo rfl op1 (fun _ => .ret PUnit.unit) >>= fun _ => hlo rfl op2 (fun w => .ret (el w))))
    {bodyI : List (List (HloOp τ sig (Elt F)))} {W₀ : Dev nD → Valuation τ sig (Elt F)} {n : ℕ}
    (hv : ∀ k ≤ n, ∀ c, Iff (el (op2.fn fun b => op1.result (atTrip [op1, op2] bodyI W₀ k c) b.1) = 1#1) (k < n)) :
    CondSpec (pcfgs (F := F)) defs₀ loops cond [op1, op2] bodyI W₀ n := by
  intro k hk c bd
  subst hcond
  rw [wp_bind]
  iintro H
  iapply (wp_hlo_within _ (c.tc : Thread nD τ) bd Set.univ (sub_ucRefs _ h1) f1) $$ H
  iintro H
  rw [wp_ret]; imodintro
  iapply (wp_hlo_within _ (c.tc : Thread nD τ) bd Set.univ (sub_ucRefs _ h2) f2) $$ H
  iintro H
  rw [wp_ret]
  imodintro
  isplitr
  · ipureintro
    exact hv k hk c
  · rw [after_cons, after_cons, after_nil]
    iexact H

theorem condSpec0 : CondSpec (pcfgs (F := F)) defs₀ loops main_while0_cond cond0 body0 (ent0 m) 511 :=
  condSpec_of (nullary_bufs_sub ..) (binary_bufs_sub ..) rfl rfl (by simp only [main_while0_cond, bind_pure]; rfl) fun k hk c => by
    show Iff (IntOp.cmpi .slt (HloOp.result _ (trip0 m k c) (Proc.devRef .tc main_v5_2) (fun a => a.elim0)) (HloOp.result _ (trip0 m k c) (Proc.devRef .tc main_while0c_c_21) (fun a => a.elim0)) = 1#1) (k < 511)
    rw [nullary_result_ne _ _ _ _ (by decide), ctr0, nullary_result]
    exact lt511 ⟨k, by omega⟩
theorem condSpec1 : CondSpec (pcfgs (F := F)) defs₀ loops main_while1_cond cond1 body1 (ent1 m) 511 :=
  condSpec_of (nullary_bufs_sub ..) (binary_bufs_sub ..) rfl rfl (by simp only [main_while1_cond, bind_pure]; rfl) fun k hk c => by
    show Iff (IntOp.cmpi .slt (HloOp.result _ (trip1 m k c) (Proc.devRef .tc main_v9_1) (fun a => a.elim0)) (HloOp.result _ (trip1 m k c) (Proc.devRef .tc main_while1c_c_20) (fun a => a.elim0)) = 1#1) (k < 511)
    rw [nullary_result_ne _ _ _ _ (by decide), ctr1, nullary_result]
    exact lt511 ⟨k, by omega⟩
theorem condSpec2 : CondSpec (pcfgs (F := F)) defs₀ loops main_while2_cond cond2 body2 (ent2 m) 510 :=
  condSpec_of (nullary_bufs_sub ..) (binary_bufs_sub ..) rfl rfl (by simp only [main_while2_cond, bind_pure]; rfl) fun k hk c => by
    show Iff (IntOp.cmpi .slt (HloOp.result _ (trip2 m k c) (Proc.devRef .tc main_v40_3) (fun a => a.elim0)) (HloOp.result _ (trip2 m k c) (Proc.devRef .tc main_while2c_c_22) (fun a => a.elim0)) = 1#1) (k < 510)
    rw [nullary_result_ne _ _ _ _ (by decide), ctr2, nullary_result]
    exact lt510 ⟨k, by omega⟩

/-! ## Main as segments -/

/-- No pipeline, no ticket, no level. -/
abbrev noAdm : (p : Fin 0) → (pcfgs (F := F) p).Adm := fun p => p.elim0
abbrev noTicket : Fin 0 → Ticket (Ix := Unit) (Name := ℕ) (U := Option PUnit) (Lvl := ℕ) (nD := nD) (τ := τ) (pcfgs (F := F)) noAdm := fun j => j.elim0
abbrev noCells : GSem nD τ sig → Finset Unit := fun _ => ∅
abbrev noLevel : GSem nD τ sig → Unit → ℕ := fun _ _ => 0

/-- What the core owes, carried beside the buffers. -/
abbrev Owed (c : Dev nD) : sProp 𝕄 := iprop(∃ W, owes (c : Thread nD τ) (0 : CellTallies nD τ sig Unit) W)

/-- A condition's specification with what the core owes carried through it. -/
theorem loopCond {cond : CT F} {condOps : List (HloOp τ sig (Elt F))} {bodyI : List (List (HloOp τ sig (Elt F)))}
    {W₀ : Dev nD → Valuation τ sig (Elt F)} {n : ℕ} (h : CondSpec (pcfgs (F := F)) defs₀ loops cond condOps bodyI W₀ n) :
    LoopCond (pcfgs (F := F)) defs₀ Variants.none loops Owed cond condOps bodyI W₀ n := fun k hk c bd => by
  have h' := h k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Owed c)
        ⊢ iprop(⌜v = 1#1 ↔ k < n⌝ ∗ boundary (c : Thread nD τ) ∗ held (c : Thread nD τ) (ucRefs τ sig) (after condOps (atTrip condOps bodyI W₀ k c)) ∗ Owed c) := fun v => by
    iintro ⟨⟨%hv, Hb, Hh⟩, HR⟩
    isplitr; · ipureintro; exact hv
    isplitl [Hb]; · iexact Hb
    isplitl [Hh] <;> iassumption
  refine BIBase.Entails.trans ?_ (((sep_mono_left h').trans (wp_frame_r _ _ _)).trans (wp_mono _ _ _ hpost))
  iintro ⟨Hb, Hh, HR⟩
  isplitl [Hb Hh]; · isplitl [Hb] <;> iassumption
  iexact HR

/-- Main's segments: the stretches and the three loops in order. -/
def segs : List (CSeg (pcfgs (F := F)) noAdm defs₀ Variants.none noCells noLevel loops noTicket) :=
  segsOf _ _ _ _ _ _ _ _ Owed pre0 pre0_plain (launchContents m)
  ++ (loopSeg _ _ _ _ _ _ _ _ 0 main_while0_cond main_while0_body rfl cond0 body0 body0_plain main_while0_body_chain 511 (ent0 m) Owed (loopCond (condSpec0 m))
  :: (segsOf _ _ _ _ _ _ _ _ Owed mid1 mid1_plain (exi0 m)
  ++ (loopSeg _ _ _ _ _ _ _ _ 1 main_while1_cond main_while1_body rfl cond1 body1 body1_plain main_while1_body_chain 511 (ent1 m) Owed (loopCond (condSpec1 m))
  :: (segsOf _ _ _ _ _ _ _ _ Owed mid2 mid2_plain (exi1 m)
  ++ (loopSeg _ _ _ _ _ _ _ _ 2 main_while2_cond main_while2_body rfl cond2 body2 body2_plain main_while2_body_chain 510 (ent2 m) Owed (loopCond (condSpec2 m))
  :: segsOf _ _ _ _ _ _ _ _ Owed post post_plain (exi2 m))))))

theorem segs_prog : (segs m).map CSeg.prog
    = [ (StableHlo.seq p0_0 : PT F), HostLoop.enter 0, StableHlo.seq p0_2, StableHlo.seq p0_3, HostLoop.enter 1, StableHlo.seq p0_5,
        StableHlo.seq p1_0, HostLoop.enter 2, StableHlo.seq p1_2, StableHlo.seq p1_3, StableHlo.seq p1_4 ] := by
  unfold segs
  simp only [List.map_append, List.map_cons, segsOf_prog]
  rfl

theorem main_chain (c : Dev nD) : main (F := F) c = Pipeline.chain ((segs m).map CSeg.prog) := by
  rw [segs_prog]
  exact Pipeline.chain_of_window (main_part0_chain c) (main_part1_chain c)

theorem segs_chains : CSeg.Chains (fun c => iprop(held (c : Thread nD τ) (ucRefs τ sig) (launchContents m c) ∗ Owed c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Owed pre0 _ _) ⟨fun _ => .rfl,
    CSeg.Chains.append (segsOf_chains _ _ _ _ _ _ _ _ Owed mid1 _ _) ⟨fun _ => .rfl,
    CSeg.Chains.append (segsOf_chains _ _ _ _ _ _ _ _ Owed mid2 _ _) ⟨fun _ => .rfl,
    segsOf_chains _ _ _ _ _ _ _ _ Owed post _ _⟩⟩⟩

/-! ## The run -/

/-- Every TensorCore buffer holding a value of the program ends at `fin`. -/
theorem run_fin [∀ e, Nonempty (Elt F e)] (ρ : Dev nD → PrngReg) :
    θ_run (HostLoop.defs loops (Pipeline.defs (pcfgs (F := F)) defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noCells noLevel loops noTicket m ρ main (segs m)
    (fun c Q => by rw [main_chain m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (fin m c)))
    (hch := segs_chains m)
    (hinit := by
      refine Pipeline.initEach noCells noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- The reference program terminates, leaves its arguments as they were and its semaphores at zero. -/
theorem run_frame [∀ e, Nonempty (Elt F e)] (ρ : Dev nD → PrngReg) :
    θ_run (defs (F := F)) (onTc (τ := τ) main) ⟨m, fun _ => 0, ρ⟩
      (fun r => (∀ c : Dev nD, r.2.mem (c, Proc.devRef .tc main_arg0) = m (c, Proc.devRef .tc main_arg0)
          ∧ r.2.mem (c, Proc.devRef .tc main_arg1) = m (c, Proc.devRef .tc main_arg1)
          ∧ r.2.mem (c, Proc.devRef .tc main_arg2) = m (c, Proc.devRef .tc main_arg2))
        ∧ r.2.sem = fun _ => 0) :=
  (run_fin m ρ).mono fun r h =>
    ⟨fun c => ⟨(h c main_arg0 rfl).trans (fin_keeps m (by decide) (by decide) c), (h c main_arg1 rfl).trans (fin_keeps m (by decide) (by decide) c),
      (h c main_arg2 rfl).trans (fin_keeps m (by decide) (by decide) c)⟩, sem_eq_zero_of_no_sems (sig := sig) (by decide) _⟩

end Cert.ReferenceIdeal.Hand

end

end
-- ==== Proof.Steps.lean ====
/-
  The kernel body's mathematics as functions of vectors, the way the body computes them: the two trees over the seventeen
  labels (the best predecessor with its label, and the sum), one step of each recursion, the score of the given labels, a
  group of four time steps and a trip of sixteen. The bodies' runs are these functions (by computation, in `StepsRun`).
-/
module

public import proofs.«01_k».proof.Proof.IdealBody

@[expose] public section

noncomputable section

namespace Cert.KernelIdeal.Hand

open Cert.KernelIdeal Cert.KernelIdeal.Gen
open Idealize.ShloMosaic Idealize.ShloMosaic.TcCoe

variable {F : FTy → Type} [FloatOps F]

/-- One value per label and sequence. -/
abbrev Mat (F : FTy → Type) := FVec F S17x128 .f32
/-- One value per sequence. -/
abbrev Row (F : FTy → Type) := FVec F S1x128 .f32
/-- One label per label and sequence. -/
abbrev IMat := IVec S17x128 32
/-- One label per sequence. -/
abbrev IRow := IVec S1x128 32
/-- The five values a forward loop carries: best scores, scaled forward weights, the logarithm of the scale, score of the
    given labels, and the label of the step before. -/
abbrev Carry (F : FTy → Type) := Mat F × Mat F × Row F × Mat F × IRow

theorem row_slices (k : Fin 17) : S17x128.Slices ![k.val, 0] S1x128 := by
  revert k; decide

/-- The binary tree over `2 ^ n` consecutive places, from place `2 ^ n * i`. -/
def tree {α : Type} (f : α → α → α) (g : Fin 17 → α) : ℕ → ℕ → α
  | 0, i => g (Fin.ofNat 17 i)
  | n + 1, i => f (tree f g n (2 * i)) (tree f g n (2 * i + 1))

/-- The tree over all seventeen: sixteen balanced, then the last. -/
def tree17 {α : Type} (f : α → α → α) (g : Fin 17 → α) : α := f (tree f g 4 0) (g 16)

/-- Row `k` of a matrix, repeated for each label. -/
def rowOf (u : Mat F) (k : Fin 17) : Mat F :=
  broadcastTo S17x128 (extractStridedSlice S1x128 ![k.val, 0] u (row_slices k)) broadcasts_S1x128_S17x128

/-- A table's slab as a matrix. -/
def flat {e : EltTy} (T : Fin 17 → Vec F S1x17x128 e) (k : Fin 17) : S17x128.Idx → Elt F e :=
  shapeCast S17x128 (T k) shapeCasts_S1x17x128_S17x128

/-- The better of two, the first of them where equal. -/
def pick (a b : Mat F × IMat) : Mat F × IMat :=
  (maximumf a.1 b.1, select (cmpf .ogt b.1 a.1) b.2 a.2)

/-- The best predecessor's score and label. -/
def best (T7 : Fin 17 → Vec F S1x17x128 .f32) (T9 : Fin 17 → Vec F S1x17x128 .i32) (dp : Mat F) : Mat F × IMat :=
  tree17 pick fun k => (addf (rowOf dp k) (flat T7 k), flat T9 k)

/-- The forward weights after one multiplication by the transition matrix. -/
def fwd (T8 : Fin 17 → Vec F S1x17x128 .f32) (u : Mat F) : Mat F :=
  tree17 addf fun k => mulf (rowOf u k) (flat T8 k)

/-- The largest of a column. -/
def colMax (u : Mat F) : Row F :=
  shapeCast S1x128 (multiReduction .maximumf [0] S128 u 0xFF800000#32 reduces_S17x128_S128 (.inl rfl) rfl) shapeCasts_S128_S1x128

/-- The sum of a column. -/
def colSum (u : Mat F) : Row F :=
  shapeCast S1x128 (multiReduction .add [0] S128 u 0x00000000#32 reduces_S17x128_S128 (.inl rfl) rfl) shapeCasts_S128_S1x128

/-- A row repeated for each label. -/
def spread (r : Row F) : Mat F := broadcastTo S17x128 r broadcasts_S1x128_S17x128

/-- Where the label is the given one. -/
def isLabel (io : IMat) (y : IRow) : IVec S17x128 1 := cmpi .eq io (broadcastTo S17x128 y broadcasts_S1x128_S17x128)

/-- The score of the given labels with one time step more. -/
def gold (A : Vec F S17x17 .f32) (io : IMat) (acc : Mat F) (yprev yj : IRow) (xj : Mat F) : Mat F :=
  addf acc (select (isLabel io yj)
    (addf xj (matmul dot_S17x17_S17x128_S17x128_1_0_0_1_n_n none A
      (sitofp .f32 (extui 32 (isLabel io yprev) natLt_1_32)) (constant S17x128 .f32 0x00000000#32)))
    (broadcast S17x128 (Scalar.ofBits .f32 0x00000000#32)))

/-- A table of back pointers as stored. -/
def stored (b : IMat) : IVec S1x17x128 32 := shapeCast S1x17x128 b shapeCasts_S17x128_S1x17x128

/-- The best scores after one step. -/
def vit (T7 : Fin 17 → Vec F S1x17x128 .f32) (T9 : Fin 17 → Vec F S1x17x128 .i32) (dp x : Mat F) : Mat F :=
  addf (best T7 T9 dp).1 x

/-- The forward weights after one step. -/
def fstep (T8 : Fin 17 → Vec F S1x17x128 .f32) (w x : Mat F) : Mat F := fwd T8 (mulf w (exp x))

/-- One over a row, repeated. -/
def recip (s : Row F) : Mat F := spread (divf (broadcast S1x128 (Scalar.ofBits .f32 0x3F800000#32)) s)

/-- Four time steps: the scale of the weights is taken out once. -/
def quad (T7 T8 : Fin 17 → Vec F S1x17x128 .f32) (T9 : Fin 17 → Vec F S1x17x128 .i32) (A : Vec F S17x17 .f32) (io : IMat)
    (x : Fin 4 → Mat F) (y : Fin 4 → IRow) (c : Carry F) : Carry F :=
  (vit T7 T9 (vit T7 T9 (vit T7 T9 (vit T7 T9 c.1 (x 0)) (x 1)) (x 2)) (x 3),
   mulf (fstep T8 (fstep T8 (fstep T8 (fstep T8 c.2.1 (x 0)) (x 1)) (x 2)) (x 3)) (recip (colMax c.2.1)),
   addf c.2.2.1 (log (colMax c.2.1)),
   gold A io (gold A io (gold A io (gold A io c.2.2.2.1 c.2.2.2.2 (y 0) (x 0)) (y 0) (y 1) (x 1)) (y 1) (y 2) (x 2)) (y 2) (y 3) (x 3),
   y 3)

/-- The best scores before step `d` of four. -/
def vits (T7 : Fin 17 → Vec F S1x17x128 .f32) (T9 : Fin 17 → Vec F S1x17x128 .i32) (x : Fin 4 → Mat F) (dp : Mat F) : ℕ → Mat F
  | 0 => dp
  | d + 1 => vit T7 T9 (vits T7 T9 x dp d) (x (Fin.ofNat 4 d))

/-- The back pointers of step `d` of four. -/
def bps (T7 : Fin 17 → Vec F S1x17x128 .f32) (T9 : Fin 17 → Vec F S1x17x128 .i32) (x : Fin 4 → Mat F) (dp : Mat F) (d : ℕ) :
    IVec S1x17x128 32 :=
  stored (best T7 T9 (vits T7 T9 x dp d)).2

/-- A slab table held in a buffer. -/
def slabs {e : EltTy} (M : Memref sig .tc .vmem S17x17x128 e) (X : BufTy.Contents (Elt F) M.view.ty) (k : Fin 17) :
    Vec F S1x17x128 e :=
  View.readAt (Elt F) M.view (Rect.unit (s := S17x17x128) ![k.val, 0, 0] S1x17x128.size (by revert k; decide)).toLoadRect X

/-- The scores of step `4 i + d` of trip `k`. -/
def xAt (M : Memref sig .tc .vmem S512x17x128 .f32) (X : BufTy.Contents (Elt F) M.view.ty) (k : Fin k0_t1_loop.trips)
    (i d : Fin 4) : Mat F :=
  shapeCast S17x128 (View.readAt (Elt F) M.view (Rect.unit (s := S512x17x128)
    (k0_off1 k (BitVec.ofNat 32 i.val) (BitVec.ofNat 32 d.val)) S1x17x128.size (k0_off1_inb k i d)).toLoadRect X)
    shapeCasts_S1x17x128_S17x128

/-- The given labels of step `4 i + d` of trip `k`. -/
def yAt (M : Memref sig .tc .vmem S512x128 .i32) (X : BufTy.Contents (Elt F) M.view.ty) (k : Fin k0_t1_loop.trips)
    (i d : Fin 4) : IRow :=
  shapeCast S1x128 (View.readAt (Elt F) M.view (Rect.unit (s := S512x128)
    (k0_off2 k (BitVec.ofNat 32 i.val) (BitVec.ofNat 32 d.val)) S1x128.size (k0_off2_inb k i d)).toLoadRect X)
    shapeCasts_S1x128_S1x128

/-- The values carried before group `i` of a trip. -/
def quads (T7 T8 : Fin 17 → Vec F S1x17x128 .f32) (T9 : Fin 17 → Vec F S1x17x128 .i32) (A : Vec F S17x17 .f32) (io : IMat)
    (x : Fin 4 → Fin 4 → Mat F) (y : Fin 4 → Fin 4 → IRow) (c : Carry F) : ℕ → Carry F
  | 0 => c
  | i + 1 => quad T7 T8 T9 A io (x (Fin.ofNat 4 i)) (y (Fin.ofNat 4 i)) (quads T7 T8 T9 A io x y c i)

/-- The piece a trip stores at step `4 i + d`. -/
def tripPiece (T7 T8 : Fin 17 → Vec F S1x17x128 .f32) (T9 : Fin 17 → Vec F S1x17x128 .i32) (A : Vec F S17x17 .f32) (io : IMat)
    (x : Fin 4 → Fin 4 → Mat F) (y : Fin 4 → Fin 4 → IRow) (c : Carry F) (k : Fin k0_t1_loop.trips) (i d : Fin 4) :
    View.Piece (Elt F) S512x17x128 .i32 :=
  ⟨Rect.unit (k0_off1 k (BitVec.ofNat 32 i.val) (BitVec.ofNat 32 d.val)) S1x17x128.size (k0_off1_inb k i d),
    bps T7 T9 (x i) (quads T7 T8 T9 A io x y c i.val).1 d.val⟩

/-- The label before, of the label `cur` and the back pointers stored. -/
def backRow (io : IMat) (cur : IRow) (b : Vec F S1x17x128 .i32) : IRow :=
  shapeCast S1x128 (multiReductionI .maxsi [0] S128 (select (isLabel io cur) (shapeCast S17x128 b shapeCasts_S1x17x128_S17x128)
    (broadcast S17x128 0#32)) 2147483648#32 reduces_S17x128_S128 rfl) shapeCasts_S128_S1x128

end Cert.KernelIdeal.Hand

end
-- ==== Proof.StepsRun.lean ====
/-
  The runs of the loops' trips and of the body are the functions of `Steps`: each equation by computation.
-/
module

public import proofs.«01_k».proof.Proof.Steps

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The body outside its loops -/

/-- The scores of time step `j`. -/
def xAll (M : Memref sig .tc .vmem S512x17x128 .f32) (X : BufTy.Contents (Elt F) M.view.ty) (j : Fin 512) : Mat F :=
  shapeCast S17x128 (View.readAt (Elt F) M.view (Rect.unit (s := S512x17x128) ![j.val, 0, 0] S1x17x128.size
    (by intro a; fin_cases a <;> simp [S1x17x128, S512x17x128, Shape.size] <;> omega)).toLoadRect X) shapeCasts_S1x17x128_S17x128

/-- The given labels of time step `j`. -/
def yAll (M : Memref sig .tc .vmem S512x128 .i32) (X : BufTy.Contents (Elt F) M.view.ty) (j : Fin 512) : IRow :=
  shapeCast S1x128 (View.readAt (Elt F) M.view (Rect.unit (s := S512x128) ![j.val, 0] S1x128.size
    (by intro a; fin_cases a <;> simp [S1x128, S512x128, Shape.size] <;> omega)).toLoadRect X) shapeCasts_S1x128_S1x128

/-- A whole square matrix. -/
def square (M : Memref sig .tc .vmem S17x17 .f32) (X : BufTy.Contents (Elt F) M.view.ty) : Vec F S17x17 .f32 :=
  View.readAt (Elt F) M.view (Rect.unit (s := S17x17) ![0, 0] S17x17.size inb_S17x17_S17x17_0_0).toLoadRect X

/-- Column `k` of a square matrix, repeated for each sequence. -/
def colBc (A : FVec F S17x17 .f32) (k : Fin 17) : Mat F :=
  broadcastTo S17x128 (shapeCast S17x1 (extractStridedSlice S17x1 ![0, k.val] A (by revert k; decide)) shapeCasts_S17x1_S17x1)
    broadcasts_S17x1_S17x128

/-- Seventeen slabs stored one after the other (the last first). -/
def tablePieces {e : EltTy} (g : Fin 17 → Vec F S1x17x128 e) : List (View.Piece (Elt F) S17x17x128 e) :=
  List.map (fun k : Fin 17 => ⟨Rect.unit (s := S17x17x128) ![k.val, 0, 0] S1x17x128.size (by revert k; decide), g k⟩)
    [16, 15, 14, 13, 12, 11, 10, 9, 8, 7, 6, 5, 4, 3, 2, 1, 0]

/-- The transition scores' table. -/
def slab7 (AT : Vec F S17x17 .f32) (k : Fin 17) : Vec F S1x17x128 .f32 :=
  shapeCast S1x17x128 (colBc (shapeCast S17x17 AT shapeCasts_S17x17_S17x17) k) shapeCasts_S17x128_S1x17x128

/-- The transition weights' table. -/
def slab8 (AT : Vec F S17x17 .f32) (k : Fin 17) : Vec F S1x17x128 .f32 :=
  shapeCast S1x17x128 (colBc (exp (shapeCast S17x17 AT shapeCasts_S17x17_S17x17)) k) shapeCasts_S17x128_S1x17x128

/-- The labels' table. -/
def slab9 (k : Fin 17) : Vec F S1x17x128 .i32 := stored (broadcast S17x128 (BitVec.ofNat 32 k.val))

/-- A table's buffer after the prologue. -/
def tableBuf {e : EltTy} (M : Memref sig .tc .vmem S17x17x128 e) (g : Fin 17 → Vec F S1x17x128 e) : BufTy.Contents (Elt F) M.view.ty :=
  M.view.writes (Elt F) M.view.junk (tablePieces g)

/-- The label's own number, everywhere. -/
def labels : IMat := iota .tc S17x128 32 [0] iota_S17x128_d0_w32

/-- What the forward loop starts from. -/
def init (T8 : Fin 17 → Vec F S1x17x128 .f32) (x0 : Mat F) (y0 : IRow) : Carry F :=
  (x0, fwd T8 (exp (subf x0 (spread (colMax x0)))), colMax x0,
   select (isLabel labels y0) x0 (broadcast S17x128 (Scalar.ofBits .f32 0x00000000#32)), y0)

/-- One time step that takes its own scale out. -/
def single (T7 T8 : Fin 17 → Vec F S1x17x128 .f32) (T9 : Fin 17 → Vec F S1x17x128 .i32) (A : Vec F S17x17 .f32)
    (x : Mat F) (y : IRow) (c : Carry F) : Carry F :=
  (vit T7 T9 c.1 x, mulf (fstep T8 c.2.1 x) (recip (colMax c.2.1)), addf c.2.2.1 (log (colMax c.2.1)),
   gold A labels c.2.2.2.1 c.2.2.2.2 y x, y)

/-- The loss, of the values before the last time step. -/
def lossOf (A : Vec F S17x17 .f32) (x : Mat F) (y : IRow) (c : Carry F) : FVec F S1x1 .f32 :=
  let v : Mat F := addf x (addf (spread c.2.2.1) (log c.2.1))
  let z : Row F := addf (colMax v) (log (colSum (exp (subf v (spread (colMax v))))))
  mulf (shapeCast S1x1 (multiReduction .add [1] S1 (subf z (colSum (gold A labels c.2.2.2.1 c.2.2.2.2 y x))) 0x00000000#32
    reduces_S1x128_S1 (.inl rfl) rfl) shapeCasts_S1_S1x1) (broadcast S1x1 (Scalar.ofBits .f32 0x3C000000#32))

/-- Row `k` of the last scores. -/
def lastRow (dp : Mat F) (k : Fin 17) : Row F := extractStridedSlice S1x128 ![k.val, 0] dp (row_slices k)

/-- The scan for the best last label: the best score and its label among labels `0 … n`. -/
def lastScan (dp : Mat F) : ℕ → Row F × IRow
  | 0 => (lastRow dp 0, broadcast S1x128 0#32)
  | n + 1 =>
    (select (cmpf .ogt (lastRow dp (Fin.ofNat 17 (n + 1))) (lastScan dp n).1) (lastRow dp (Fin.ofNat 17 (n + 1))) (lastScan dp n).1,
     select (cmpf .ogt (lastRow dp (Fin.ofNat 17 (n + 1))) (lastScan dp n).1) (broadcast S1x128 (BitVec.ofNat 32 (n + 1)))
       (lastScan dp n).2)

section Trips

variable (𝒱 : Variants) (c : Dev nD) (bd : Option 𝒱.V)
  (arg0 : Memref sig .tc .vmem S512x17x128 .f32) (harg0 : arg0.IsWhole) (arg1 : Memref sig .tc .vmem S512x128 .i32) (harg1 : arg1.IsWhole)
  (arg2 : Memref sig .tc .vmem S17x17 .f32) (harg2 : arg2.IsWhole) (arg3 : Memref sig .tc .vmem S17x17 .f32) (harg3 : arg3.IsWhole)
  (arg4 : Memref sig .tc .vmem S512x128 .i32) (harg4 : arg4.IsWhole) (arg5 : Memref sig .tc .vmem S1x1 .f32) (harg5 : arg5.IsWhole)
  (arg6 : Memref sig .tc .vmem S512x17x128 .i32) (harg6 : arg6.IsWhole) (arg7 : Memref sig .tc .vmem S17x17x128 .f32) (harg7 : arg7.IsWhole)
  (arg8 : Memref sig .tc .vmem S17x17x128 .f32) (harg8 : arg8.IsWhole) (arg9 : Memref sig .tc .vmem S17x17x128 .i32) (harg9 : arg9.IsWhole)

/-- The rows of back pointers a trip of the backtracking loop loads. -/
def backLoad (X6 : BufTy.Contents (Elt F) arg6.view.ty) (k : Fin k0_t2_loop.trips) (d : Fin 3) : Vec F S1x17x128 .i32 :=
  View.readAt (Elt F) arg6.view (Rect.unit (s := S512x17x128) (k0_off3 k (BitVec.ofNat 32 d.val)) S1x17x128.size (k0_off3_inb k d)).toLoadRect X6

/-- The label after `d` steps of a trip of the backtracking loop. -/
def backCur (X6 : BufTy.Contents (Elt F) arg6.view.ty) (k : Fin k0_t2_loop.trips) (cur : IRow) : ℕ → IRow
  | 0 => cur
  | d + 1 => backRow labels (backCur X6 k cur d) (backLoad arg6 X6 k (Fin.ofNat 3 d))

/-- The piece of the path stored at step `d` of a trip. -/
def backPiece (X6 : BufTy.Contents (Elt F) arg6.view.ty) (k : Fin k0_t2_loop.trips) (cur : IRow) (d : Fin 3) :
    View.Piece (Elt F) S512x128 .i32 :=
  ⟨Rect.unit (k0_off4 k (BitVec.ofNat 32 d.val)) S1x128.size (k0_off4_inb k d), backCur arg6 X6 k cur (d.val + 1)⟩

theorem trip2_R (X6 : BufTy.Contents (Elt F) arg6.view.ty) (k : Fin k0_t2_loop.trips) (acc : IRow) :
    tripR_k0_t2 (F := F) 𝒱 c bd arg0 harg0 arg1 harg1 arg2 harg2 arg3 harg3 arg4 harg4 arg5 harg5 arg6 harg6 arg7 harg7
        arg8 harg8 arg9 harg9 labels X6 k acc
      = backCur arg6 X6 k acc 3 := by
  sl_kernel_rfl

theorem trip2_L (X6 : BufTy.Contents (Elt F) arg6.view.ty) (k : Fin k0_t2_loop.trips) (acc : IRow) :
    tripL_k0_t2 (F := F) 𝒱 c bd arg0 harg0 arg1 harg1 arg2 harg2 arg3 harg3 arg4 harg4 arg5 harg5 arg6 harg6 arg7 harg7
        arg8 harg8 arg9 harg9 labels X6 k acc
      = [backPiece arg6 X6 k acc 2, backPiece arg6 X6 k acc 1, backPiece arg6 X6 k acc 0] := by
  sl_kernel_rfl

variable (v278 : FVec F S17x128 .f32) (v280 : IVec S1x128 32) (v282 : FVec F S1x128 .f32)
  (v360 v365 v370 v371 v372 v373 v374 v375 v376 v377 : FVec F S17x128 .f32)
  (A : Vec F S17x17 .f32) (X0 : BufTy.Contents (Elt F) arg0.view.ty) (X1 : BufTy.Contents (Elt F) arg1.view.ty)
  (X7 : BufTy.Contents (Elt F) arg7.view.ty) (X8 : BufTy.Contents (Elt F) arg8.view.ty) (X9 : BufTy.Contents (Elt F) arg9.view.ty)

/-- The pieces a trip of the forward loop stores, the last first. -/
def tripPieces (T7 T8 : Fin 17 → Vec F S1x17x128 .f32) (T9 : Fin 17 → Vec F S1x17x128 .i32)
    (x : Fin 4 → Fin 4 → Mat F) (y : Fin 4 → Fin 4 → IRow) (acc : Carry F) (k : Fin k0_t1_loop.trips) :
    List (View.Piece (Elt F) S512x17x128 .i32) :=
  List.map (fun p : Fin 4 × Fin 4 => tripPiece T7 T8 T9 A labels x y acc k p.1 p.2)
    [(3, 3), (3, 2), (3, 1), (3, 0), (2, 3), (2, 2), (2, 1), (2, 0), (1, 3), (1, 2), (1, 1), (1, 0), (0, 3), (0, 2), (0, 1), (0, 0)]

theorem trip1_R (k : Fin k0_t1_loop.trips) (acc : Carry F) :
    tripR_k0_t1 (F := F) 𝒱 c bd arg0 harg0 arg1 harg1 arg2 harg2 arg3 harg3 arg4 harg4 arg5 harg5 arg6 harg6 arg7 harg7
        arg8 harg8 arg9 harg9 A labels v278 v280 v282 v360 v365 v370 v371 v372 v373 v374 v375 v376 v377 X0 X1 X7 X8 X9 k acc
      = quads (slabs arg7 X7) (slabs arg8 X8) (slabs arg9 X9) A labels (xAt arg0 X0 k) (yAt arg1 X1 k) acc 4 := by
  sl_kernel_rfl

theorem trip1_L (k : Fin k0_t1_loop.trips) (acc : Carry F) :
    tripL_k0_t1 (F := F) 𝒱 c bd arg0 harg0 arg1 harg1 arg2 harg2 arg3 harg3 arg4 harg4 arg5 harg5 arg6 harg6 arg7 harg7
        arg8 harg8 arg9 harg9 A labels v278 v280 v282 v360 v365 v370 v371 v372 v373 v374 v375 v376 v377 X0 X1 X7 X8 X9 k acc
      = tripPieces A (slabs arg7 X7) (slabs arg8 X8) (slabs arg9 X9) (xAt arg0 X0 k) (yAt arg1 X1 k) acc k := by
  sl_kernel_rfl

end Trips

end Cert.KernelIdeal.Hand

end
-- ==== Proof.BodyRun.lean ====
/-
  The body's two results as functions of `Steps` around the two loops' states. The equations are in `BodyLoss` and `BodyPath`.
-/
module

public import proofs.«01_k».proof.Proof.StepsRun

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section Body

variable (c : Dev nD)
  (arg0 : Memref sig .tc .vmem S512x17x128 .f32) (harg0 : arg0.IsWhole) (arg1 : Memref sig .tc .vmem S512x128 .i32) (harg1 : arg1.IsWhole)
  (arg2 : Memref sig .tc .vmem S17x17 .f32) (harg2 : arg2.IsWhole) (arg3 : Memref sig .tc .vmem S17x17 .f32) (harg3 : arg3.IsWhole)
  (arg4 : Memref sig .tc .vmem S512x128 .i32) (harg4 : arg4.IsWhole) (arg5 : Memref sig .tc .vmem S1x1 .f32) (harg5 : arg5.IsWhole)
  (arg6 : Memref sig .tc .vmem S512x17x128 .i32) (harg6 : arg6.IsWhole) (arg7 : Memref sig .tc .vmem S17x17x128 .f32) (harg7 : arg7.IsWhole)
  (arg8 : Memref sig .tc .vmem S17x17x128 .f32) (harg8 : arg8.IsWhole) (arg9 : Memref sig .tc .vmem S17x17x128 .i32) (harg9 : arg9.IsWhole)
  (f0 : BufTy.Contents (Elt F) arg0.view.ty) (f1 : BufTy.Contents (Elt F) arg1.view.ty)
  (f2 : BufTy.Contents (Elt F) arg2.view.ty) (f3 : BufTy.Contents (Elt F) arg3.view.ty)
  (f6 : BufTy.Contents (Elt F) arg6.view.ty) (f7 : BufTy.Contents (Elt F) arg7.view.ty)
  (f8 : BufTy.Contents (Elt F) arg8.view.ty) (f9 : BufTy.Contents (Elt F) arg9.view.ty)

/-- The three tables as the loops read them. -/
def tab7 : Fin 17 → Vec F S1x17x128 .f32 := slabs arg7 (tableBuf arg7 (slab7 (square arg3 f3)))
def tab8 : Fin 17 → Vec F S1x17x128 .f32 := slabs arg8 (tableBuf arg8 (slab8 (square arg3 f3)))
def tab9 : Fin 17 → Vec F S1x17x128 .i32 := slabs arg9 (tableBuf arg9 slab9)

/-- What the forward loop starts from. -/
def start : Carry F := init (tab8 arg3 arg8 f3) (xAll arg0 f0 0) (yAll arg1 f1 0)

/-- One product of the first forward sum. -/
def term0 (k : Fin 17) : Mat F :=
  mulf (rowOf (exp (subf (xAll arg0 f0 0) (spread (colMax (xAll arg0 f0 0))))) k) (flat (tab8 arg3 arg8 f3) k)

/-- The forward loop's state before trip `n`. -/
def loop1At (n : ℕ) : Carry F × List (View.Piece (Elt F) S512x17x128 .i32) :=
  st_k0_t1 Variants.none c none arg0 harg0 arg1 harg1 arg2 harg2 arg3 harg3 arg4 harg4 arg5 harg5 arg6 harg6 arg7 harg7
    arg8 harg8 arg9 harg9 (square arg2 f2) labels (xAll arg0 f0 0) (yAll arg1 f1 0) (colMax (xAll arg0 f0 0))
    (term0 arg0 arg3 arg8 f0 f3 14) (term0 arg0 arg3 arg8 f0 f3 15) (term0 arg0 arg3 arg8 f0 f3 16)
    (tree addf (term0 arg0 arg3 arg8 f0 f3) 1 0) (tree addf (term0 arg0 arg3 arg8 f0 f3) 1 1)
    (tree addf (term0 arg0 arg3 arg8 f0 f3) 1 2) (tree addf (term0 arg0 arg3 arg8 f0 f3) 1 3)
    (tree addf (term0 arg0 arg3 arg8 f0 f3) 1 4) (tree addf (term0 arg0 arg3 arg8 f0 f3) 1 5)
    (tree addf (term0 arg0 arg3 arg8 f0 f3) 1 6) f0 f1
    (tableBuf arg7 (slab7 (square arg3 f3))) (tableBuf arg8 (slab8 (square arg3 f3))) (tableBuf arg9 slab9)
    (start arg0 arg1 arg3 arg8 f0 f1 f3) n

/-- The forward loop's state at its end. -/
def loop1 : Carry F × List (View.Piece (Elt F) S512x17x128 .i32) :=
  loop1At c arg0 harg0 arg1 harg1 arg2 harg2 arg3 harg3 arg4 harg4 arg5 harg5 arg6 harg6 arg7 harg7 arg8 harg8 arg9 harg9 f0 f1 f2 f3
    (Scf.trips k0_t1_loop.lb k0_t1_loop.ub k0_t1_loop.st)

/-- Four time steps from step `j`. -/
def quadAt (j : Fin 4 → Fin 512) (a : Carry F) : Carry F :=
  quad (tab7 arg3 arg7 f3) (tab8 arg3 arg8 f3) (tab9 arg9) (square arg2 f2) labels (fun d => xAll arg0 f0 (j d)) (fun d => yAll arg1 f1 (j d)) a

/-- One time step with its scale taken out. -/
def singleAt (j : Fin 512) (a : Carry F) : Carry F :=
  single (tab7 arg3 arg7 f3) (tab8 arg3 arg8 f3) (tab9 arg9) (square arg2 f2) (xAll arg0 f0 j) (yAll arg1 f1 j) a

/-- The carried values after the steps that follow the forward loop, up to step 510. -/
def after1 (a : Carry F) (n : ℕ) : Carry F :=
  let a1 := quadAt arg0 arg1 arg2 arg3 arg7 arg8 arg9 f0 f1 f2 f3 ![497, 498, 499, 500] a
  let a2 := quadAt arg0 arg1 arg2 arg3 arg7 arg8 arg9 f0 f1 f2 f3 ![501, 502, 503, 504] a1
  let a3 := quadAt arg0 arg1 arg2 arg3 arg7 arg8 arg9 f0 f1 f2 f3 ![505, 506, 507, 508] a2
  let a4 := singleAt arg0 arg1 arg2 arg3 arg7 arg8 arg9 f0 f1 f2 f3 509 a3
  match n with
  | 0 => a
  | 1 => a1
  | 2 => a2
  | 3 => a3
  | 4 => a4
  | _ + 5 => singleAt arg0 arg1 arg2 arg3 arg7 arg8 arg9 f0 f1 f2 f3 510 a4

/-- The carried values before the last step. -/
def ending : Carry F :=
  after1 arg0 arg1 arg2 arg3 arg7 arg8 arg9 f0 f1 f2 f3
    (loop1 c arg0 harg0 arg1 harg1 arg2 harg2 arg3 harg3 arg4 harg4 arg5 harg5 arg6 harg6 arg7 harg7 arg8 harg8 arg9 harg9 f0 f1 f2 f3).1 5

/-- A row of back pointers as a piece. -/
def bpPiece (j : Fin 512) (dp : Mat F) : View.Piece (Elt F) S512x17x128 .i32 :=
  ⟨Rect.unit (s := S512x17x128) ![j.val, 0, 0] S1x17x128.size
    (by intro a; fin_cases a <;> simp [S1x17x128, S512x17x128, Shape.size] <;> omega),
    stored (best (tab7 arg3 arg7 f3) (tab9 arg9) dp).2⟩

/-- The best scores within four steps from step `j`. -/
def within (j : Fin 4 → Fin 512) (a : Carry F) (d : ℕ) : Mat F :=
  vits (tab7 arg3 arg7 f3) (tab9 arg9) (fun d => xAll arg0 f0 (j d)) a.1 d

/-- The rows of back pointers stored after the forward loop, the last first. -/
def laterPieces (a : Carry F) : List (View.Piece (Elt F) S512x17x128 .i32) :=
  let st := after1 arg0 arg1 arg2 arg3 arg7 arg8 arg9 f0 f1 f2 f3 a
  let row := bpPiece arg3 arg7 arg9 f3
  let w := within arg0 arg3 arg7 arg9 f0 f3
  [row 511 (st 5).1, row 510 (st 4).1, row 509 (st 3).1,
   row 508 (w ![505, 506, 507, 508] (st 2) 3), row 507 (w ![505, 506, 507, 508] (st 2) 2),
   row 506 (w ![505, 506, 507, 508] (st 2) 1), row 505 (w ![505, 506, 507, 508] (st 2) 0),
   row 504 (w ![501, 502, 503, 504] (st 1) 3), row 503 (w ![501, 502, 503, 504] (st 1) 2),
   row 502 (w ![501, 502, 503, 504] (st 1) 1), row 501 (w ![501, 502, 503, 504] (st 1) 0),
   row 500 (w ![497, 498, 499, 500] (st 0) 3), row 499 (w ![497, 498, 499, 500] (st 0) 2),
   row 498 (w ![497, 498, 499, 500] (st 0) 1), row 497 (w ![497, 498, 499, 500] (st 0) 0)]

/-- The back pointers' buffer when the backtracking begins. -/
def bpBuf : BufTy.Contents (Elt F) arg6.view.ty :=
  arg6.view.writes (Elt F) f6
    (laterPieces arg0 arg1 arg2 arg3 arg7 arg8 arg9 f0 f1 f2 f3
      (loop1 c arg0 harg0 arg1 harg1 arg2 harg2 arg3 harg3 arg4 harg4 arg5 harg5 arg6 harg6 arg7 harg7 arg8 harg8 arg9 harg9 f0 f1 f2 f3).1
    ++ (loop1 c arg0 harg0 arg1 harg1 arg2 harg2 arg3 harg3 arg4 harg4 arg5 harg5 arg6 harg6 arg7 harg7 arg8 harg8 arg9 harg9 f0 f1 f2 f3).2)

/-- The best last label. -/
def lastLabel (a : Carry F) : IRow :=
  (lastScan (vit (tab7 arg3 arg7 f3) (tab9 arg9) a.1 (xAll arg0 f0 511)) 16).2

/-- The backtracking loop's state before trip `n`. -/
def loop2At (X6 : BufTy.Contents (Elt F) arg6.view.ty) (last : IRow) (n : ℕ) : IRow × List (View.Piece (Elt F) S512x128 .i32) :=
  st_k0_t2 Variants.none c none arg0 harg0 arg1 harg1 arg2 harg2 arg3 harg3 arg4 harg4 arg5 harg5 arg6 harg6 arg7 harg7
    arg8 harg8 arg9 harg9 labels X6 last n

/-- The backtracking loop's state at its end. -/
def loop2 (X6 : BufTy.Contents (Elt F) arg6.view.ty) (last : IRow) : IRow × List (View.Piece (Elt F) S512x128 .i32) :=
  loop2At c arg0 harg0 arg1 harg1 arg2 harg2 arg3 harg3 arg4 harg4 arg5 harg5 arg6 harg6 arg7 harg7 arg8 harg8 arg9 harg9 X6 last
    (Scf.trips k0_t2_loop.lb k0_t2_loop.ub k0_t2_loop.st)

/-- A row of back pointers as loaded. -/
def bpRow (X6 : BufTy.Contents (Elt F) arg6.view.ty) (j : Fin 512) : Vec F S1x17x128 .i32 :=
  View.readAt (Elt F) arg6.view (Rect.unit (s := S512x17x128) ![j.val, 0, 0] S1x17x128.size
    (by intro a; fin_cases a <;> simp [S1x17x128, S512x17x128, Shape.size] <;> omega)).toLoadRect X6

/-- A row of the path as a piece. -/
def pathPiece (j : Fin 512) (l : IRow) : View.Piece (Elt F) S512x128 .i32 :=
  ⟨Rect.unit (s := S512x128) ![j.val, 0] S1x128.size
    (by intro a; fin_cases a <;> simp [S1x128, S512x128, Shape.size] <;> omega), l⟩

/-- The path's pieces of the back pointers' buffer `X6` and the last label. -/
def pathPieces (X6 : BufTy.Contents (Elt F) arg6.view.ty) (last : IRow) : List (View.Piece (Elt F) S512x128 .i32) :=
  pathPiece 0 (backRow labels
      (loop2 c arg0 harg0 arg1 harg1 arg2 harg2 arg3 harg3 arg4 harg4 arg5 harg5 arg6 harg6 arg7 harg7 arg8 harg8 arg9 harg9 X6 last).1
      (bpRow arg6 X6 1))
    :: ((loop2 c arg0 harg0 arg1 harg1 arg2 harg2 arg3 harg3 arg4 harg4 arg5 harg5 arg6 harg6 arg7 harg7 arg8 harg8 arg9 harg9 X6 last).2
      ++ [pathPiece 511 last])

end Body

end Cert.KernelIdeal.Hand

end
-- ==== Proof.Spec.lean ====
/-
  The mathematics of the problem over the real numbers: the best path of a chain (`best path`: the first of the best labels
  at each choice), the partition function, the score of the given labels and the loss.
-/
module

public import Idealize.ShloMosaic.PureOps.Ideal
public import Idealize.ShloMosaic.Lib.Pointwise
public import Mathlib.Analysis.SpecialFunctions.Log.Basic
public import Mathlib.Tactic.Linarith
public import Mathlib.Tactic.Positivity
public import Mathlib.Tactic.Ring

@[expose] public section

noncomputable section

namespace Cert.Chain

/-- A score per label. -/
abbrev Sc := Fin 17 → ℝ

/-- The largest of the seventeen. -/
def top (f : Sc) : ℝ := Finset.univ.sup' Finset.univ_nonempty f

theorem le_top (f : Sc) (k : Fin 17) : f k ≤ top f := Finset.le_sup' f (Finset.mem_univ k)

theorem top_eq_of (f : Sc) (i : Fin 17) (h : ∀ k, f k ≤ f i) : top f = f i :=
  le_antisymm (Finset.sup'_le _ _ fun k _ => h k) (le_top f i)

theorem exists_top (f : Sc) : ∃ i, top f = f i := by
  obtain ⟨i, -, h⟩ := Finset.exists_mem_eq_sup' Finset.univ_nonempty f
  exact ⟨i, h⟩

theorem best_nonempty (f : Sc) : (Finset.univ.filter fun i => ∀ k, f k ≤ f i).Nonempty := by
  obtain ⟨i, h⟩ := exists_top f
  exact ⟨i, by simp only [Finset.mem_filter, Finset.mem_univ, true_and]; intro k; rw [← h]; exact le_top f k⟩

/-- The first label of the largest score. -/
def first (f : Sc) : Fin 17 := (Finset.univ.filter fun i => ∀ k, f k ≤ f i).min' (best_nonempty f)

/-- `i` is the first place of the largest. -/
def IsFirst (f : Sc) (i : Fin 17) : Prop := (∀ k, f k ≤ f i) ∧ ∀ k < i, f k < f i

theorem isFirst_unique {f : Sc} {i i' : Fin 17} (h : IsFirst f i) (h' : IsFirst f i') : i = i' := by
  rcases lt_trichotomy i i' with hl | hl | hl
  · exact absurd (h'.2 i hl) (not_lt.2 (h.1 i'))
  · exact hl
  · exact absurd (h.2 i' hl) (not_lt.2 (h'.1 i))

theorem isFirst_first (f : Sc) : IsFirst f (first f) := by
  have hm := Finset.min'_mem _ (best_nonempty f)
  simp only [Finset.mem_filter, Finset.mem_univ, true_and] at hm
  refine ⟨hm, fun k hk => lt_of_le_of_ne (hm k) fun e => ?_⟩
  have : first f ≤ k := Finset.min'_le _ _ (by
    simp only [Finset.mem_filter, Finset.mem_univ, true_and]; intro j; rw [e]; exact hm j)
  exact absurd hk (not_lt.2 this)

theorem first_eq {f : Sc} {i : Fin 17} (h : IsFirst f i) : first f = i := isFirst_unique (isFirst_first f) h

theorem top_first (f : Sc) : top f = f (first f) := top_eq_of f _ (isFirst_first f).1

/-- Adding the same number everywhere moves no first largest place. -/
theorem first_add (f : Sc) (r : ℝ) : first (fun k => f k + r) = first f := by
  refine first_eq ⟨fun k => ?_, fun k hk => ?_⟩
  · have := (isFirst_first f).1 k; linarith
  · have := (isFirst_first f).2 k hk; linarith

theorem top_add (f : Sc) (r : ℝ) : top (fun k => f k + r) = top f + r := by
  rw [top_first, first_add, top_first f]

/-! ## The chain -/

variable (X : ℕ → Sc) (a : Fin 17 → Sc) (Y : ℕ → Fin 17)

/-- The best score of a path that ends in each label at step `j`. -/
def D : ℕ → Sc
  | 0 => X 0
  | j + 1 => fun l => top (fun k => D j k + a k l) + X (j + 1) l

/-- The best label before label `l` at step `j + 1`. -/
def bp (j : ℕ) (l : Fin 17) : Fin 17 := first fun k => D X a j k + a k l

/-- The best path of 512 steps, from its end. -/
def back : ℕ → Fin 17
  | 0 => first (D X a 511)
  | n + 1 => bp X a (510 - n) (back n)

/-- The forward sums. -/
def Z : ℕ → Sc
  | 0 => fun l => ∑ k, Real.exp (X 0 k) * Real.exp (a k l)
  | j + 1 => fun l => ∑ k, Real.exp (X (j + 1) k) * Z j k * Real.exp (a k l)

theorem Z_pos : ∀ (j : ℕ) (l : Fin 17), 0 < Z X a j l
  | 0, l => Finset.sum_pos (fun k _ => by positivity) Finset.univ_nonempty
  | j + 1, l => Finset.sum_pos (fun k _ => mul_pos (mul_pos (Real.exp_pos _) (Z_pos j k)) (Real.exp_pos _)) Finset.univ_nonempty

/-- The logarithm of the partition function. -/
def logZ : ℝ := Real.log (∑ l, Real.exp (X 511 l) * Z X a 510 l)

/-- The score of the given labels up to step `j`. -/
def score : ℕ → ℝ
  | 0 => X 0 (Y 0)
  | j + 1 => score j + (X (j + 1) (Y (j + 1)) + a (Y (j + 1)) (Y j))

theorem score_eq (n : ℕ) : score X a Y n
    = (∑ j ∈ Finset.range (n + 1), X j (Y j)) + ∑ j ∈ Finset.range n, a (Y (j + 1)) (Y j) := by
  induction n with
  | zero => simp [score]
  | succ n ih =>
    rw [score, ih, Finset.sum_range_succ (fun j => X j (Y j)) (n + 1), Finset.sum_range_succ (fun j => a (Y (j + 1)) (Y j)) n]; ring

/-- Taking the largest out of a logarithm of a sum of exponentials. -/
theorem lse (f : Sc) (m : ℝ) : Real.log (∑ k, Real.exp (f k - m)) + m = Real.log (∑ k, Real.exp (f k)) := by
  have h : ∑ k, Real.exp (f k) = Real.exp m * ∑ k, Real.exp (f k - m) := by
    rw [Finset.mul_sum]; refine Finset.sum_congr rfl fun k _ => ?_; rw [← Real.exp_add]; ring_nf
  rw [h, Real.log_mul (Real.exp_pos _).ne' (Finset.sum_pos (fun _ _ => Real.exp_pos _) Finset.univ_nonempty).ne', Real.log_exp, add_comm]

end Cert.Chain

end
-- ==== Proof.Values.lean ====
/-
  The functions of `Steps` read at an element, over the extended reals: what the trees, the column reductions and the gold
  score are where the operands are real numbers.
-/
module

public import proofs.«01_k».proof.Proof.StepsRun
public import proofs.«01_k».proof.Proof.Spec
public import Idealize.ShloMosaic.Lib.Pointwise
public import Idealize.ShloMosaic.PureOps.Ideal.Laws

@[expose] public section

noncomputable section

namespace Cert.KernelIdeal.Hand

open Cert.KernelIdeal Cert.KernelIdeal.Gen Cert.Chain
open Idealize.ShloMosaic Idealize.ShloMosaic.TcCoe

variable (l : Fin 17) (b : Fin 128)

theorem rowOf_at (u : Mat Ideal) (k : Fin 17) : rowOf u k (ix2 l b) = u (ix2 k b) := by
  pointwise [rowOf]

theorem spread_at (r : Row Ideal) : spread r (ix2 l b) = r (ix2 0 b) := by
  pointwise [spread]

theorem flat_at {e : EltTy} (T : Fin 17 → Vec Ideal S1x17x128 e) (k : Fin 17) : flat T k (ix2 l b) = T k (ix3 0 l b) := by
  pointwise [flat]

theorem stored_at (v : IMat) : stored v (ix3 0 l b) = v (ix2 l b) := by
  pointwise [stored]

theorem colMax_at (u : Mat Ideal) : colMax u (ix2 0 b) = (Finset.univ : Finset (Fin 17)).fold max (Ideal.ofBits .f32 0xFF800000#32) fun k => u (ix2 k b) := by
  pointwise [colMax]

theorem colSum_at (u : Mat Ideal) : colSum u (ix2 0 b) = ∑ k, u (ix2 k b) := by
  pointwise [colSum]

theorem isLabel_at (y : IRow) : isLabel labels y (ix2 l b) = IntOp.cmpi .eq (BitVec.ofNat 32 l.val) (y (ix2 0 b)) := by
  pointwise [isLabel, labels]

theorem gold_at (A : Vec Ideal S17x17 .f32) (acc : Mat Ideal) (yp yj : IRow) (xj : Mat Ideal) :
    gold A labels acc yp yj xj (ix2 l b)
      = acc (ix2 l b) + Scalar.select (isLabel labels yj (ix2 l b))
          (xj (ix2 l b) + ∑ x, A (ix2 l x) * (FloatOps.sitofp FTy.f32 (BitVec.setWidth 32 (isLabel labels yp (ix2 x b))) : Ideal .f32)) (0 : EReal) := by
  pointwise [gold]

theorem backRow_at (cur : IRow) (t : Vec Ideal S1x17x128 .i32) : backRow (F := Ideal) labels cur t (ix2 0 b)
    = Finset.fold IntOp.maxsi (2147483648#32) (fun x => Scalar.select (isLabel labels cur (ix2 x b)) (t (ix3 0 x b)) 0#32)
      (Finset.univ : Finset (Fin 17)) := by
  pointwise [backRow]

/-! ## Scalars -/

/-- Label `k` as a word. -/
abbrev word (k : Fin 17) : BitVec 32 := BitVec.ofNat 32 k.val

theorem cmpi_word (k y : Fin 17) : IntOp.cmpi .eq (word k) (word y) = if k = y then 1#1 else 0#1 := by
  revert k y; decide

theorem select_word {α : Type} (k y : Fin 17) (p q : α) :
    Scalar.select (IntOp.cmpi .eq (word k) (word y)) p q = if k = y then p else q := by
  rw [cmpi_word]; split <;> rfl

theorem neg_inf : Ideal.ofBits .f32 0xFF800000#32 = ⊥ := by
  simp [Ideal.ofBits, Ideal.ieee]

theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

theorem fold_top (f : Sc) : (Finset.univ : Finset (Fin 17)).fold max (⊥ : EReal) (fun k => (f k : EReal)) = (top f : EReal) := by
  obtain ⟨i, hi⟩ := exists_top f
  apply le_antisymm
  · rw [Finset.fold_max_le]
    exact ⟨bot_le, fun k _ => EReal.coe_le_coe_iff.2 (le_top f k)⟩
  · rw [Finset.le_fold_max]
    exact .inr ⟨i, Finset.mem_univ i, by rw [hi]⟩

theorem maxsi_word (k y : Fin 17) : IntOp.maxsi (word k) (word y) = word (max k y) := by
  revert k y; decide

theorem maxsi_low (k : Fin 17) : IntOp.maxsi (word k) 2147483648#32 = word k := by
  revert k; decide

theorem fold_pick (cur q : Fin 17) (s : Finset (Fin 17)) :
    s.fold IntOp.maxsi (2147483648#32) (fun x => if x = cur then word q else 0#32)
      = if s = ∅ then 2147483648#32 else if cur ∈ s then word q else word 0 := by
  induction s using Finset.induction_on with
  | empty => simp
  | insert k s hk ih =>
    rw [Finset.fold_insert hk, ih]
    have hne : insert k s ≠ ∅ := Finset.insert_ne_empty k s
    rw [if_neg hne]
    by_cases h : k = cur
    · subst h
      simp only [if_true, Finset.mem_insert_self, if_neg hk]
      split
      · exact maxsi_low q
      · rw [maxsi_word]; simp
    · rw [if_neg h, show (0#32 : BitVec 32) = word 0 from rfl]
      simp only [Finset.mem_insert, Ne.symm h, false_or]
      split
      · next h0 => subst h0; simp [maxsi_low]
      · split
        · rw [maxsi_word]; simp
        · rw [maxsi_word]; simp

theorem one_hot (k y : Fin 17) :
    (FloatOps.sitofp FTy.f32 (BitVec.setWidth 32 (IntOp.cmpi .eq (word k) (word y))) : Ideal .f32) = ((if k = y then (1 : ℝ) else 0 : ℝ) : EReal) := by
  rw [cmpi_word]
  split <;> simp [FloatOps.sitofp]

/-! ## Values at real operands -/

variable {l b}

theorem colMax_real {u : Mat Ideal} {f : Sc} (h : ∀ k, u (ix2 k b) = (f k : EReal)) : colMax u (ix2 0 b) = (top f : EReal) := by
  rw [colMax_at, neg_inf, ← fold_top]; simp only [h]

theorem colSum_real {u : Mat Ideal} {f : Sc} (h : ∀ k, u (ix2 k b) = (f k : EReal)) : colSum u (ix2 0 b) = ((∑ k, f k : ℝ) : EReal) := by
  rw [colSum_at]; simp only [h]; rw [coe_sum]

theorem gold_real {A : Vec Ideal S17x17 .f32} {acc xj : Mat Ideal} {yp yj : IRow} {a : Fin 17 → Sc} {ar x : Sc} {p q : Fin 17}
    (hA : ∀ i k, A (ix2 i k) = (a i k : EReal)) (hacc : ∀ k, acc (ix2 k b) = (ar k : EReal)) (hx : ∀ k, xj (ix2 k b) = (x k : EReal))
    (hp : yp (ix2 0 b) = word p) (hq : yj (ix2 0 b) = word q) (k : Fin 17) :
    gold A labels acc yp yj xj (ix2 k b) = ((ar k + if k = q then x k + a k p else 0 : ℝ) : EReal) := by
  rw [gold_at, isLabel_at, hq, select_word, hacc, hx]
  simp only [isLabel_at, hp, one_hot, hA, ← EReal.coe_mul, ← coe_sum, ← EReal.coe_add]
  split
  · simp [← EReal.coe_add]
  · simp

theorem backRow_real {cur : IRow} {t : Vec Ideal S1x17x128 .i32} {q : Fin 17 → Fin 17} {p : Fin 17}
    (hc : cur (ix2 0 b) = word p) (ht : ∀ k, t (ix3 0 k b) = word (q k)) :
    backRow (F := Ideal) labels cur t (ix2 0 b) = word (q p) := by
  rw [backRow_at]
  have : (fun x => Scalar.select (isLabel labels cur (ix2 x b)) (t (ix3 0 x b)) 0#32)
      = fun x : Fin 17 => if x = p then word (q p) else 0#32 := by
    funext x
    rw [isLabel_at, hc, select_word, ht]
    split
    · next h => rw [h]
    · rfl
  rw [this, fold_pick, if_neg Finset.univ_nonempty.ne_empty, if_pos (Finset.mem_univ _)]

/-! ### The best of the predecessors -/

/-- `v` is the largest of the scores at places `lo … hi - 1` and `w` its first place. -/
def Covers (s : Sc) (v : EReal) (w : BitVec 32) (lo hi : ℕ) : Prop :=
  ∃ m : Fin 17, lo ≤ m.val ∧ m.val < hi ∧ v = (s m : EReal) ∧ w = word m ∧
    ∀ k : Fin 17, lo ≤ k.val → k.val < hi → s k ≤ s m ∧ (k < m → s k < s m)

theorem covers_one (s : Sc) (k : Fin 17) : Covers s (s k) (word k) k.val (k.val + 1) :=
  ⟨k, le_rfl, Nat.lt_succ_self _, rfl, rfl, fun k' h h' => by
    have : k' = k := Fin.ext (by omega)
    subst this; exact ⟨le_rfl, fun h => absurd h (lt_irrefl _)⟩⟩

theorem covers_join {s : Sc} {v v' : EReal} {w w' : BitVec 32} {lo mid hi : ℕ} (h : Covers s v w lo mid) (h' : Covers s v' w' mid hi) :
    Covers s (max v v') (Scalar.select (Ideal.cmp .ogt v' v) w' w) lo hi := by
  obtain ⟨m, h1, h2, rfl, rfl, h3⟩ := h
  obtain ⟨m', h1', h2', rfl, rfl, h3'⟩ := h'
  by_cases hlt : s m < s m'
  · refine ⟨m', by omega, h2', ?_, ?_, fun k hk hk' => ?_⟩
    · exact max_eq_right (EReal.coe_le_coe_iff.2 hlt.le)
    · simp [Ideal.cmp, Scalar.select, hlt]
    · by_cases hm : k.val < mid
      · exact ⟨((h3 k hk hm).1.trans_lt hlt).le, fun _ => (h3 k hk hm).1.trans_lt hlt⟩
      · exact h3' k (by omega) hk'
  · refine ⟨m, h1, by omega, ?_, ?_, fun k hk hk' => ?_⟩
    · exact max_eq_left (EReal.coe_le_coe_iff.2 (not_lt.1 hlt))
    · simp [Ideal.cmp, Scalar.select, hlt]
    · by_cases hm : k.val < mid
      · exact h3 k hk hm
      · exact ⟨(h3' k (by omega) hk').1.trans (not_lt.1 hlt), fun hkm => absurd (Fin.lt_def.1 hkm) (by omega)⟩

theorem covers_all {s : Sc} {v : EReal} {w : BitVec 32} (h : Covers s v w 0 17) : v = (top s : EReal) ∧ w = word (first s) := by
  obtain ⟨m, -, -, rfl, rfl, h⟩ := h
  have hm : first s = m := first_eq ⟨fun k => (h k (Nat.zero_le _) k.isLt).1, fun k hk => (h k (Nat.zero_le _) k.isLt).2 hk⟩
  rw [top_first, hm]; exact ⟨rfl, rfl⟩

theorem tree_covers {s : Sc} {g : Fin 17 → Mat Ideal × IMat} (hg : ∀ k, (g k).1 (ix2 l b) = (s k : EReal))
    (hg' : ∀ k, (g k).2 (ix2 l b) = word k) : ∀ n i : ℕ, 2 ^ n * (i + 1) ≤ 17 →
      Covers s ((tree pick g n i).1 (ix2 l b)) ((tree pick g n i).2 (ix2 l b)) (2 ^ n * i) (2 ^ n * (i + 1))
  | 0, i, h => by
    have hi : i < 17 := by omega
    have := covers_one s (⟨i, hi⟩ : Fin 17)
    have e : (Fin.ofNat 17 i) = ⟨i, hi⟩ := Fin.ext (Nat.mod_eq_of_lt hi)
    simp only [tree, hg, hg', e, pow_zero, one_mul]
    exact this
  | n + 1, i, h => by
    have e1 : 2 ^ (n + 1) * i = 2 ^ n * (2 * i) := by ring
    have e2 : 2 ^ (n + 1) * (i + 1) = 2 ^ n * (2 * i + 1 + 1) := by ring
    rw [e2] at h
    have h1 := tree_covers hg hg' n (2 * i) (le_trans (Nat.mul_le_mul_left _ (by omega)) h)
    have h2 := tree_covers hg hg' n (2 * i + 1) h
    rw [e1, e2]
    exact covers_join h1 h2

theorem best_real {T7 : Fin 17 → Vec Ideal S1x17x128 .f32} {T9 : Fin 17 → Vec Ideal S1x17x128 .i32} {dp : Mat Ideal} {f : Sc}
    {a : Fin 17 → Sc} (h7 : ∀ k l b, T7 k (ix3 0 l b) = (a k l : EReal)) (h9 : ∀ k l b, T9 k (ix3 0 l b) = word k)
    (hd : ∀ k, dp (ix2 k b) = (f k : EReal)) (l : Fin 17) :
    (best T7 T9 dp).1 (ix2 l b) = ((top fun k => f k + a k l : ℝ) : EReal)
      ∧ (best T7 T9 dp).2 (ix2 l b) = word (first fun k => f k + a k l) := by
  let g : Fin 17 → Mat Ideal × IMat := fun k => (addf (rowOf dp k) (flat T7 k), flat T9 k)
  have hg : ∀ k, (g k).1 (ix2 l b) = ((f k + a k l : ℝ) : EReal) := by
    intro k
    show addf (rowOf dp k) (flat T7 k) (ix2 l b) = _
    pointwise
    rw [rowOf_at, flat_at, hd, h7, EReal.coe_add]
  have hg' : ∀ k, (g k).2 (ix2 l b) = word k := by
    intro k
    show flat T9 k (ix2 l b) = _
    rw [flat_at, h9]
  refine covers_all (covers_join (tree_covers hg hg' 4 0 (by norm_num)) ?_)
  rw [hg, hg']
  exact covers_one (fun k => f k + a k l) 16

theorem vit_real {T7 : Fin 17 → Vec Ideal S1x17x128 .f32} {T9 : Fin 17 → Vec Ideal S1x17x128 .i32} {dp x : Mat Ideal} {f xr : Sc}
    {a : Fin 17 → Sc} (h7 : ∀ k l b, T7 k (ix3 0 l b) = (a k l : EReal)) (h9 : ∀ k l b, T9 k (ix3 0 l b) = word k)
    (hd : ∀ k, dp (ix2 k b) = (f k : EReal)) (hx : ∀ k, x (ix2 k b) = (xr k : EReal)) (l : Fin 17) :
    vit T7 T9 dp x (ix2 l b) = ((top (fun k => f k + a k l) + xr l : ℝ) : EReal) := by
  pointwise [vit]
  rw [(best_real h7 h9 hd l).1, hx, EReal.coe_add]

theorem lastRow_at (dp : Mat Ideal) (k : Fin 17) : lastRow dp k (ix2 0 b) = dp (ix2 k b) := by
  pointwise [lastRow]

theorem lastScan_covers {dp : Mat Ideal} {f : Sc} (hd : ∀ k, dp (ix2 k b) = (f k : EReal)) : ∀ n : ℕ, n < 17 →
    Covers f ((lastScan dp n).1 (ix2 0 b)) ((lastScan dp n).2 (ix2 0 b)) 0 (n + 1)
  | 0, _ => by
    have := covers_one f 0
    rw [← hd, ← lastRow_at dp] at this
    exact this
  | n + 1, h => by
    have h1 := lastScan_covers hd n (by omega)
    have e : (Fin.ofNat 17 (n + 1)) = ⟨n + 1, h⟩ := Fin.ext (Nat.mod_eq_of_lt h)
    have h2 := covers_join h1 (covers_one f ⟨n + 1, h⟩)
    rw [← hd, ← lastRow_at dp] at h2
    have ev : (lastScan dp (n + 1)).1 (ix2 0 b) = max ((lastScan dp n).1 (ix2 0 b)) (lastRow dp ⟨n + 1, h⟩ (ix2 0 b)) := by
      simp only [lastScan, e]
      show Scalar.select (Ideal.cmp .ogt _ _) _ _ = _
      by_cases hc : (lastScan dp n).1 (ix2 0 b) < lastRow dp ⟨n + 1, h⟩ (ix2 0 b)
      · simp [Ideal.cmp, Scalar.select, hc, max_eq_right hc.le]
      · simp [Ideal.cmp, Scalar.select, hc, max_eq_left (not_lt.1 hc)]
    have ew : (lastScan dp (n + 1)).2 (ix2 0 b)
        = Scalar.select (Ideal.cmp .ogt (lastRow dp ⟨n + 1, h⟩ (ix2 0 b)) ((lastScan dp n).1 (ix2 0 b))) (word ⟨n + 1, h⟩)
          ((lastScan dp n).2 (ix2 0 b)) := by
      simp only [lastScan, e]; rfl
    rw [ev, ew]
    exact h2

theorem lastScan_real {dp : Mat Ideal} {f : Sc} (hd : ∀ k, dp (ix2 k b) = (f k : EReal)) :
    (lastScan dp 16).2 (ix2 0 b) = word (first f) :=
  (covers_all (lastScan_covers hd 16 (by norm_num))).2

/-! ### The forward sums -/

theorem tree_sum {g : Fin 17 → Mat Ideal} {s : Sc} (h : ∀ k, g k (ix2 l b) = (s k : EReal)) :
    tree17 addf g (ix2 l b) = ((∑ k, s k : ℝ) : EReal) := by
  simp only [tree17, tree]
  pointwise
  simp only [h, ← EReal.coe_add]
  congr 1
  simp only [Fin.sum_univ_succ, Fin.sum_univ_zero]
  simp only [Fin.ofNat]
  norm_num [Fin.succ]
  ring_nf
  try rfl

theorem fwd_real {T8 : Fin 17 → Vec Ideal S1x17x128 .f32} {u : Mat Ideal} {w : Sc} {e : Fin 17 → Sc}
    (h8 : ∀ k l b, T8 k (ix3 0 l b) = (e k l : EReal)) (hu : ∀ k, u (ix2 k b) = (w k : EReal)) (l : Fin 17) :
    fwd T8 u (ix2 l b) = ((∑ k, w k * e k l : ℝ) : EReal) := by
  refine tree_sum fun k => ?_
  pointwise
  rw [rowOf_at, flat_at, hu, h8, EReal.coe_mul]

theorem fstep_real {T8 : Fin 17 → Vec Ideal S1x17x128 .f32} {u x : Mat Ideal} {w xr : Sc} {e : Fin 17 → Sc}
    (h8 : ∀ k l b, T8 k (ix3 0 l b) = (e k l : EReal)) (hu : ∀ k, u (ix2 k b) = (w k : EReal)) (hx : ∀ k, x (ix2 k b) = (xr k : EReal))
    (l : Fin 17) : fstep T8 u x (ix2 l b) = ((∑ k, w k * Real.exp (xr k) * e k l : ℝ) : EReal) := by
  refine fwd_real (w := fun k => w k * Real.exp (xr k)) h8 (fun k => ?_) l
  pointwise
  rw [hu, hx, Ideal.exp_coe, EReal.coe_mul]

theorem recip_real {s : Row Ideal} {r : ℝ} (h : s (ix2 0 b) = (r : EReal)) (hr : r ≠ 0) (l : Fin 17) :
    recip s (ix2 l b) = ((1 / r : ℝ) : EReal) := by
  rw [recip, spread_at]
  pointwise
  rw [h, Ideal.div, if_neg (by exact_mod_cast hr), one_mul, ← EReal.coe_inv, one_div]

theorem log_real {r : ℝ} (hr : 0 < r) : Ideal.log (r : EReal) = (Real.log r : EReal) := if_neg (not_le.2 hr)

end Cert.KernelIdeal.Hand

end
-- ==== Proof.Invariant.lean ====
/-
  What the forward loop carries, as real numbers: the best scores, the forward sums with their scale taken out, and the score
  of the given labels. One step, a group of four steps and the loss keep to the chain's mathematics (`Spec`).
-/
module

public import proofs.«01_k».proof.Proof.Values

@[expose] public section

noncomputable section

namespace Cert.KernelIdeal.Hand

open Cert.KernelIdeal Cert.KernelIdeal.Gen Cert.Chain
open Idealize.ShloMosaic Idealize.ShloMosaic.TcCoe

/-! ## The chain's steps, homogeneous -/

/-- One forward sum. -/
def adv (a : Fin 17 → Sc) (x w : Sc) : Sc := fun l => ∑ k, w k * Real.exp (x k) * Real.exp (a k l)

theorem adv_smul (a : Fin 17 → Sc) (x w : Sc) (r : ℝ) : adv a x (fun k => r * w k) = fun l => r * adv a x w l := by
  funext l
  simp only [adv, Finset.mul_sum]
  exact Finset.sum_congr rfl fun k _ => by ring

theorem adv_Z (X : ℕ → Sc) (a : Fin 17 → Sc) (j : ℕ) : adv a (X (j + 1)) (Z X a j) = Z X a (j + 1) := by
  funext l
  exact Finset.sum_congr rfl fun k _ => by ring

theorem gold_sum (s : Sc) (x : Sc) (a : Fin 17 → Sc) (p q : Fin 17) :
    ∑ k, (s k + if k = q then x k + a k p else 0) = (∑ k, s k) + (x q + a q p) := by
  rw [Finset.sum_add_distrib]; simp

/-! ## The invariant -/

/-- The tables hold the transition scores, their exponentials and the labels. -/
structure Tables (a : Fin 17 → Sc) (A : Vec Ideal S17x17 .f32) (T7 T8 : Fin 17 → Vec Ideal S1x17x128 .f32)
    (T9 : Fin 17 → Vec Ideal S1x17x128 .i32) : Prop where
  hA : ∀ i k, A (ix2 i k) = (a i k : EReal)
  h7 : ∀ k l b, T7 k (ix3 0 l b) = (a k l : EReal)
  h8 : ∀ k l b, T8 k (ix3 0 l b) = (Real.exp (a k l) : EReal)
  h9 : ∀ k l b, T9 k (ix3 0 l b) = word k

/-- The values carried after step `j`, for sequence `b`. -/
structure Inv (X : ℕ → Sc) (a : Fin 17 → Sc) (Y : ℕ → Fin 17) (b : Fin 128) (j : ℕ) (c : Carry Ideal) : Prop where
  dp : ∀ l, c.1 (ix2 l b) = (D X a j l : EReal)
  weights : ∃ (w : Sc) (r : ℝ), (∀ l, c.2.1 (ix2 l b) = (w l : EReal)) ∧ c.2.2.1 (ix2 0 b) = (r : EReal)
    ∧ ∀ l, Real.exp r * w l = Z X a j l
  given : ∃ s : Sc, (∀ l, c.2.2.2.1 (ix2 l b) = (s l : EReal)) ∧ ∑ l, s l = score X a Y j
  label : c.2.2.2.2 (ix2 0 b) = word (Y j)

variable {X : ℕ → Sc} {a : Fin 17 → Sc} {Y : ℕ → Fin 17} {b : Fin 128}
  {A : Vec Ideal S17x17 .f32} {T7 T8 : Fin 17 → Vec Ideal S1x17x128 .f32} {T9 : Fin 17 → Vec Ideal S1x17x128 .i32}

theorem weights_pos {w : Sc} {r : ℝ} {j : ℕ} (h : ∀ l, Real.exp r * w l = Z X a j l) (l : Fin 17) : 0 < w l := by
  have := Z_pos X a j l
  rw [← h] at this
  exact (mul_pos_iff_of_pos_left (Real.exp_pos r)).1 this

theorem top_pos {w : Sc} (h : ∀ l, 0 < w l) : 0 < top w := (h 0).trans_le (le_top w 0)

/-- The weights after some steps `W` (homogeneous), with the scale of before taken out. -/
theorem scaled {w w' : Sc} {r : ℝ} {j j' : ℕ} (h : ∀ l, Real.exp r * w l = Z X a j l) (h' : ∀ l, Real.exp r * w' l = Z X a j' l) (l : Fin 17) :
    Real.exp (r + Real.log (top w)) * (w' l * (1 / top w)) = Z X a j' l := by
  have hp := top_pos (weights_pos h)
  rw [Real.exp_add, Real.exp_log hp, ← h']
  field_simp

theorem adv_next {w : Sc} {r : ℝ} {j : ℕ} (h : ∀ l, Real.exp r * w l = Z X a j l) (l : Fin 17) :
    Real.exp r * adv a (X (j + 1)) w l = Z X a (j + 1) l := by
  rw [← adv_Z, ← funext h, adv_smul]

theorem scale_at {c : Carry Ideal} {w : Sc} {r : ℝ} (hw : ∀ l, c.2.1 (ix2 l b) = (w l : EReal)) (hr : c.2.2.1 (ix2 0 b) = (r : EReal))
    (hp : 0 < top w) : (addf c.2.2.1 (log (colMax c.2.1)) : Row Ideal) (ix2 0 b) = ((r + Real.log (top w) : ℝ) : EReal) := by
  pointwise
  rw [hr, colMax_real hw, log_real hp, EReal.coe_add]

theorem weights_at {c : Carry Ideal} {u : Mat Ideal} {w w' : Sc} (hw : ∀ l, c.2.1 (ix2 l b) = (w l : EReal)) (hu : ∀ l, u (ix2 l b) = (w' l : EReal))
    (hp : 0 < top w) (l : Fin 17) : (mulf u (recip (colMax c.2.1)) : Mat Ideal) (ix2 l b) = ((w' l * (1 / top w) : ℝ) : EReal) := by
  pointwise
  rw [hu, recip_real (colMax_real hw) hp.ne', EReal.coe_mul]

theorem single_inv (T : Tables a A T7 T8 T9) {j : ℕ} {c : Carry Ideal} (h : Inv X a Y b j c) {x : Mat Ideal} {y : IRow}
    (hx : ∀ l, x (ix2 l b) = (X (j + 1) l : EReal)) (hy : y (ix2 0 b) = word (Y (j + 1))) :
    Inv X a Y b (j + 1) (single T7 T8 T9 A x y c) := by
  obtain ⟨w, r, hw, hr, hZ⟩ := h.weights
  obtain ⟨s, hs, hsum⟩ := h.given
  have hp := top_pos (weights_pos hZ)
  refine ⟨fun l => vit_real T.h7 T.h9 h.dp hx l, ⟨_, _, fun l => weights_at hw (fun l => fstep_real T.h8 hw hx l) hp l, scale_at hw hr hp, ?_⟩,
    ⟨_, fun l => gold_real T.hA hs hx h.label hy l, ?_⟩, hy⟩
  · exact fun l => scaled hZ (adv_next hZ) l
  · rw [gold_sum, hsum]; rfl

theorem quad_inv (T : Tables a A T7 T8 T9) {j : ℕ} {c : Carry Ideal} (h : Inv X a Y b j c) {x : Fin 4 → Mat Ideal} {y : Fin 4 → IRow}
    (hx : ∀ (d : Fin 4) l, x d (ix2 l b) = (X (j + d.val + 1) l : EReal)) (hy : ∀ d : Fin 4, y d (ix2 0 b) = word (Y (j + d.val + 1))) :
    Inv X a Y b (j + 4) (quad T7 T8 T9 A labels x y c) := by
  obtain ⟨w, r, hw, hr, hZ⟩ := h.weights
  obtain ⟨s, hs, hsum⟩ := h.given
  have hp := top_pos (weights_pos hZ)
  have v1 := vit_real T.h7 T.h9 h.dp (hx 0)
  have v2 := vit_real T.h7 T.h9 v1 (hx 1)
  have v3 := vit_real T.h7 T.h9 v2 (hx 2)
  have v4 := vit_real T.h7 T.h9 v3 (hx 3)
  have f1 := fstep_real T.h8 hw (hx 0)
  have f2 := fstep_real T.h8 f1 (hx 1)
  have f3 := fstep_real T.h8 f2 (hx 2)
  have f4 := fstep_real T.h8 f3 (hx 3)
  have g1 := gold_real T.hA hs (hx 0) h.label (hy 0)
  have g2 := gold_real T.hA g1 (hx 1) (hy 0) (hy 1)
  have g3 := gold_real T.hA g2 (hx 2) (hy 1) (hy 2)
  have g4 := gold_real T.hA g3 (hx 3) (hy 2) (hy 3)
  refine ⟨v4, ⟨_, _, fun l => weights_at hw f4 hp l, scale_at hw hr hp, ?_⟩, ⟨_, g4, ?_⟩, hy 3⟩
  · exact fun l => scaled hZ (adv_next (adv_next (adv_next (adv_next hZ)))) l
  · rw [gold_sum, gold_sum, gold_sum, gold_sum, hsum]; rfl

theorem vits_real (T : Tables a A T7 T8 T9) {j : ℕ} {u : Mat Ideal} (h : ∀ l, u (ix2 l b) = (D X a j l : EReal)) {x : Fin 4 → Mat Ideal}
    (hx : ∀ (d : Fin 4) l, x d (ix2 l b) = (X (j + d.val + 1) l : EReal)) : ∀ d : ℕ, d ≤ 4 → ∀ l,
      vits T7 T9 x u d (ix2 l b) = (D X a (j + d) l : EReal)
  | 0, _ => h
  | d + 1, hd => by
    have e : (Fin.ofNat 4 d).val = d := Nat.mod_eq_of_lt hd
    have hx' := hx (Fin.ofNat 4 d)
    rw [e] at hx'
    exact vit_real T.h7 T.h9 (vits_real T h hx d (by omega)) hx'

theorem stored_best (T : Tables a A T7 T8 T9) {j : ℕ} {u : Mat Ideal} (h : ∀ l, u (ix2 l b) = (D X a j l : EReal)) (l : Fin 17) :
    stored (best T7 T9 u).2 (ix3 0 l b) = word (bp X a j l) := by
  rw [stored_at]
  exact (best_real T.h7 T.h9 h l).2

theorem init_inv (T : Tables a A T7 T8 T9) {x : Mat Ideal} {y : IRow} (hx : ∀ l, x (ix2 l b) = (X 0 l : EReal)) (hy : y (ix2 0 b) = word (Y 0)) :
    Inv X a Y b 0 (init T8 x y) := by
  have he : ∀ l, (exp (subf x (spread (colMax x))) : Mat Ideal) (ix2 l b) = (Real.exp (X 0 l - top (X 0)) : EReal) := by
    intro l
    pointwise
    rw [hx, spread_at, colMax_real hx, ← EReal.coe_sub, Ideal.exp_coe]
  refine ⟨hx, ⟨_, _, fun l => fwd_real T.h8 he l, colMax_real hx, fun l => ?_⟩, ⟨fun l => if l = Y 0 then X 0 l else 0, fun l => ?_, ?_⟩, hy⟩
  · show _ = ∑ k, _
    rw [Finset.mul_sum]
    refine Finset.sum_congr rfl fun k _ => ?_
    rw [← mul_assoc, ← Real.exp_add]; ring_nf
  · show (select (isLabel labels y) x (broadcast S17x128 (Scalar.ofBits .f32 0x00000000#32)) : Mat Ideal) (ix2 l b) = _
    pointwise
    rw [isLabel_at, hy, select_word, hx]
    split <;> simp
  · simp [score]

/-- The difference of one sequence, in the loss. -/
theorem loss_row (T : Tables a A T7 T8 T9) {c : Carry Ideal} (h : Inv X a Y b 510 c) {x : Mat Ideal} {y : IRow}
    (hx : ∀ l, x (ix2 l b) = (X 511 l : EReal)) (hy : y (ix2 0 b) = word (Y 511)) :
    let v : Mat Ideal := addf x (addf (spread c.2.2.1) (log c.2.1))
    let z : Row Ideal := addf (colMax v) (log (colSum (exp (subf v (spread (colMax v))))))
    (subf z (colSum (gold A labels c.2.2.2.1 c.2.2.2.2 y x)) : Row Ideal) (ix2 0 b) = ((logZ X a - score X a Y 511 : ℝ) : EReal) := by
  intro v z
  obtain ⟨w, r, hw, hr, hZ⟩ := h.weights
  obtain ⟨s, hs, hsum⟩ := h.given
  have hv : ∀ l, v (ix2 l b) = ((X 511 l + (r + Real.log (w l)) : ℝ) : EReal) := by
    intro l
    show (addf x (addf (spread c.2.2.1) (log c.2.1)) : Mat Ideal) (ix2 l b) = _
    pointwise
    rw [hx, spread_at, hr, hw, log_real (weights_pos hZ l), EReal.coe_add, EReal.coe_add]
  have he : ∀ l, (exp (subf v (spread (colMax v))) : Mat Ideal) (ix2 l b)
      = (Real.exp ((X 511 l + (r + Real.log (w l))) - top fun l => X 511 l + (r + Real.log (w l))) : EReal) := by
    intro l
    pointwise
    rw [hv, spread_at, colMax_real hv, ← EReal.coe_sub, Ideal.exp_coe]
  have hz : z (ix2 0 b) = (logZ X a : EReal) := by
    show (addf (colMax v) (log (colSum (exp (subf v (spread (colMax v)))))) : Row Ideal) (ix2 0 b) = _
    pointwise
    rw [colMax_real hv, colSum_real he, log_real (Finset.sum_pos (fun _ _ => Real.exp_pos _) Finset.univ_nonempty), ← EReal.coe_add,
      add_comm, lse]
    congr 2
    refine Finset.sum_congr rfl fun l _ => ?_
    rw [Real.exp_add, Real.exp_add, Real.exp_log (weights_pos hZ l), hZ]
  have hg : colSum (gold A labels c.2.2.2.1 c.2.2.2.2 y x) (ix2 0 b) = (score X a Y 511 : EReal) := by
    rw [colSum_real (gold_real T.hA hs hx h.label hy), gold_sum, hsum]; rfl
  pointwise
  rw [hz, hg, EReal.coe_sub]

end Cert.KernelIdeal.Hand

end
-- ==== Proof.Reads.lean ====
/-
  What the body's loads read: rows of the windows by their elements, the tables' slabs, and the rows a trip of either loop
  touches as rows of the whole.
-/
module

public import proofs.«01_k».proof.Proof.BodyRun
public import proofs.«01_k».proof.Proof.Invariant

@[expose] public section

set_option maxRecDepth 65536

noncomputable section

namespace Cert.KernelIdeal.Hand

open Cert.KernelIdeal Cert.KernelIdeal.Gen Cert.Chain
open Idealize.ShloMosaic Idealize.ShloMosaic.TcCoe

/-! ## Rows -/

theorem row_inb (j : Fin 512) : ∀ a, (![j.val, 0] : Fin 2 → ℕ) a + S1x128.size a ≤ S512x128.size a := by
  intro a; fin_cases a <;> simp [S1x128, S512x128, Shape.size] <;> omega

theorem mat_inb (j : Fin 512) : ∀ a, (![j.val, 0, 0] : Fin 3 → ℕ) a + S1x17x128.size a ≤ S512x17x128.size a := by
  intro a; fin_cases a <;> simp [S1x17x128, S512x17x128, Shape.size] <;> omega

theorem slab_inb (j : Fin 17) : ∀ a, (![j.val, 0, 0] : Fin 3 → ℕ) a + S1x17x128.size a ≤ S17x17x128.size a := by
  revert j; decide

/-- The element of a row piece, in the whole. -/
theorem row_emb (j : Fin 512) (b : Fin 128) :
    (Rect.unit (s := S512x128) ![j.val, 0] S1x128.size (row_inb j)).emb (ix2 0 b) = ix2 j b := by
  funext a; apply Fin.ext; fin_cases a <;> simp [Rect.emb_apply, ix2]

theorem mat_emb (j : Fin 512) (l : Fin 17) (b : Fin 128) :
    (Rect.unit (s := S512x17x128) ![j.val, 0, 0] S1x17x128.size (mat_inb j)).emb (ix3 0 l b) = ix3 j l b := by
  funext a; apply Fin.ext; fin_cases a <;> simp [Rect.emb_apply, ix3]

theorem slab_emb (j : Fin 17) (l : Fin 17) (b : Fin 128) :
    (Rect.unit (s := S17x17x128) ![j.val, 0, 0] S1x17x128.size (slab_inb j)).emb (ix3 0 l b) = ix3 j l b := by
  funext a; apply Fin.ext; fin_cases a <;> simp [Rect.emb_apply, ix3]

theorem square_emb (x : S17x17.Idx) : (Rect.unit (s := S17x17) ![0, 0] S17x17.size inb_S17x17_S17x17_0_0).emb x = x := by
  funext a; apply Fin.ext; fin_cases a <;> simp [Rect.emb_apply]

section Loads

variable {F : FTy → Type} [FloatOps F]

theorem unslab_at {e : EltTy} (v : Vec F S1x17x128 e) (l : Fin 17) (b : Fin 128) :
    (shapeCast S17x128 v shapeCasts_S1x17x128_S17x128 : S17x128.Idx → Elt F e) (ix2 l b) = v (ix3 0 l b) := by
  pointwise

theorem xAll_at (M : Memref sig .tc .vmem S512x17x128 .f32) (X : BufTy.Contents (Elt F) M.view.ty) (j : Fin 512) (l : Fin 17) (b : Fin 128) :
    xAll M X j (ix2 l b) = M.view.read (Elt F) X (ix3 j l b) := by
  exact (unslab_at _ l b).trans (congrArg (M.view.read (Elt F) X) (mat_emb j l b))

theorem yAll_at (M : Memref sig .tc .vmem S512x128 .i32) (X : BufTy.Contents (Elt F) M.view.ty) (j : Fin 512) (b : Fin 128) :
    yAll M X j (ix2 0 b) = M.view.read (Elt F) X (ix2 j b) := by
  rw [← row_emb]
  pointwise [yAll]
  rfl

theorem square_at (M : Memref sig .tc .vmem S17x17 .f32) (X : BufTy.Contents (Elt F) M.view.ty) (x : S17x17.Idx) :
    square M X x = M.view.read (Elt F) X x :=
  congrArg (M.view.read (Elt F) X) (square_emb x)

theorem bpRow_at (M : Memref sig .tc .vmem S512x17x128 .i32) (X : BufTy.Contents (Elt F) M.view.ty) (j : Fin 512) (l : Fin 17) (b : Fin 128) :
    bpRow M X j (ix3 0 l b) = M.view.read (Elt F) X (ix3 j l b) :=
  congrArg (M.view.read (Elt F) X) (mat_emb j l b)

/-! ## The tables -/

theorem slabs_at {e : EltTy} (M : Memref sig .tc .vmem S17x17x128 e) (g : Fin 17 → Vec F S1x17x128 e) (k l : Fin 17) (b : Fin 128) :
    slabs M (tableBuf M g) k (ix3 0 l b) = g k (ix3 0 l b) := by
  have h : slabs M (tableBuf M g) k (ix3 0 l b) = M.view.read (Elt F) (M.view.writes (Elt F) M.view.junk (tablePieces g)) (ix3 k l b) :=
    congrArg (M.view.read (Elt F) _) (slab_emb k l b)
  rw [h]
  have mem : ∀ k : Fin 17, k ∈ ([16, 15, 14, 13, 12, 11, 10, 9, 8, 7, 6, 5, 4, 3, 2, 1, 0] : List (Fin 17)) := by decide
  refine (View.read_writes_apply_of_pieces M.view _ (fun y => g (y 0) (ix3 0 (y 1) (y 2))) (tablePieces g) ?_ (ix3 k l b) ?_).trans rfl
  · intro p hp x
    obtain ⟨k', -, rfl⟩ := List.mem_map.1 hp
    obtain ⟨z, l', b', rfl⟩ : ∃ (z : Fin 1) (l' : Fin 17) (b' : Fin 128), x = ix3 z l' b' := ⟨x 0, x 1, x 2, by funext a; fin_cases a <;> rfl⟩
    obtain rfl : z = 0 := Subsingleton.elim _ _
    show g k' (ix3 0 l' b') = _
    rw [slab_emb]
    rfl
  · refine ⟨_, List.mem_map.2 ⟨k, mem k, rfl⟩, ?_⟩
    rw [← slab_emb]
    exact LoadRect.idx_mem _ _

end Loads

/-- The tables of the transition scores `a`. -/
theorem tables_of {a : Fin 17 → Sc} (arg3 : Memref sig .tc .vmem S17x17 .f32) (arg7 arg8 : Memref sig .tc .vmem S17x17x128 .f32)
    (arg9 : Memref sig .tc .vmem S17x17x128 .i32) (f3 : BufTy.Contents (Elt Ideal) arg3.view.ty) {A : Vec Ideal S17x17 .f32}
    (hA : ∀ i k, A (ix2 i k) = (a i k : EReal)) (hAT : ∀ i k, square arg3 f3 (ix2 i k) = (a k i : EReal)) :
    Tables a A (tab7 arg3 arg7 f3) (tab8 arg3 arg8 f3) (tab9 arg9) where
  hA := hA
  h7 k l b := by
    rw [tab7, slabs_at]
    pointwise [slab7, colBc]
    exact hAT l k
  h8 k l b := by
    rw [tab8, slabs_at]
    pointwise [slab8, colBc]
    rw [hAT l k, Ideal.exp_coe]
  h9 k l b := by
    rw [tab9, slabs_at]
    pointwise [slab9, stored]

/-! ## The loops' rows -/

theorem off1_eq (k : Fin k0_t1_loop.trips) (i d : Fin 4) :
    k0_off1 k (BitVec.ofNat 32 i.val) (BitVec.ofNat 32 d.val) = ![16 * k.val + 4 * i.val + d.val + 1, 0, 0] := by
  revert k i d; decide

theorem off2_eq (k : Fin k0_t1_loop.trips) (i d : Fin 4) :
    k0_off2 k (BitVec.ofNat 32 i.val) (BitVec.ofNat 32 d.val) = ![16 * k.val + 4 * i.val + d.val + 1, 0] := by
  revert k i d; decide

theorem off3_eq (k : Fin k0_t2_loop.trips) (d : Fin 3) : k0_off3 k (BitVec.ofNat 32 d.val) = ![511 - (3 * k.val + d.val), 0, 0] := by
  revert k d; decide

theorem off4_eq (k : Fin k0_t2_loop.trips) (d : Fin 3) : k0_off4 k (BitVec.ofNat 32 d.val) = ![510 - (3 * k.val + d.val), 0] := by
  revert k d; decide

/-- The row of step `4 i + d` of trip `k`. -/
def stepRow (k : Fin k0_t1_loop.trips) (i d : Fin 4) : Fin 512 :=
  ⟨16 * k.val + 4 * i.val + d.val + 1, by have : k.val < 31 := k.isLt; omega⟩

theorem rect_congr {s : Shape} {off off' size : Fin s.rank → ℕ} (h : off = off') (inb) (inb') :
    Rect.unit off size inb = Rect.unit off' size inb' := by subst h; rfl

section Loads

variable {F : FTy → Type} [FloatOps F]

theorem xAt_eq (M : Memref sig .tc .vmem S512x17x128 .f32) (X : BufTy.Contents (Elt F) M.view.ty) (k : Fin k0_t1_loop.trips) (i d : Fin 4) :
    xAt M X k i d = xAll M X (stepRow k i d) := by
  funext x
  obtain ⟨l, b, rfl⟩ : ∃ (l : Fin 17) (b : Fin 128), x = ix2 l b := ⟨x 0, x 1, by funext a; fin_cases a <;> rfl⟩
  rw [xAll_at]
  refine (unslab_at _ l b).trans (congrArg (M.view.read (Elt F) X) ?_)
  funext a; apply Fin.ext
  rw [LoadRect.idx_apply]
  simp only [Rect.unit, off1_eq]
  fin_cases a <;> simp [ix3, stepRow]

theorem yAt_eq (M : Memref sig .tc .vmem S512x128 .i32) (X : BufTy.Contents (Elt F) M.view.ty) (k : Fin k0_t1_loop.trips) (i d : Fin 4) :
    yAt M X k i d = yAll M X (stepRow k i d) := by
  funext x
  obtain ⟨z, b, rfl⟩ : ∃ (z : Fin 1) (b : Fin 128), x = ix2 z b := ⟨x 0, x 1, by funext a; fin_cases a <;> rfl⟩
  obtain rfl : z = 0 := Subsingleton.elim _ _
  rw [yAll_at]
  pointwise [yAt]
  refine congrArg (M.view.read (Elt F) X) ?_
  funext a; apply Fin.ext
  rw [LoadRect.idx_apply]
  simp only [Rect.unit, off2_eq]
  fin_cases a <;> simp [ix2, stepRow]

theorem backLoad_eq (M : Memref sig .tc .vmem S512x17x128 .i32) (X : BufTy.Contents (Elt F) M.view.ty) (k : Fin k0_t2_loop.trips) (d : Fin 3)
    (j : Fin 512) (hj : j.val = 511 - (3 * k.val + d.val)) : backLoad M X k d = bpRow M X j := by
  funext x
  obtain ⟨z, l, b, rfl⟩ : ∃ (z : Fin 1) (l : Fin 17) (b : Fin 128), x = ix3 z l b := ⟨x 0, x 1, x 2, by funext a; fin_cases a <;> rfl⟩
  obtain rfl : z = 0 := Subsingleton.elim _ _
  rw [bpRow_at]
  refine congrArg (M.view.read (Elt F) X) ?_
  funext a; apply Fin.ext
  rw [LoadRect.idx_apply]
  simp only [Rect.unit, off3_eq]
  fin_cases a <;> simp [ix3, hj]

end Loads

end Cert.KernelIdeal.Hand

end
-- ==== Proof.BodyValues.lean ====
/-
  The body's results as the chain's mathematics: the forward loop and the steps after it keep the invariant and store the back
  pointers; the backtracking loop follows them; the loss is the mean of the differences.
-/
module

public import proofs.«01_k».proof.Proof.Reads

@[expose] public section

set_option maxRecDepth 65536

noncomputable section

namespace Cert.KernelIdeal.Hand

open Cert.KernelIdeal Cert.KernelIdeal.Gen Cert.Chain
open Idealize.ShloMosaic Idealize.ShloMosaic.TcCoe

/-! ## Stored rows -/

/-- What the back pointers' buffer holds. -/
def bpFn (X : Fin 128 → ℕ → Sc) (a : Fin 17 → Sc) (y : S512x17x128.Idx) : BitVec 32 := word (bp (X (y 2)) a ((y 0).val - 1) (y 1))

/-- What the path holds. -/
def pathFn (X : Fin 128 → ℕ → Sc) (a : Fin 17 → Sc) (y : S512x128.Idx) : BitVec 32 := word (back (X (y 1)) a (511 - (y 0).val))

/-- The stored pieces agree with `bpFn` and cover the rows from `1` to `n`. -/
def Holds (X : Fin 128 → ℕ → Sc) (a : Fin 17 → Sc) (n : ℕ) (L : List (View.Piece (Elt Ideal) S512x17x128 .i32)) : Prop :=
  (∀ p ∈ L, ∀ x, p.2 x = bpFn X a (p.1.emb x)) ∧ ∀ j : Fin 512, 1 ≤ j.val → j.val ≤ n → ∀ l b, ∃ p ∈ L, ix3 j l b ∈ p.1.set

/-- The stored pieces agree with `pathFn` and cover the rows from `lo` on. -/
def PathHolds (X : Fin 128 → ℕ → Sc) (a : Fin 17 → Sc) (lo hi : ℕ) (L : List (View.Piece (Elt Ideal) S512x128 .i32)) : Prop :=
  (∀ p ∈ L, ∀ x, p.2 x = pathFn X a (p.1.emb x)) ∧ ∀ j : Fin 512, lo ≤ j.val → j.val < hi → ∀ b, ∃ p ∈ L, ix2 j b ∈ p.1.set

theorem holds_append {X : Fin 128 → ℕ → Sc} {a : Fin 17 → Sc} {n n' : ℕ} {L L' : List (View.Piece (Elt Ideal) S512x17x128 .i32)}
    (h : Holds X a n L) (hp : ∀ p ∈ L', ∀ x, p.2 x = bpFn X a (p.1.emb x))
    (hc : ∀ j : Fin 512, n < j.val → j.val ≤ n' → ∀ l b, ∃ p ∈ L', ix3 j l b ∈ p.1.set) : Holds X a n' (L' ++ L) := by
  refine ⟨fun p hm => ?_, fun j h1 h2 l b => ?_⟩
  · rcases List.mem_append.1 hm with hm | hm
    · exact hp p hm
    · exact h.1 p hm
  · by_cases hn : j.val ≤ n
    · obtain ⟨p, hm, hs⟩ := h.2 j h1 hn l b
      exact ⟨p, List.mem_append_right _ hm, hs⟩
    · obtain ⟨p, hm, hs⟩ := hc j (by omega) h2 l b
      exact ⟨p, List.mem_append_left _ hm, hs⟩

theorem pathHolds_append {X : Fin 128 → ℕ → Sc} {a : Fin 17 → Sc} {lo mid hi : ℕ} {L L' : List (View.Piece (Elt Ideal) S512x128 .i32)}
    (h : PathHolds X a mid hi L) (h' : PathHolds X a lo mid L') : PathHolds X a lo hi (L' ++ L) := by
  refine ⟨fun p hm => ?_, fun j h1 h2 b => ?_⟩
  · rcases List.mem_append.1 hm with hm | hm
    · exact h'.1 p hm
    · exact h.1 p hm
  · by_cases hn : mid ≤ j.val
    · obtain ⟨p, hm, hs⟩ := h.2 j hn h2 b
      exact ⟨p, List.mem_append_right _ hm, hs⟩
    · obtain ⟨p, hm, hs⟩ := h'.2 j h1 (by omega) b
      exact ⟨p, List.mem_append_left _ hm, hs⟩

theorem piece_agrees {X : Fin 128 → ℕ → Sc} {a : Fin 17 → Sc} (j : Fin 512) {off : Fin 3 → ℕ} (ho : off = ![j.val, 0, 0]) (inb)
    {v : IVec S1x17x128 32} (hv : ∀ l b, v (ix3 0 l b) = word (bp (X b) a (j.val - 1) l)) (x : S1x17x128.Idx) :
    v x = bpFn X a ((Rect.unit (s := S512x17x128) off S1x17x128.size inb).emb x) := by
  subst ho
  obtain ⟨z, l, b, rfl⟩ : ∃ (z : Fin 1) (l : Fin 17) (b : Fin 128), x = ix3 z l b := ⟨x 0, x 1, x 2, by funext a; fin_cases a <;> rfl⟩
  obtain rfl : z = 0 := Subsingleton.elim _ _
  rw [hv, mat_emb]; rfl

theorem piece_covers (j : Fin 512) {off : Fin 3 → ℕ} (ho : off = ![j.val, 0, 0]) (inb) (l : Fin 17) (b : Fin 128) :
    ix3 j l b ∈ (Rect.unit (s := S512x17x128) off S1x17x128.size inb).set := by
  subst ho
  rw [← mat_emb]
  exact LoadRect.idx_mem _ _

theorem path_agrees {X : Fin 128 → ℕ → Sc} {a : Fin 17 → Sc} (j : Fin 512) {off : Fin 2 → ℕ} (ho : off = ![j.val, 0]) (inb)
    {v : IRow} (hv : ∀ b, v (ix2 0 b) = word (back (X b) a (511 - j.val))) (x : S1x128.Idx) :
    v x = pathFn X a ((Rect.unit (s := S512x128) off S1x128.size inb).emb x) := by
  subst ho
  obtain ⟨z, b, rfl⟩ : ∃ (z : Fin 1) (b : Fin 128), x = ix2 z b := ⟨x 0, x 1, by funext a; fin_cases a <;> rfl⟩
  obtain rfl : z = 0 := Subsingleton.elim _ _
  rw [hv, row_emb]; rfl

theorem path_covers (j : Fin 512) {off : Fin 2 → ℕ} (ho : off = ![j.val, 0]) (inb) (b : Fin 128) :
    ix2 j b ∈ (Rect.unit (s := S512x128) off S1x128.size inb).set := by
  subst ho
  rw [← row_emb]
  exact LoadRect.idx_mem _ _

/-- The mean of a row, as the body takes it. -/
theorem mean_at (v : Row Ideal) :
    (mulf (shapeCast S1x1 (multiReduction .add [1] S1 v 0x00000000#32 reduces_S1x128_S1 (.inl rfl) rfl) shapeCasts_S1_S1x1)
      (broadcast S1x1 (Scalar.ofBits .f32 0x3C000000#32)) : FVec Ideal S1x1 .f32) (ix2 0 0) = (∑ b, v (ix2 0 b)) * ((1 / 128 : ℝ) : EReal) := by
  have h : Ideal.ofBits .f32 0x3C000000#32 = ((1 / 128 : ℝ) : EReal) := by
    simp [Ideal.ofBits, Ideal.ieee]
    rw [← EReal.coe_mul]
    norm_num
  pointwise
  rw [h]

section Body

variable (c : Dev nD)
  (arg0 : Memref sig .tc .vmem S512x17x128 .f32) (harg0 : arg0.IsWhole) (arg1 : Memref sig .tc .vmem S512x128 .i32) (harg1 : arg1.IsWhole)
  (arg2 : Memref sig .tc .vmem S17x17 .f32) (harg2 : arg2.IsWhole) (arg3 : Memref sig .tc .vmem S17x17 .f32) (harg3 : arg3.IsWhole)
  (arg4 : Memref sig .tc .vmem S512x128 .i32) (harg4 : arg4.IsWhole) (arg5 : Memref sig .tc .vmem S1x1 .f32) (harg5 : arg5.IsWhole)
  (arg6 : Memref sig .tc .vmem S512x17x128 .i32) (harg6 : arg6.IsWhole) (arg7 : Memref sig .tc .vmem S17x17x128 .f32) (harg7 : arg7.IsWhole)
  (arg8 : Memref sig .tc .vmem S17x17x128 .f32) (harg8 : arg8.IsWhole) (arg9 : Memref sig .tc .vmem S17x17x128 .i32) (harg9 : arg9.IsWhole)
  (f0 : BufTy.Contents (Elt Ideal) arg0.view.ty) (f1 : BufTy.Contents (Elt Ideal) arg1.view.ty)
  (f2 : BufTy.Contents (Elt Ideal) arg2.view.ty) (f3 : BufTy.Contents (Elt Ideal) arg3.view.ty)
  (f6 : BufTy.Contents (Elt Ideal) arg6.view.ty) (f7 : BufTy.Contents (Elt Ideal) arg7.view.ty)
  (f8 : BufTy.Contents (Elt Ideal) arg8.view.ty) (f9 : BufTy.Contents (Elt Ideal) arg9.view.ty)

/-- What the windows hold: the scores, the given labels, the transition scores and their transpose. -/
structure Inputs (X : Fin 128 → ℕ → Sc) (a : Fin 17 → Sc) (Y : Fin 128 → ℕ → Fin 17) : Prop where
  x : ∀ b (j : Fin 512) l, xAll arg0 f0 j (ix2 l b) = (X b j.val l : EReal)
  y : ∀ b (j : Fin 512), yAll arg1 f1 j (ix2 0 b) = word (Y b j.val)
  A : ∀ i k, square arg2 f2 (ix2 i k) = (a i k : EReal)
  AT : ∀ i k, square arg3 f3 (ix2 i k) = (a k i : EReal)

theorem loop1At_succ (k : Fin k0_t1_loop.trips) :
    loop1At c arg0 harg0 arg1 harg1 arg2 harg2 arg3 harg3 arg4 harg4 arg5 harg5 arg6 harg6 arg7 harg7 arg8 harg8 arg9 harg9 f0 f1 f2 f3 (k.val + 1)
      = (quads (tab7 arg3 arg7 f3) (tab8 arg3 arg8 f3) (tab9 arg9) (square arg2 f2) labels (xAt arg0 f0 k) (yAt arg1 f1 k)
          (loop1At c arg0 harg0 arg1 harg1 arg2 harg2 arg3 harg3 arg4 harg4 arg5 harg5 arg6 harg6 arg7 harg7 arg8 harg8 arg9 harg9 f0 f1 f2 f3 k.val).1 4,
        tripPieces (square arg2 f2) (tab7 arg3 arg7 f3) (tab8 arg3 arg8 f3) (tab9 arg9) (xAt arg0 f0 k) (yAt arg1 f1 k)
          (loop1At c arg0 harg0 arg1 harg1 arg2 harg2 arg3 harg3 arg4 harg4 arg5 harg5 arg6 harg6 arg7 harg7 arg8 harg8 arg9 harg9 f0 f1 f2 f3 k.val).1 k
          ++ (loop1At c arg0 harg0 arg1 harg1 arg2 harg2 arg3 harg3 arg4 harg4 arg5 harg5 arg6 harg6 arg7 harg7 arg8 harg8 arg9 harg9 f0 f1 f2 f3 k.val).2) := by
  unfold loop1At
  rw [st_k0_t1_succ, trip1_R, trip1_L]
  rfl

theorem loop2At_succ (X6 : BufTy.Contents (Elt Ideal) arg6.view.ty) (last : IRow) (k : Fin k0_t2_loop.trips) :
    loop2At c arg0 harg0 arg1 harg1 arg2 harg2 arg3 harg3 arg4 harg4 arg5 harg5 arg6 harg6 arg7 harg7 arg8 harg8 arg9 harg9 X6 last (k.val + 1)
      = (backCur arg6 X6 k (loop2At c arg0 harg0 arg1 harg1 arg2 harg2 arg3 harg3 arg4 harg4 arg5 harg5 arg6 harg6 arg7 harg7 arg8 harg8 arg9 harg9 X6 last k.val).1 3,
        [backPiece arg6 X6 k (loop2At c arg0 harg0 arg1 harg1 arg2 harg2 arg3 harg3 arg4 harg4 arg5 harg5 arg6 harg6 arg7 harg7 arg8 harg8 arg9 harg9 X6 last k.val).1 2, backPiece arg6 X6 k (loop2At c arg0 harg0 arg1 harg1 arg2 harg2 arg3 harg3 arg4 harg4 arg5 harg5 arg6 harg6 arg7 harg7 arg8 harg8 arg9 harg9 X6 last k.val).1 1,
         backPiece arg6 X6 k (loop2At c arg0 harg0 arg1 harg1 arg2 harg2 arg3 harg3 arg4 harg4 arg5 harg5 arg6 harg6 arg7 harg7 arg8 harg8 arg9 harg9 X6 last k.val).1 0]
          ++ (loop2At c arg0 harg0 arg1 harg1 arg2 harg2 arg3 harg3 arg4 harg4 arg5 harg5 arg6 harg6 arg7 harg7 arg8 harg8 arg9 harg9 X6 last k.val).2) := by
  unfold loop2At
  rw [st_k0_t2_succ, trip2_R, trip2_L]

variable {arg0 arg1 arg2 arg3 f0 f1 f2 f3} {X : Fin 128 → ℕ → Sc} {a : Fin 17 → Sc} {Y : Fin 128 → ℕ → Fin 17}
  (I : Inputs arg0 arg1 arg2 arg3 f0 f1 f2 f3 X a Y)

include I

theorem tables : Tables a (square arg2 f2) (tab7 arg3 arg7 f3) (tab8 arg3 arg8 f3) (tab9 arg9) :=
  tables_of arg3 arg7 arg8 arg9 f3 I.A I.AT

theorem quads_inv (k : Fin k0_t1_loop.trips) {u : Carry Ideal} (h : ∀ b, Inv (X b) a (Y b) b (16 * k.val) u) : ∀ i : ℕ, i ≤ 4 →
    ∀ b, Inv (X b) a (Y b) b (16 * k.val + 4 * i)
      (quads (tab7 arg3 arg7 f3) (tab8 arg3 arg8 f3) (tab9 arg9) (square arg2 f2) labels (xAt arg0 f0 k) (yAt arg1 f1 k) u i)
  | 0, _ => h
  | i + 1, hi => fun b => by
    have e : (Fin.ofNat 4 i).val = i := Nat.mod_eq_of_lt hi
    refine quad_inv (tables arg7 arg8 arg9 I) (quads_inv k h i (by omega) b) (fun d l => ?_) (fun d => ?_)
    · rw [xAt_eq, I.x]; simp only [stepRow, e]
    · rw [yAt_eq, I.y]; simp only [stepRow, e]

theorem trip_pieces (k : Fin k0_t1_loop.trips) {u : Carry Ideal} (h : ∀ b, Inv (X b) a (Y b) b (16 * k.val) u) (i d : Fin 4) (x : S1x17x128.Idx) :
    bps (tab7 arg3 arg7 f3) (tab9 arg9) (xAt arg0 f0 k i)
        (quads (tab7 arg3 arg7 f3) (tab8 arg3 arg8 f3) (tab9 arg9) (square arg2 f2) labels (xAt arg0 f0 k) (yAt arg1 f1 k) u i.val).1 d.val x
      = bpFn X a ((Rect.unit (s := S512x17x128) (k0_off1 k (BitVec.ofNat 32 i.val) (BitVec.ofNat 32 d.val)) S1x17x128.size (k0_off1_inb k i d)).emb x) := by
  refine piece_agrees (stepRow k i d) (off1_eq k i d) _ (fun l b => ?_) x
  refine stored_best (tables arg7 arg8 arg9 I) (vits_real (tables arg7 arg8 arg9 I)
    (quads_inv arg7 arg8 arg9 I k h i.val (by omega) b).dp (fun d l => ?_) d.val (by omega)) l
  rw [xAt_eq, I.x]; rfl

theorem loop1_inv : ∀ n : ℕ, n ≤ 31 →
    (∀ b, Inv (X b) a (Y b) b (16 * n) (loop1At c arg0 harg0 arg1 harg1 arg2 harg2 arg3 harg3 arg4 harg4 arg5 harg5 arg6 harg6 arg7 harg7 arg8 harg8 arg9 harg9 f0 f1 f2 f3 n).1)
      ∧ Holds X a (16 * n) (loop1At c arg0 harg0 arg1 harg1 arg2 harg2 arg3 harg3 arg4 harg4 arg5 harg5 arg6 harg6 arg7 harg7 arg8 harg8 arg9 harg9 f0 f1 f2 f3 n).2
  | 0, _ => ⟨fun b => init_inv (tables arg7 arg8 arg9 I) (I.x b 0) (I.y b 0), fun p hp => absurd hp List.not_mem_nil, fun j h1 h2 => by omega⟩
  | n + 1, hn => by
    obtain ⟨h1, h2⟩ := loop1_inv n (by omega)
    have hk := loop1At_succ c arg0 harg0 arg1 harg1 arg2 harg2 arg3 harg3 arg4 harg4 arg5 harg5 arg6 harg6 arg7 harg7 arg8 harg8 arg9 harg9 f0 f1 f2 f3 (⟨n, hn⟩ : Fin k0_t1_loop.trips)
    rw [show ((⟨n, hn⟩ : Fin k0_t1_loop.trips).val + 1) = n + 1 from rfl] at hk
    rw [hk]
    refine ⟨quads_inv arg7 arg8 arg9 I (⟨n, hn⟩ : Fin k0_t1_loop.trips) h1 4 le_rfl, holds_append h2 (fun p hp => ?_) (fun j hj hj' l b => ?_)⟩
    · obtain ⟨q, -, rfl⟩ := List.mem_map.1 hp
      exact trip_pieces arg7 arg8 arg9 I ⟨n, hn⟩ h1 q.1 q.2
    · have mem : ∀ i d : Fin 4, (i, d) ∈ ([(3, 3), (3, 2), (3, 1), (3, 0), (2, 3), (2, 2), (2, 1), (2, 0), (1, 3), (1, 2), (1, 1), (1, 0),
          (0, 3), (0, 2), (0, 1), (0, 0)] : List (Fin 4 × Fin 4)) := by decide
      refine ⟨_, List.mem_map.2 ⟨(⟨(j.val - 16 * n - 1) / 4, by omega⟩, ⟨(j.val - 16 * n - 1) % 4, by omega⟩), mem _ _, rfl⟩, ?_⟩
      refine piece_covers j ((off1_eq _ _ _).trans ?_) (k0_off1_inb _ _ _) l b
      congr 1
      show 16 * n + 4 * ((j.val - 16 * n - 1) / 4) + (j.val - 16 * n - 1) % 4 + 1 = j.val
      omega

/-! ## After the forward loop -/

theorem quadAt_inv {j : ℕ} (q : Fin 4 → Fin 512) (hq : ∀ d, (q d).val = j + d.val + 1) {u : Carry Ideal} {b : Fin 128}
    (h : Inv (X b) a (Y b) b j u) : Inv (X b) a (Y b) b (j + 4) (quadAt arg0 arg1 arg2 arg3 arg7 arg8 arg9 f0 f1 f2 f3 q u) :=
  quad_inv (tables arg7 arg8 arg9 I) h (fun d l => by rw [I.x, hq]) (fun d => by rw [I.y, hq])

theorem singleAt_inv {j : ℕ} (q : Fin 512) (hq : q.val = j + 1) {u : Carry Ideal} {b : Fin 128}
    (h : Inv (X b) a (Y b) b j u) : Inv (X b) a (Y b) b (j + 1) (singleAt arg0 arg1 arg2 arg3 arg7 arg8 arg9 f0 f1 f2 f3 q u) :=
  single_inv (tables arg7 arg8 arg9 I) h (fun l => by rw [I.x, hq]) (by rw [I.y, hq])

theorem after1_inv {u : Carry Ideal} {b : Fin 128} (h : Inv (X b) a (Y b) b 496 u) :
    Inv (X b) a (Y b) b 500 (after1 arg0 arg1 arg2 arg3 arg7 arg8 arg9 f0 f1 f2 f3 u 1)
      ∧ Inv (X b) a (Y b) b 504 (after1 arg0 arg1 arg2 arg3 arg7 arg8 arg9 f0 f1 f2 f3 u 2)
      ∧ Inv (X b) a (Y b) b 508 (after1 arg0 arg1 arg2 arg3 arg7 arg8 arg9 f0 f1 f2 f3 u 3)
      ∧ Inv (X b) a (Y b) b 509 (after1 arg0 arg1 arg2 arg3 arg7 arg8 arg9 f0 f1 f2 f3 u 4)
      ∧ Inv (X b) a (Y b) b 510 (after1 arg0 arg1 arg2 arg3 arg7 arg8 arg9 f0 f1 f2 f3 u 5) := by
  have h1 := quadAt_inv arg7 arg8 arg9 I ![497, 498, 499, 500] (j := 496) (by decide) h
  have h2 := quadAt_inv arg7 arg8 arg9 I ![501, 502, 503, 504] (j := 500) (by decide) h1
  have h3 := quadAt_inv arg7 arg8 arg9 I ![505, 506, 507, 508] (j := 504) (by decide) h2
  have h4 := singleAt_inv arg7 arg8 arg9 I 509 (j := 508) rfl h3
  exact ⟨h1, h2, h3, h4, singleAt_inv arg7 arg8 arg9 I 510 (j := 509) rfl h4⟩

theorem bpPiece_agrees (j : Fin 512) {n : ℕ} (hn : j.val - 1 = n) {u : Mat Ideal} (hu : ∀ b l, u (ix2 l b) = (D (X b) a n l : EReal)) (x : S1x17x128.Idx) :
    (bpPiece arg3 arg7 arg9 f3 j u).2 x = bpFn X a ((bpPiece arg3 arg7 arg9 f3 j u).1.emb x) := by
  refine piece_agrees j rfl (mat_inb j) (fun l b => ?_) x
  rw [hn]
  exact stored_best (tables arg7 arg7 arg9 I) (hu b) l

theorem within_real {j : ℕ} (q : Fin 4 → Fin 512) (hq : ∀ d, (q d).val = j + d.val + 1) {u : Carry Ideal} (h : ∀ b, Inv (X b) a (Y b) b j u)
    (d : ℕ) (hd : d ≤ 4) (b : Fin 128) (l : Fin 17) : within arg0 arg3 arg7 arg9 f0 f3 q u d (ix2 l b) = (D (X b) a (j + d) l : EReal) :=
  vits_real (tables arg7 arg7 arg9 I) (h b).dp (fun d l => by rw [I.x, hq]) d hd l

theorem later_agrees {u : Carry Ideal} (h : ∀ b, Inv (X b) a (Y b) b 496 u) :
    ∀ p ∈ laterPieces arg0 arg1 arg2 arg3 arg7 arg8 arg9 f0 f1 f2 f3 u, ∀ x, p.2 x = bpFn X a (p.1.emb x) := by
  have h1 := fun b => (after1_inv arg7 arg8 arg9 I (h b)).1
  have h2 := fun b => (after1_inv arg7 arg8 arg9 I (h b)).2.1
  have h3 := fun b => (after1_inv arg7 arg8 arg9 I (h b)).2.2.1
  have h4 := fun b => (after1_inv arg7 arg8 arg9 I (h b)).2.2.2.1
  have h5 := fun b => (after1_inv arg7 arg8 arg9 I (h b)).2.2.2.2
  have w0 := within_real arg7 arg9 I ![497, 498, 499, 500] (j := 496) (by decide) h
  have w1 := within_real arg7 arg9 I ![501, 502, 503, 504] (j := 500) (by decide) h1
  have w2 := within_real arg7 arg9 I ![505, 506, 507, 508] (j := 504) (by decide) h2
  unfold laterPieces
  simp only [List.forall_mem_cons]
  exact ⟨bpPiece_agrees arg7 arg9 I 511 rfl fun b => (h5 b).dp, bpPiece_agrees arg7 arg9 I 510 rfl fun b => (h4 b).dp,
    bpPiece_agrees arg7 arg9 I 509 rfl fun b => (h3 b).dp,
    bpPiece_agrees arg7 arg9 I 508 rfl (w2 3 (by omega)), bpPiece_agrees arg7 arg9 I 507 rfl (w2 2 (by omega)),
    bpPiece_agrees arg7 arg9 I 506 rfl (w2 1 (by omega)), bpPiece_agrees arg7 arg9 I 505 rfl (w2 0 (by omega)),
    bpPiece_agrees arg7 arg9 I 504 rfl (w1 3 (by omega)), bpPiece_agrees arg7 arg9 I 503 rfl (w1 2 (by omega)),
    bpPiece_agrees arg7 arg9 I 502 rfl (w1 1 (by omega)), bpPiece_agrees arg7 arg9 I 501 rfl (w1 0 (by omega)),
    bpPiece_agrees arg7 arg9 I 500 rfl (w0 3 (by omega)), bpPiece_agrees arg7 arg9 I 499 rfl (w0 2 (by omega)),
    bpPiece_agrees arg7 arg9 I 498 rfl (w0 1 (by omega)), bpPiece_agrees arg7 arg9 I 497 rfl (w0 0 (by omega)),
    fun p hp => absurd hp List.not_mem_nil⟩

omit I in
theorem later_covers (u : Carry Ideal) (j : Fin 512) (hj : 496 < j.val) (l : Fin 17) (b : Fin 128) :
    ∃ p ∈ laterPieces arg0 arg1 arg2 arg3 arg7 arg8 arg9 f0 f1 f2 f3 u, ix3 j l b ∈ p.1.set := by
  have key : ∀ v, ix3 j l b ∈ (bpPiece arg3 arg7 arg9 f3 j v).1.set := fun v => piece_covers j rfl (mat_inb j) l b
  have hm : ∃ v, bpPiece arg3 arg7 arg9 f3 j v ∈ laterPieces arg0 arg1 arg2 arg3 arg7 arg8 arg9 f0 f1 f2 f3 u := by
    have hl : j = 497 ∨ j = 498 ∨ j = 499 ∨ j = 500 ∨ j = 501 ∨ j = 502 ∨ j = 503 ∨ j = 504 ∨ j = 505 ∨ j = 506 ∨ j = 507 ∨ j = 508
        ∨ j = 509 ∨ j = 510 ∨ j = 511 := by
      have := j.isLt
      simp only [Fin.ext_iff]
      show j.val = 497 ∨ j.val = 498 ∨ j.val = 499 ∨ j.val = 500 ∨ j.val = 501 ∨ j.val = 502 ∨ j.val = 503 ∨ j.val = 504 ∨ j.val = 505
        ∨ j.val = 506 ∨ j.val = 507 ∨ j.val = 508 ∨ j.val = 509 ∨ j.val = 510 ∨ j.val = 511
      omega
    unfold laterPieces
    rcases hl with rfl | rfl | rfl | rfl | rfl | rfl | rfl | rfl | rfl | rfl | rfl | rfl | rfl | rfl | rfl <;>
      exact ⟨_, by repeat first | with_reducible exact List.mem_cons_self | apply List.mem_cons_of_mem⟩
  obtain ⟨v, hm⟩ := hm
  exact ⟨_, hm, key v⟩

theorem loop1_end : (∀ b, Inv (X b) a (Y b) b 496 (loop1 c arg0 harg0 arg1 harg1 arg2 harg2 arg3 harg3 arg4 harg4 arg5 harg5 arg6 harg6 arg7 harg7 arg8 harg8 arg9 harg9 f0 f1 f2 f3).1) ∧ Holds X a 496 (loop1 c arg0 harg0 arg1 harg1 arg2 harg2 arg3 harg3 arg4 harg4 arg5 harg5 arg6 harg6 arg7 harg7 arg8 harg8 arg9 harg9 f0 f1 f2 f3).2 :=
  loop1_inv c harg0 harg1 harg2 harg3 arg4 harg4 arg5 harg5 arg6 harg6 arg7 harg7 arg8 harg8 arg9 harg9 I 31 le_rfl

theorem ending_inv (b : Fin 128) : Inv (X b) a (Y b) b 510 (ending c arg0 harg0 arg1 harg1 arg2 harg2 arg3 harg3 arg4 harg4 arg5 harg5 arg6 harg6 arg7 harg7 arg8 harg8 arg9 harg9 f0 f1 f2 f3) :=
  (after1_inv arg7 arg8 arg9 I ((loop1_end c harg0 harg1 harg2 harg3 arg4 harg4 arg5 harg5 arg6 harg6 arg7 harg7 arg8 harg8 arg9 harg9 I).1 b)).2.2.2.2

theorem bpBuf_at (f6 : BufTy.Contents (Elt Ideal) arg6.view.ty) (j : Fin 512) (hj : 1 ≤ j.val) (l : Fin 17) (b : Fin 128) :
    bpRow arg6 (bpBuf c arg0 harg0 arg1 harg1 arg2 harg2 arg3 harg3 arg4 harg4 arg5 harg5 arg6 harg6 arg7 harg7 arg8 harg8 arg9 harg9 f0 f1 f2 f3 f6) j (ix3 0 l b) = word (bp (X b) a (j.val - 1) l) := by
  obtain ⟨h1, h2⟩ := loop1_end c harg0 harg1 harg2 harg3 arg4 harg4 arg5 harg5 arg6 harg6 arg7 harg7 arg8 harg8 arg9 harg9 I
  have H := holds_append (n' := 511) h2 (later_agrees arg7 arg8 arg9 I h1) (fun j hj _ l b => later_covers arg7 arg8 arg9 _ j hj l b)
  rw [bpRow_at]
  exact View.read_writes_apply_of_pieces arg6.view f6 (bpFn X a) _ H.1 (ix3 j l b) (H.2 j hj (by omega) l b)

theorem lastLabel_at (b : Fin 128) : lastLabel arg0 arg3 arg7 arg9 f0 f3 (ending c arg0 harg0 arg1 harg1 arg2 harg2 arg3 harg3 arg4 harg4 arg5 harg5 arg6 harg6 arg7 harg7 arg8 harg8 arg9 harg9 f0 f1 f2 f3) (ix2 0 b) = word (back (X b) a 0) := by
  have T := tables arg7 arg8 arg9 I
  exact lastScan_real (f := D (X b) a 511) (vit_real T.h7 T.h9 (ending_inv c harg0 harg1 harg2 harg3 arg4 harg4 arg5 harg5 arg6 harg6 arg7 harg7 arg8 harg8 arg9 harg9 I b).dp (I.x b 511))

/-! ## The path -/

omit I in
theorem back_step {X6 : BufTy.Contents (Elt Ideal) arg6.view.ty} (hX : ∀ (j : Fin 512), 1 ≤ j.val → ∀ l b, bpRow arg6 X6 j (ix3 0 l b) = word (bp (X b) a (j.val - 1) l))
    (k : Fin k0_t2_loop.trips) {cur : IRow} (hc : ∀ b, cur (ix2 0 b) = word (back (X b) a (3 * k.val))) :
    ∀ d : ℕ, d ≤ 3 → ∀ b, backCur arg6 X6 k cur d (ix2 0 b) = word (back (X b) a (3 * k.val + d))
  | 0, _ => hc
  | d + 1, hd => fun b => by
    have hk : k.val < 170 := k.isLt
    have e : (Fin.ofNat 3 d).val = d := Nat.mod_eq_of_lt hd
    have hj : 511 - (3 * k.val + d) < 512 := by omega
    show backRow labels _ (backLoad arg6 X6 k (Fin.ofNat 3 d)) (ix2 0 b) = _
    rw [backLoad_eq arg6 X6 k (Fin.ofNat 3 d) ⟨511 - (3 * k.val + d), hj⟩ (by rw [e])]
    refine backRow_real (back_step hX k hc d (by omega) b) (fun l => ?_)
    rw [hX _ (by show 1 ≤ 511 - (3 * k.val + d); omega)]
    show word (bp (X b) a (511 - (3 * k.val + d) - 1) l) = word (bp (X b) a (510 - (3 * k.val + d)) l)
    congr 2; omega

omit I in
theorem loop2_inv {X6 : BufTy.Contents (Elt Ideal) arg6.view.ty} (hX : ∀ (j : Fin 512), 1 ≤ j.val → ∀ l b, bpRow arg6 X6 j (ix3 0 l b) = word (bp (X b) a (j.val - 1) l))
    {last : IRow} (hl : ∀ b, last (ix2 0 b) = word (back (X b) a 0)) : ∀ n : ℕ, n ≤ 170 →
      (∀ b, (loop2At c arg0 harg0 arg1 harg1 arg2 harg2 arg3 harg3 arg4 harg4 arg5 harg5 arg6 harg6 arg7 harg7 arg8 harg8 arg9 harg9 X6 last n).1 (ix2 0 b) = word (back (X b) a (3 * n)))
        ∧ PathHolds X a (511 - 3 * n) 511 (loop2At c arg0 harg0 arg1 harg1 arg2 harg2 arg3 harg3 arg4 harg4 arg5 harg5 arg6 harg6 arg7 harg7 arg8 harg8 arg9 harg9 X6 last n).2
  | 0, _ => ⟨hl, fun p hp => absurd hp List.not_mem_nil, fun j h1 h2 => by omega⟩
  | n + 1, hn => by
    obtain ⟨h1, h2⟩ := loop2_inv hX hl n (by omega)
    have hk := loop2At_succ c arg0 harg0 arg1 harg1 arg2 harg2 arg3 harg3 arg4 harg4 arg5 harg5 arg6 harg6 arg7 harg7 arg8 harg8 arg9 harg9 X6 last (⟨n, hn⟩ : Fin k0_t2_loop.trips)
    rw [show ((⟨n, hn⟩ : Fin k0_t2_loop.trips).val + 1) = n + 1 from rfl] at hk
    rw [hk]
    have hs := back_step arg6 hX (⟨n, hn⟩ : Fin k0_t2_loop.trips) h1
    have piece : ∀ d : Fin 3, ∀ x, (backPiece arg6 X6 ⟨n, hn⟩ (loop2At c arg0 harg0 arg1 harg1 arg2 harg2 arg3 harg3 arg4 harg4 arg5 harg5 arg6 harg6 arg7 harg7 arg8 harg8 arg9 harg9 X6 last n).1 d).2 x
        = pathFn X a ((backPiece arg6 X6 ⟨n, hn⟩ (loop2At c arg0 harg0 arg1 harg1 arg2 harg2 arg3 harg3 arg4 harg4 arg5 harg5 arg6 harg6 arg7 harg7 arg8 harg8 arg9 harg9 X6 last n).1 d).1.emb x) := fun d x => by
      have hd := d.isLt
      refine path_agrees (⟨510 - (3 * n + d.val), by omega⟩ : Fin 512) (off4_eq ⟨n, hn⟩ d) (k0_off4_inb ⟨n, hn⟩ d) (fun b => ?_) x
      refine (hs (d.val + 1) (by omega) b).trans ?_
      show word (back (X b) a (3 * n + (d.val + 1))) = word (back (X b) a (511 - (510 - (3 * n + d.val))))
      congr 2; omega
    refine ⟨fun b => (hs 3 le_rfl b), pathHolds_append h2 ⟨?_, fun j h3 h4 b => ?_⟩⟩
    · simp only [List.forall_mem_cons]
      exact ⟨piece 2, piece 1, piece 0, fun p hp => absurd hp List.not_mem_nil⟩
    · have cov : ∀ d : Fin 3, 510 - (3 * n + d.val) = j.val → ix2 j b ∈ (backPiece arg6 X6 ⟨n, hn⟩ (loop2At c arg0 harg0 arg1 harg1 arg2 harg2 arg3 harg3 arg4 harg4 arg5 harg5 arg6 harg6 arg7 harg7 arg8 harg8 arg9 harg9 X6 last n).1 d).1.set :=
        fun d hd => path_covers j ((off4_eq ⟨n, hn⟩ d).trans (by rw [← hd])) (k0_off4_inb ⟨n, hn⟩ d) b
      have hc : j.val = 510 - 3 * n ∨ j.val = 510 - (3 * n + 1) ∨ j.val = 510 - (3 * n + 2) := by omega
      rcases hc with hc | hc | hc
      · exact ⟨_, List.mem_cons_of_mem _ (List.mem_cons_of_mem _ List.mem_cons_self), cov 0 hc.symm⟩
      · exact ⟨_, List.mem_cons_of_mem _ List.mem_cons_self, cov 1 hc.symm⟩
      · exact ⟨_, List.mem_cons_self, cov 2 hc.symm⟩

/-- The path the body leaves. -/
theorem path_at (f4 : BufTy.Contents (Elt Ideal) arg4.view.ty) (f6 : BufTy.Contents (Elt Ideal) arg6.view.ty) (y : S512x128.Idx) :
    arg4.view.read (Elt Ideal) (arg4.view.writes (Elt Ideal) f4
      (pathPieces c arg0 harg0 arg1 harg1 arg2 harg2 arg3 harg3 arg4 harg4 arg5 harg5 arg6 harg6 arg7 harg7 arg8 harg8 arg9 harg9 (bpBuf c arg0 harg0 arg1 harg1 arg2 harg2 arg3 harg3 arg4 harg4 arg5 harg5 arg6 harg6 arg7 harg7 arg8 harg8 arg9 harg9 f0 f1 f2 f3 f6) (lastLabel arg0 arg3 arg7 arg9 f0 f3 (ending c arg0 harg0 arg1 harg1 arg2 harg2 arg3 harg3 arg4 harg4 arg5 harg5 arg6 harg6 arg7 harg7 arg8 harg8 arg9 harg9 f0 f1 f2 f3)))) y = pathFn X a y := by
  have hX := bpBuf_at c harg0 harg1 harg2 harg3 arg4 harg4 arg5 harg5 arg6 harg6 arg7 harg7 arg8 harg8 arg9 harg9 I f6
  have hl := lastLabel_at c harg0 harg1 harg2 harg3 arg4 harg4 arg5 harg5 arg6 harg6 arg7 harg7 arg8 harg8 arg9 harg9 I
  obtain ⟨h1, h2⟩ := loop2_inv c harg0 harg1 harg2 harg3 arg4 harg4 arg5 harg5 arg6 harg6 arg7 harg7 arg8 harg8 arg9 harg9 hX hl 170 le_rfl
  have h511 : PathHolds X a 511 512 [pathPiece (F := Ideal) 511 (lastLabel arg0 arg3 arg7 arg9 f0 f3 (ending c arg0 harg0 arg1 harg1 arg2 harg2 arg3 harg3 arg4 harg4 arg5 harg5 arg6 harg6 arg7 harg7 arg8 harg8 arg9 harg9 f0 f1 f2 f3))] := by
    refine ⟨?_, fun j h3 h4 b => ⟨_, List.mem_cons_self, path_covers j ?_ (row_inb 511) b⟩⟩
    · simp only [List.forall_mem_cons]
      exact ⟨path_agrees 511 rfl (row_inb 511) hl, fun p hp => absurd hp List.not_mem_nil⟩
    · rw [show j.val = 511 by omega]; rfl
  have h0 : PathHolds X a 0 1 [pathPiece (F := Ideal) 0 (backRow labels (loop2 c arg0 harg0 arg1 harg1 arg2 harg2 arg3 harg3 arg4 harg4 arg5 harg5 arg6 harg6 arg7 harg7 arg8 harg8 arg9 harg9 (bpBuf c arg0 harg0 arg1 harg1 arg2 harg2 arg3 harg3 arg4 harg4 arg5 harg5 arg6 harg6 arg7 harg7 arg8 harg8 arg9 harg9 f0 f1 f2 f3 f6) (lastLabel arg0 arg3 arg7 arg9 f0 f3 (ending c arg0 harg0 arg1 harg1 arg2 harg2 arg3 harg3 arg4 harg4 arg5 harg5 arg6 harg6 arg7 harg7 arg8 harg8 arg9 harg9 f0 f1 f2 f3))).1
      (bpRow arg6 (bpBuf c arg0 harg0 arg1 harg1 arg2 harg2 arg3 harg3 arg4 harg4 arg5 harg5 arg6 harg6 arg7 harg7 arg8 harg8 arg9 harg9 f0 f1 f2 f3 f6) 1))] := by
    refine ⟨?_, fun j h3 h4 b => ⟨_, List.mem_cons_self, path_covers j ?_ (row_inb 0) b⟩⟩
    · simp only [List.forall_mem_cons]
      exact ⟨path_agrees 0 rfl (row_inb 0) fun b => backRow_real (h1 b) (fun l => hX 1 le_rfl l b), fun p hp => absurd hp List.not_mem_nil⟩
    · rw [show j.val = 0 by omega]; rfl
  have H := pathHolds_append (pathHolds_append h511 h2) h0
  obtain ⟨j, b, rfl⟩ : ∃ (j : Fin 512) (b : Fin 128), y = ix2 j b := ⟨y 0, y 1, by funext a; fin_cases a <;> rfl⟩
  exact View.read_writes_apply_of_pieces arg4.view f4 (pathFn X a) _ H.1 (ix2 j b) (H.2 j (by omega) (by omega) b)

/-- The loss the body leaves. -/
theorem loss_at : lossOf (square arg2 f2) (xAll arg0 f0 511) (yAll arg1 f1 511) (ending c arg0 harg0 arg1 harg1 arg2 harg2 arg3 harg3 arg4 harg4 arg5 harg5 arg6 harg6 arg7 harg7 arg8 harg8 arg9 harg9 f0 f1 f2 f3) (ix2 0 0)
    = (((∑ b, (logZ (X b) a - score (X b) a (Y b) 511)) * (1 / 128) : ℝ) : EReal) := by
  refine (mean_at _).trans ?_
  rw [Finset.sum_congr rfl fun b _ => loss_row (tables arg7 arg8 arg9 I) (ending_inv c harg0 harg1 harg2 harg3 arg4 harg4 arg5 harg5 arg6 harg6 arg7 harg7 arg8 harg8 arg9 harg9 I b) (I.x b 511) (I.y b 511),
    ← coe_sum, ← EReal.coe_mul]

end Body

end Cert.KernelIdeal.Hand

end
-- ==== Proof.BodyPath.lean ====
/-
  The body's path is the function of `BodyRun`, by computation.
-/
module

public import proofs.«01_k».proof.Proof.BodyRun

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD)
  (arg0 : Memref sig .tc .vmem S512x17x128 .f32) (harg0 : arg0.IsWhole) (arg1 : Memref sig .tc .vmem S512x128 .i32) (harg1 : arg1.IsWhole)
  (arg2 : Memref sig .tc .vmem S17x17 .f32) (harg2 : arg2.IsWhole) (arg3 : Memref sig .tc .vmem S17x17 .f32) (harg3 : arg3.IsWhole)
  (arg4 : Memref sig .tc .vmem S512x128 .i32) (harg4 : arg4.IsWhole) (arg5 : Memref sig .tc .vmem S1x1 .f32) (harg5 : arg5.IsWhole)
  (arg6 : Memref sig .tc .vmem S512x17x128 .i32) (harg6 : arg6.IsWhole) (arg7 : Memref sig .tc .vmem S17x17x128 .f32) (harg7 : arg7.IsWhole)
  (arg8 : Memref sig .tc .vmem S17x17x128 .f32) (harg8 : arg8.IsWhole) (arg9 : Memref sig .tc .vmem S17x17x128 .i32) (harg9 : arg9.IsWhole)
  (f0 : BufTy.Contents (Elt F) arg0.view.ty) (f1 : BufTy.Contents (Elt F) arg1.view.ty)
  (f2 : BufTy.Contents (Elt F) arg2.view.ty) (f3 : BufTy.Contents (Elt F) arg3.view.ty)
  (f6 : BufTy.Contents (Elt F) arg6.view.ty) (f7 : BufTy.Contents (Elt F) arg7.view.ty)
  (f8 : BufTy.Contents (Elt F) arg8.view.ty) (f9 : BufTy.Contents (Elt F) arg9.view.ty)

theorem body_path :
    (kernelRun c arg0 harg0 arg1 harg1 arg2 harg2 arg3 harg3 arg4 harg4 arg5 harg5 arg6 harg6 arg7 harg7 arg8 harg8 arg9 harg9
      f0 f1 f2 f3 f6 f7 f8 f9).1
      = pathPieces c arg0 harg0 arg1 harg1 arg2 harg2 arg3 harg3 arg4 harg4 arg5 harg5 arg6 harg6 arg7 harg7 arg8 harg8 arg9 harg9
          (bpBuf c arg0 harg0 arg1 harg1 arg2 harg2 arg3 harg3 arg4 harg4 arg5 harg5 arg6 harg6 arg7 harg7 arg8 harg8 arg9 harg9
            f0 f1 f2 f3 f6)
          (lastLabel arg0 arg3 arg7 arg9 f0 f3
            (ending c arg0 harg0 arg1 harg1 arg2 harg2 arg3 harg3 arg4 harg4 arg5 harg5 arg6 harg6 arg7 harg7 arg8 harg8 arg9 harg9
              f0 f1 f2 f3)) := by
  sl_kernel_rfl

end Cert.KernelIdeal.Hand

end
-- ==== Proof.BodyLoss.lean ====
/-
  The body's loss is the function of `BodyRun`, by computation.
-/
module

public import proofs.«01_k».proof.Proof.BodyRun

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD)
  (arg0 : Memref sig .tc .vmem S512x17x128 .f32) (harg0 : arg0.IsWhole) (arg1 : Memref sig .tc .vmem S512x128 .i32) (harg1 : arg1.IsWhole)
  (arg2 : Memref sig .tc .vmem S17x17 .f32) (harg2 : arg2.IsWhole) (arg3 : Memref sig .tc .vmem S17x17 .f32) (harg3 : arg3.IsWhole)
  (arg4 : Memref sig .tc .vmem S512x128 .i32) (harg4 : arg4.IsWhole) (arg5 : Memref sig .tc .vmem S1x1 .f32) (harg5 : arg5.IsWhole)
  (arg6 : Memref sig .tc .vmem S512x17x128 .i32) (harg6 : arg6.IsWhole) (arg7 : Memref sig .tc .vmem S17x17x128 .f32) (harg7 : arg7.IsWhole)
  (arg8 : Memref sig .tc .vmem S17x17x128 .f32) (harg8 : arg8.IsWhole) (arg9 : Memref sig .tc .vmem S17x17x128 .i32) (harg9 : arg9.IsWhole)
  (f0 : BufTy.Contents (Elt F) arg0.view.ty) (f1 : BufTy.Contents (Elt F) arg1.view.ty)
  (f2 : BufTy.Contents (Elt F) arg2.view.ty) (f3 : BufTy.Contents (Elt F) arg3.view.ty)
  (f6 : BufTy.Contents (Elt F) arg6.view.ty) (f7 : BufTy.Contents (Elt F) arg7.view.ty)
  (f8 : BufTy.Contents (Elt F) arg8.view.ty) (f9 : BufTy.Contents (Elt F) arg9.view.ty)

theorem body_loss :
    (kernelRun c arg0 harg0 arg1 harg1 arg2 harg2 arg3 harg3 arg4 harg4 arg5 harg5 arg6 harg6 arg7 harg7 arg8 harg8 arg9 harg9
      f0 f1 f2 f3 f6 f7 f8 f9).2.1
      = [⟨Rect.unit (s := S1x1) ![0, 0] S1x1.size inb_S1x1_S1x1_0_0,
          lossOf (square arg2 f2) (xAll arg0 f0 511) (yAll arg1 f1 511)
            (ending c arg0 harg0 arg1 harg1 arg2 harg2 arg3 harg3 arg4 harg4 arg5 harg5 arg6 harg6 arg7 harg7 arg8 harg8 arg9 harg9
              f0 f1 f2 f3)⟩] := by
  sl_kernel_rfl

end Cert.KernelIdeal.Hand

end
-- ==== Proof.Exact.lean ====
/-
  The launch of the kernel with its results' values: where the argument arrays hold real scores `X`, `a` and labels `Y`, every
  weakly fair execution of @main ends with the best paths and the mean loss in the two results (`run_exact`).
-/
module

public import proofs.«01_k».proof.Proof.IdealFrame
public import proofs.«01_k».proof.Proof.BodyValues
public import proofs.«01_k».proof.Proof.BodyPath
public import proofs.«01_k».proof.Proof.BodyLoss
public import Idealize.ShloMosaic.Lib.Pipeline.ValueKit
public import Idealize.ShloMosaic.Lib.StableHlo.RunRead
public import Idealize.ShloMosaic.Lib.WritesUnit

@[expose] public section

set_option maxRecDepth 65536

noncomputable section

namespace Cert.KernelIdeal.Hand

open Cert.KernelIdeal Cert.KernelIdeal.Gen Cert.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The loss the kernel leaves in its one element. -/
def lossFn (X : Fin 128 → ℕ → Sc) (a : Fin 17 → Sc) (Y : Fin 128 → ℕ → Fin 17) (_ : S1x1.Idx) : Elt Ideal .f32 :=
  (((∑ b, (logZ (X b) a - score (X b) a (Y b) 511)) * (1 / 128) : ℝ) : EReal)

/-- The four input blocks hold the scores `X`, the labels `Y`, the transitions `a` and their transpose. -/
structure Blocks (d0 : S512x17x128.Idx → Elt Ideal .f32) (d1 : S512x128.Idx → Elt Ideal .i32) (d2 d3 : S17x17.Idx → Elt Ideal .f32)
    (X : Fin 128 → ℕ → Sc) (a : Fin 17 → Sc) (Y : Fin 128 → ℕ → Fin 17) : Prop where
  x : ∀ b (j : Fin 512) l, d0 (ix3 j l b) = (X b j.val l : EReal)
  y : ∀ b (j : Fin 512), d1 (ix2 j b) = word (Y b j.val)
  A : ∀ i k, d2 (ix2 i k) = (a i k : EReal)
  AT : ∀ i k, d3 (ix2 i k) = (a k i : EReal)

section Triple

variable (c : Dev nD) (t : Fin cfg0.N) {d0 d1 d2 d3} {X : Fin 128 → ℕ → Sc} {a : Fin 17 → Sc} {Y : Fin 128 → ℕ → Fin 17}
  (B : Blocks d0 d1 d2 d3 X a Y)
  (f0 : BufTy.Contents (Elt Ideal) (ms0 t).view.ty) (f1 : BufTy.Contents (Elt Ideal) (ms1 t).view.ty)
  (f2 : BufTy.Contents (Elt Ideal) (ms2 t).view.ty) (f3 : BufTy.Contents (Elt Ideal) (ms3 t).view.ty)

include B in
/-- Staging buffers that read the blocks are inputs the body's values are stated for. -/
theorem inputs_of (h0 : (ms0 t).view.read (Elt Ideal) f0 = d0) (h1 : (ms1 t).view.read (Elt Ideal) f1 = d1)
    (h2 : (ms2 t).view.read (Elt Ideal) f2 = d2) (h3 : (ms3 t).view.read (Elt Ideal) f3 = d3) :
    Inputs (ms0 t) (ms1 t) (ms2 t) (ms3 t) f0 f1 f2 f3 X a Y where
  x b j l := (xAll_at _ _ _ _ _).trans (h0 ▸ B.x b j l)
  y b j := (yAll_at _ _ _ _).trans (h1 ▸ B.y b j)
  A i k := (square_at _ _ _).trans (h2 ▸ B.A i k)
  AT i k := (square_at _ _ _).trans (h3 ▸ B.AT i k)

variable {f0 f1 f2 f3}
  (I : Inputs (ms0 t) (ms1 t) (ms2 t) (ms3 t) f0 f1 f2 f3 X a Y)
  (f6 : BufTy.Contents (Elt Ideal) sc0.view.ty) (f7 : BufTy.Contents (Elt Ideal) sc1.view.ty)
  (f8 : BufTy.Contents (Elt Ideal) sc2.view.ty) (f9 : BufTy.Contents (Elt Ideal) sc3.view.ty)

include I in
/-- What the body's run leaves in the path's staging buffer. -/
theorem path_left (f4 : BufTy.Contents (Elt Ideal) (ms4 t).view.ty) :
    (ms4 t).view.read (Elt Ideal) ((ms4 t).view.writes (Elt Ideal) f4
      (kernelRun c (ms0 t) (hstage0_0 0) (ms1 t) (hstage0_1 0) (ms2 t) (hstage0_2 0) (ms3 t) (hstage0_3 0)
        (ms4 t) (hstage0_4 0) (ms5 t) (hstage0_5 0) sc0 (Memref.isWhole_whole _) sc1 (Memref.isWhole_whole _)
        sc2 (Memref.isWhole_whole _) sc3 (Memref.isWhole_whole _) f0 f1 f2 f3 f6 f7 f8 f9).1) = pathFn X a := by
  funext y
  rw [body_path]
  exact path_at c _ _ _ _ _ _ _ _ _ _ _ _ _ _ _ _ I f4 f6 y

include I in
/-- What the body's run leaves in the loss's staging buffer. -/
theorem loss_left :
    (ms5 t).view.read (Elt Ideal) ((ms5 t).view.writes (Elt Ideal) (ms5 t).view.junk
      (kernelRun c (ms0 t) (hstage0_0 0) (ms1 t) (hstage0_1 0) (ms2 t) (hstage0_2 0) (ms3 t) (hstage0_3 0)
        (ms4 t) (hstage0_4 0) (ms5 t) (hstage0_5 0) sc0 (Memref.isWhole_whole _) sc1 (Memref.isWhole_whole _)
        sc2 (Memref.isWhole_whole _) sc3 (Memref.isWhole_whole _) f0 f1 f2 f3 f6 f7 f8 f9).2.1) = lossFn X a Y := by
  rw [body_loss]
  funext y
  refine (View.read_writes_cons_unit_of_mem (ms5 t).view _ inb_S1x1_S1x1_0_0 _ [] y y rfl fun k => ?_).trans ?_
  · fin_cases k <;> exact (Nat.zero_add _).symm
  obtain rfl : y = ix2 0 0 := by
    funext k; exact Fin.ext (by have := (y k).isLt; fin_cases k <;> simp_all)
  exact loss_at c _ _ _ _ _ _ _ _ _ _ _ _ _ _ _ _ I

end Triple

/-- The body from its inputs' staging buffers holding the chain's blocks: it hands them back as they were and leaves the best
    paths and the mean loss in the results' buffers. -/
theorem body_exact (c : Dev nD) (t : Fin cfg0.N) {d0 d1 d2 d3} {X : Fin 128 → ℕ → Sc} {a : Fin 17 → Sc} {Y : Fin 128 → ℕ → Fin 17}
    (B : Blocks d0 d1 d2 d3 X a Y) :
    iprop(owns (c : Thread nD τ) (ms0 t) fullShare d0 ∗ owns (c : Thread nD τ) (ms1 t) fullShare d1
        ∗ owns (c : Thread nD τ) (ms2 t) fullShare d2 ∗ owns (c : Thread nD τ) (ms3 t) fullShare d3
        ∗ (∃ d, owns (c : Thread nD τ) (ms4 t) fullShare d) ∗ (∃ d, owns (c : Thread nD τ) (ms5 t) fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d))
      ⊢ wp frame (wpE (defs₀ (F := Ideal)) Variants.none (c : Thread nD τ) none) Set.univ (bodyAt0 t)
          (fun _ => (iprop(owns (c : Thread nD τ) (ms0 t) fullShare d0 ∗ owns (c : Thread nD τ) (ms1 t) fullShare d1
        ∗ owns (c : Thread nD τ) (ms2 t) fullShare d2 ∗ owns (c : Thread nD τ) (ms3 t) fullShare d3
        ∗ owns (c : Thread nD τ) (ms4 t) fullShare (pathFn X a) ∗ owns (c : Thread nD τ) (ms5 t) fullShare (lossFn X a Y)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) : sProp 𝕄)) := by
  unfold owns
  iintro ⟨⟨%f0, %h0, H0⟩, ⟨%f1, %h1, H1⟩, ⟨%f2, %h2, H2⟩, ⟨%f3, %h3, H3⟩, ⟨%d4, %f4, -, H4⟩, ⟨%d5, %f5, -, H5⟩,
    ⟨%d6, %f6, -, H6⟩, ⟨%d7, %f7, -, H7⟩, ⟨%d8, %f8, -, H8⟩, ⟨%d9, %f9, -, H9⟩⟩
  have I := inputs_of t B f0 f1 f2 f3 h0 h1 h2 h3
  iapply (wp_mono _ _ _ ?_)
  rotate_left
  · iapply ((kernelRun c (ms0 t) (hstage0_0 0) (ms1 t) (hstage0_1 0) (ms2 t) (hstage0_2 0) (ms3 t) (hstage0_3 0)
      (ms4 t) (hstage0_4 0) (ms5 t) (hstage0_5 0) sc0 (Memref.isWhole_whole _) sc1 (Memref.isWhole_whole _)
      sc2 (Memref.isWhole_whole _) sc3 (Memref.isWhole_whole _) f0 f1 f2 f3 f6 f7 f8 f9).2.2 f4 f5)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · intro _
    iintro ⟨H0, H1, H2, H3, H4, H5, ⟨%g6, H6⟩, ⟨%g7, H7⟩, ⟨%g8, H8⟩, ⟨%g9, H9⟩⟩
    isplitl [H0]
    · iexists f0; isplitr; · ipureintro; exact h0
      iexact H0
    isplitl [H1]
    · iexists f1; isplitr; · ipureintro; exact h1
      iexact H1
    isplitl [H2]
    · iexists f2; isplitr; · ipureintro; exact h2
      iexact H2
    isplitl [H3]
    · iexists f3; isplitr; · ipureintro; exact h3
      iexact H3
    isplitl [H4]
    · iexists _; isplitr
      rotate_left
      · iexact H4
      · ipureintro; exact path_left c t I f6 f7 f8 f9 f4
    isplitl [H5]
    · iexists _; isplitr
      rotate_left
      · iexact H5
      · ipureintro; exact loss_left c t I f6 f7 f8 f9
    isplitl [H6]
    · iexists _, g6; isplitr; · ipureintro; rfl
      iexact H6
    isplitl [H7]
    · iexists _, g7; isplitr; · ipureintro; rfl
      iexact H7
    isplitl [H8]
    · iexists _, g8; isplitr; · ipureintro; rfl
      iexact H8
    iexists _, g9; isplitr; · ipureintro; rfl
    iexact H9

/-! ## The proof data and the body obligation -/

variable (m : (ℓ : Loc nD τ sig) → Buf (Elt Ideal) ℓ) (ρ : Dev nD → PrngReg)
  (X : Dev nD → Fin 128 → ℕ → Sc) (a : Dev nD → Fin 17 → Sc) (Y : Dev nD → Fin 128 → ℕ → Fin 17)

/-- The argument arrays hold the scores, the labels and the transitions, on every core. -/
structure Args : Prop where
  x : ∀ (c : Dev nD) b (j : Fin 512) l, m ((c.tc : Thread nD τ).loc main_arg0) (ix3 b j l) = (X c b j.val l : EReal)
  y : ∀ (c : Dev nD) b (j : Fin 512), m ((c.tc : Thread nD τ).loc main_arg1) (ix2 b j) = word (Y c b j.val)
  A : ∀ (c : Dev nD) i k, m ((c.tc : Thread nD τ).loc main_arg2) (ix2 i k) = (a c i k : EReal)

/-- The proof data on core `c`: as `dats`, with the two results' values. -/
def exacts (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | ⟨4, _⟩ => pathFn (X c) (a c)
    | ⟨5, _⟩ => lossFn (X c) (a c) (Y c)
    | ⟨_ + 6, h⟩ => absurd h (Nat.not_lt.2 (Nat.le_add_left _ _))
  Φ _ := Pipeline.ΦA spec0 c
  q _ := fullShare
  owed _ := 0

theorem exacts_A (c : Dev nD) (w : Fin cfg0.W) : (exacts m X a Y 0 c).A w = V m c (Pipeline.arrRef spec0 w) := by
  dsimp only [exacts]

/-- What the body is called with at point `t`, and what it returns. -/
def exactPre (c : Dev nD) (t : Fin cfg0.N) : sProp 𝕄 :=
  iprop((exacts m X a Y 0 c).Φ t.castSucc ∗ (exacts m X a Y 0 c).owesAt () t.castSucc
    ∗ (∃ d, owns (c : Thread nD τ) (ms0 t) fullShare ((exacts m X a Y 0 c).before 0 t d))
    ∗ (∃ d, owns (c : Thread nD τ) (ms1 t) fullShare ((exacts m X a Y 0 c).before 1 t d))
    ∗ (∃ d, owns (c : Thread nD τ) (ms2 t) fullShare ((exacts m X a Y 0 c).before 2 t d))
    ∗ (∃ d, owns (c : Thread nD τ) (ms3 t) fullShare ((exacts m X a Y 0 c).before 3 t d))
    ∗ (∃ d, owns (c : Thread nD τ) (ms4 t) fullShare ((exacts m X a Y 0 c).before 4 t d))
    ∗ (∃ d, owns (c : Thread nD τ) (ms5 t) fullShare ((exacts m X a Y 0 c).before 5 t d)))
def exactPost (c : Dev nD) (t : Fin cfg0.N) : sProp 𝕄 :=
  iprop((exacts m X a Y 0 c).Φ t.succ ∗ (exacts m X a Y 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (pathFn (X c) (a c))
    ∗ owns (c : Thread nD τ) (ms5 t) fullShare (lossFn (X c) (a c) (Y c)))

variable {m X a Y}

/-- The region's input blocks hold the chain's. -/
theorem blocks_of (H : Args m X a Y) (c : Dev nD) (t : Fin cfg0.N) :
    Blocks (iblk m c 0 t) (iblk m c 1 t) (iblk m c 2 t) (iblk m c 3 t) (X c) (a c) (Y c) := by
  obtain rfl := fin_N0 t
  have e0 : V m c main_call0_v0 = transpose S512x17x128 [1, 2, 0] (m ((c.tc : Thread nD τ).loc main_arg0)) transposes_S128x512x17_S512x17x128_1_2_0 := by
    unfold V V0 hostOps0
    after_reads_simp
    rfl
  have e1 : V m c main_call0_v1 = transpose S512x128 [1, 0] (m ((c.tc : Thread nD τ).loc main_arg1)) transposes_S128x512_S512x128_1_0 := by
    unfold V V0 hostOps0
    after_reads_simp
    rfl
  have e2 : V m c main_call0_v2 = transpose S17x17 [1, 0] (m ((c.tc : Thread nD τ).loc main_arg2)) transposes_S17x17_S17x17_1_0 := by
    unfold V V0 hostOps0
    after_reads_simp
    rfl
  have i0 : win0_0.index t0_0 = ![0, 0, 0] := by decide +kernel
  have i1 : win0_1.index t0_0 = ![0, 0] := by decide +kernel
  have i2 : win0_2.index t0_0 = ![0, 0] := by decide +kernel
  have i3 : win0_3.index t0_0 = ![0, 0] := by decide +kernel
  have p0 (y : S512x17x128.Idx) : iblk m c 0 t0_0 y = V m c main_call0_v0 y := by
    blk_simp [iblk]
    blk_ext [i0]
  have p1 (y : S512x128.Idx) : iblk m c 1 t0_0 y = V m c main_call0_v1 y := by
    blk_simp [iblk]
    blk_ext [i1]
  have p2 (y : S17x17.Idx) : iblk m c 2 t0_0 y = V m c main_arg2 y := by
    blk_simp [iblk]
    blk_ext [i2]
  have p3 (y : S17x17.Idx) : iblk m c 3 t0_0 y = V m c main_call0_v2 y := by
    blk_simp [iblk]
    blk_ext [i3]
  refine ⟨fun b j l => ?_, fun b j => ?_, fun i k => ?_, fun i k => ?_⟩
  · rw [← H.x c b j l, p0, e0]
    pointwise
  · rw [← H.y c b j, p1, e1]
    pointwise
  · rw [← H.A c i k, p2, V_main_arg2]
  · rw [← H.A c k i, p3, e2]
    pointwise

theorem exact_body (H : Args m X a Y) (c : Dev nD) (t : Fin cfg0.N) :
    exactPre m X a Y c t ⊢ wp frame (wpE (defs₀ (F := Ideal)) Variants.none c none) Set.univ (bodyAt0 t) (fun _ => exactPost m X a Y c t) := by
  unfold exactPre exactPost
  rw [show (exacts m X a Y 0 c).Φ t.succ = (exacts m X a Y 0 c).Φ t.castSucc from rfl,
    show (exacts m X a Y 0 c).owesAt () t.succ = (exacts m X a Y 0 c).owesAt () t.castSucc from rfl,
    show (exacts m X a Y 0 c).Φ t.castSucc = Pipeline.ΦA spec0 c from rfl, PhiA_eq]
  simp only [before0_0_of m (exacts m X a Y 0 c) rfl (fun _ => rfl), before0_1_of m (exacts m X a Y 0 c) rfl (fun _ => rfl),
    before0_2_of m (exacts m X a Y 0 c) rfl (fun _ => rfl), before0_3_of m (exacts m X a Y 0 c) rfl (fun _ => rfl)]
  refine (?_ : _ ⊢ iprop((iprop(owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ (∃ d, owns (c : Thread nD τ) (ms4 t) fullShare d) ∗ (∃ d, owns (c : Thread nD τ) (ms5 t) fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)))
      ∗ ((∃ r, prngReg c r) ∗ (exacts m X a Y 0 c).owesAt () t.castSucc))).trans
    ((sep_mono_left (body_exact c t (blocks_of H c t))).trans ((wp_frame_r _ _ _).trans (wp_mono _ _ _ fun _ => ?_)))
  · iintro ⟨⟨⟨S0, S1, S2, S3⟩, Hg⟩, HO, ⟨%_, H0⟩, ⟨%_, H1⟩, ⟨%_, H2⟩, ⟨%_, H3⟩, ⟨%_, H4⟩, ⟨%_, H5⟩⟩
    isplitl [H0 H1 H2 H3 H4 H5 S0 S1 S2 S3]
    · isplitl [H0]; · iexact H0
      isplitl [H1]; · iexact H1
      isplitl [H2]; · iexact H2
      isplitl [H3]; · iexact H3
      isplitl [H4]; · iexists _; iexact H4
      isplitl [H5]; · iexists _; iexact H5
      isplitl [S0]; · iexact S0
      isplitl [S1]; · iexact S1
      isplitl [S2]; · iexact S2
      iexact S3
    isplitl [Hg]; · iexact Hg
    iexact HO
  · iintro ⟨⟨H0, H1, H2, H3, H4, H5, S0, S1, S2, S3⟩, Hg, HO⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexact H3
    isplitl [H4]; · iexact H4
    iexact H5

/-- The library's body obligation at the exact data. -/
theorem exact_obligation (H : Args m X a Y) (c : Dev nD) :
    BodyObligation (exacts m X a Y 0 c) (defs₀ (F := Ideal)) Variants.none () Set.univ := fun t => by
  rw [bigSep_W0, bigSep_W0, defs₀_row]
  exact triple_restated (exact_body H c t) rfl .rfl fun _ => .rfl

/-! ## The launch -/

/-- The results after the host lines. -/
theorem tail_path (c : Dev nD) (b : Fin 128) (j : Fin 512) :
    Pipeline.afterTail₀ cfgs (exacts m X a Y) 0 (V0 m) [hostOps1] c main_v0_0 (ix2 b j) = pathFn (X c) (a c) (ix2 j b) := by
  have e : (exacts m X a Y 0 c).arrAt 4 cfg0.N = pathFn (X c) (a c) := by
    refine (exacts m X a Y 0 c).arrAt_eq_of_after_last 4 t0_0 (by decide +kernel) _ fun y => ?_
    blk_simp
    rfl
  unfold Pipeline.afterTail₀
  after_reads_simp
  rw [Pipeline.withArrays_arr spec0 launch0.win.arr_inj c _ _ 4]
  refine (congrArg (fun v : S512x128.Idx → BitVec 32 => transpose S128x512 [1, 0] v transposes_S512x128_S128x512_1_0 (ix2 b j)) e).trans ?_
  pointwise

theorem tail_loss (c : Dev nD) :
    Pipeline.afterTail₀ cfgs (exacts m X a Y) 0 (V0 m) [hostOps1] c main_v0_1 = fun _ => lossFn (X c) (a c) (Y c) (ix2 0 0) := by
  have e : (exacts m X a Y 0 c).arrAt 5 cfg0.N = lossFn (X c) (a c) (Y c) := by
    refine (exacts m X a Y 0 c).arrAt_eq_of_after_last 5 t0_0 (by decide +kernel) _ fun y => ?_
    blk_simp
    rfl
  unfold Pipeline.afterTail₀
  after_reads_simp
  rw [Pipeline.withArrays_arr spec0 launch0.win.arr_inj c _ _ 5]
  refine (congrArg (fun v : S1x1.Idx → Elt Ideal .f32 => shapeCast S_ v shapeCasts_S1x1_S_) e).trans ?_
  funext y
  pointwise

set_option backward.isDefEq.respectTransparency.types false in
/-- From any memory holding the chain, with zero counters, every weakly fair execution of @main terminates with the best paths
    and the mean loss in its results and the arguments as launched. -/
theorem run_exact (H : Args m X a Y) :
    θ_run defs (onTc (τ := τ) (main (F := Ideal))) (s₀ m ρ) (fun r => ∀ c : Dev nD,
      (∀ b j, r.2.mem ((c.tc : Thread nD τ).loc main_v0_0) (ix2 b j) = pathFn (X c) (a c) (ix2 j b))
      ∧ (r.2.mem ((c.tc : Thread nD τ).loc main_v0_1) = fun _ => lossFn (X c) (a c) (Y c) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_around (Q' := _) cfgs (exacts m X a Y) (0 : Fin 1) launch0 defs₀ Variants.none m ρ main
    (hbody := fun c => (exact_obligation H c).loose) (hshare := fun c => (exacts m X a Y 0 c).share_full fun _ => rfl)
    (howed := fun _ _ => rfl) (V₀ := V0 m) [hostOps1] sfx_sub sfx_fresh sfx_keeps (hmain m Variants.none)
    (hA := exacts_A m X a Y) (hΦ := fun _ _ => rfl)
    (hQ' := fun r h c =>
      ⟨fun b j => (congrFun ((h.1 c).2 main_v0_0 (Pipeline.mem_restRefs_of _ (by decide) (by decide))) _).trans (tail_path c b j),
       ((h.1 c).2 main_v0_1 (Pipeline.mem_restRefs_of _ (by decide) (by decide))).trans (tail_loss c),
       ((h.1 c).2 main_arg0 (Pipeline.mem_restRefs_of _ (by decide) (by decide))).trans (W_main_arg0 m _ c),
       ((h.1 c).2 main_arg1 (Pipeline.mem_restRefs_of _ (by decide) (by decide))).trans (W_main_arg1 m _ c),
       ((h.1 c).1 2).trans (((exacts m X a Y 0 c).arrAt_in 2 rfl _).trans (V_main_arg2 m c))⟩)

end Cert.KernelIdeal.Hand

end
-- ==== Proof.RefReads.lean ====
/-
  Readings the reference program's operations share, over the extended reals: the place of a maximum, a gather at labels,
  a row taken from or put into a table at a counter, and a logarithm of a sum of exponentials.
-/
module

public import proofs.«01_k».proof.Proof.RefRun
public import proofs.«01_k».proof.Proof.Values
public import Idealize.ShloMosaic.Lib.DynamicIndex
public import Idealize.ShloMosaic.Lib.StableHlo.ReadAt
public import Idealize.ShloMosaic.Lib.Pointwise

@[expose] public section

set_option maxRecDepth 20000

noncomputable section

namespace Cert.ReferenceIdeal.Hand

open Idealize.ShloMosaic Idealize.ShloMosaic.TcCoe
open Cert.ReferenceIdeal Cert.ReferenceIdeal.Gen Cert.Chain
open Cert.KernelIdeal.Hand (word neg_inf coe_sum fold_top log_real)

/-- An array's element as an extended real. -/
abbrev el {s : Shape} (v : Vec Ideal s .f32) (i : s.Idx) : EReal := v i

/-! ## The place of a maximum -/

theorem slt_word (k y : Fin 17) : IntOp.cmpi .slt (word k) (word y) = if k < y then 1#1 else 0#1 := by
  revert k y; decide

theorem word_inj : ∀ k y : Fin 17, word k = word y → k = y := by decide

/-- A score with its place. -/
abbrev pair (s : Sc) (k : Fin 17) : EReal × BitVec 32 := ((s k : EReal), word k)

theorem reducer_bot (s : Sc) (k : Fin 17) : reducer_argmax_f32_i32 (F := Ideal) ((⊥ : EReal), 0#32) (pair s k) = pair s k := by
  simp [reducer_argmax_f32_i32, Ideal.cmpf_def, Ideal.cmp, Scalar.select, pair, IntOp.ori, IntOp.andi]

theorem reducer_pair (s : Sc) (i k : Fin 17) : reducer_argmax_f32_i32 (F := Ideal) (pair s i) (pair s k)
    = if s k < s i ∨ (s i = s k ∧ i < k) then pair s i else pair s k := by
  rcases lt_trichotomy (s i) (s k) with h | h | h
  · simp [reducer_argmax_f32_i32, Ideal.cmpf_def, Ideal.cmp, Scalar.select, pair, IntOp.ori, IntOp.andi, h, h.le, h.ne, not_lt.2 h.le]
  · by_cases hik : i < k
    · simp [reducer_argmax_f32_i32, Ideal.cmpf_def, Ideal.cmp, Scalar.select, IntOp.ori, IntOp.andi, pair, h, slt_word, hik]
    · simp [reducer_argmax_f32_i32, Ideal.cmpf_def, Ideal.cmp, Scalar.select, IntOp.ori, IntOp.andi, pair, h, slt_word, hik]
  · simp [reducer_argmax_f32_i32, Ideal.cmpf_def, Ideal.cmp, Scalar.select, pair, IntOp.ori, IntOp.andi, h, h.ne']

/-- `r` is the greatest of the scores at the places `p`, at its first place; the initial pair where there are none. -/
def Best (s : Sc) (p : Fin 17 → Prop) (r : EReal × BitVec 32) : Prop :=
  ((∀ k, ¬ p k) ∧ r = ((⊥ : EReal), 0#32)) ∨ ∃ i, p i ∧ r = pair s i ∧ ∀ k, p k → s k ≤ s i ∧ (k < i → s k < s i)

theorem best_step {s : Sc} {p : Fin 17 → Prop} {r : EReal × BitVec 32} (h : Best s p r) (k : Fin 17) :
    Best s (fun j => p j ∨ j = k) (reducer_argmax_f32_i32 (F := Ideal) r (pair s k)) := by
  rcases h with ⟨hp, rfl⟩ | ⟨i, hi, rfl, hb⟩
  · rw [reducer_bot]
    refine .inr ⟨k, .inr rfl, rfl, fun j hj => ?_⟩
    obtain rfl := hj.resolve_left (hp j)
    exact ⟨le_rfl, fun h => absurd h (lt_irrefl _)⟩
  · rw [reducer_pair]
    split
    · next hc =>
      refine .inr ⟨i, .inl hi, rfl, fun j hj => ?_⟩
      rcases hj with hj | rfl
      · exact hb j hj
      · rcases hc with hc | ⟨he, hc⟩
        · exact ⟨hc.le, fun _ => hc⟩
        · exact ⟨he.ge, fun h => absurd h (not_lt.2 hc.le)⟩
    · next hc =>
      rw [not_or, not_lt, not_and, not_lt] at hc
      refine .inr ⟨k, .inr rfl, rfl, fun j hj => ?_⟩
      rcases hj with hj | rfl
      · refine ⟨(hb j hj).1.trans hc.1, fun hjk => ?_⟩
        rcases hc.1.lt_or_eq with hlt | he
        · exact (hb j hj).1.trans_lt hlt
        · exact ((hb j hj).2 (hjk.trans_le (hc.2 he))).trans_le hc.1
      · exact ⟨le_rfl, fun h => absurd h (lt_irrefl _)⟩

theorem best_foldl (s : Sc) : ∀ (L : List (Fin 17)) (p : Fin 17 → Prop) (r : EReal × BitVec 32), Best s p r →
    Best s (fun j => p j ∨ j ∈ L) ((L.map (pair s)).foldl (reducer_argmax_f32_i32 (F := Ideal)) r)
  | [], p, r, h => by simpa using h
  | k :: L, p, r, h => by
    have := best_foldl s L _ _ (best_step h k)
    rw [List.map_cons, List.foldl_cons]
    simpa only [List.mem_cons, or_assoc] using this

/-- A fiber of pairs that meets every place: its fold is the maximum at its first place. -/
theorem argmax_foldl (s : Sc) (P : List (EReal × BitVec 32)) (h1 : ∀ q ∈ P, ∃ k, pair s k = q) (h2 : ∀ k, pair s k ∈ P) :
    (P.foldl (reducer_argmax_f32_i32 (F := Ideal)) ((⊥ : EReal), 0#32)).2 = word (first s) := by
  have hr : P ∈ Set.range (List.map (pair s)) := by
    rw [Set.range_list_map]; exact fun q hq => h1 q hq
  obtain ⟨L, rfl⟩ := hr
  have hinj : ∀ k, k ∈ L := fun k => by
    obtain ⟨k', hk', he⟩ := List.mem_map.1 (h2 k)
    have : word k' = word k := congrArg Prod.snd he
    have : k' = k := word_inj _ _ this
    exact this ▸ hk'
  rcases best_foldl s L (fun _ => False) _ (.inl ⟨fun _ => id, rfl⟩) with ⟨hn, -⟩ | ⟨i, -, he, hb⟩
  · exact absurd (hinj 0) (fun h => hn 0 (.inr h))
  · rw [he, first_eq (i := i) ⟨fun k => (hb k (.inr (hinj k))).1, fun k hk => (hb k (.inr (hinj k))).2 hk⟩]

theorem mem_fiber {σ τ' υ : Shape} {α β : Type} {axes : List (Fin σ.rank)} (x : σ.Idx → α) (y : σ.Idx → β) (h : σ.ReducesTo axes τ') (j : τ'.Idx) (q : α × β) :
    q ∈ Host.argReduceFiber x y h j ↔ ∃ i, h.drop i = j ∧ (x i, y i) = q := by
  simp only [Host.argReduceFiber, List.mem_map, List.mem_filter, List.mem_finRange, true_and, decide_eq_true_eq]
  exact ⟨fun ⟨n, hn, he⟩ => ⟨_, hn, he⟩, fun ⟨i, hi, he⟩ => ⟨σ.rowMajor i, by rw [Equiv.symm_apply_apply]; exact hi, by rw [Equiv.symm_apply_apply]; exact he⟩⟩

theorem argmax3 {x : Vec Ideal S128x17x17 .f32} {b : Fin 128} {l : Fin 17} {s : Sc} (hx : ∀ k, x (ix3 b k l) = (s k : EReal)) :
    (Host.argReduce (F := Ideal) reducer_argmax_f32_i32 x (iotaInDim S128x17x17 32 1) (constant S_ .f32 0xFF800000#32)
      (constantI S_ 32 0#32) reducesTo_S128x17x17_S128x17_d1 h_S_ (ix2 b l)).2 = word (first s) := by
  rw [Ideal.argReduce_eq_reduce2, Host.reduce2_eq_foldl_fiber]
  show (List.foldl _ (Ideal.ofBits .f32 0xFF800000#32, 0#32) _).2 = _
  rw [neg_inf]
  refine argmax_foldl s _ (fun q hq => ?_) fun k => ?_
  · obtain ⟨i, hi, rfl⟩ := (mem_fiber (υ := S_) _ _ _ _ _).1 hq
    obtain ⟨k, rfl⟩ := (Shape.ReducesTo.fiber_r3_a1 _ _ _).1 hi
    exact ⟨k, Prod.ext (hx k).symm rfl⟩
  · refine (mem_fiber (υ := S_) _ _ _ _ _).2 ⟨ix3 b k l, ?_, Prod.ext (hx k) rfl⟩
    exact (Shape.ReducesTo.fiber_r3_a1 _ _ _).2 ⟨k, rfl⟩

theorem argmax2 {x : Vec Ideal S128x17 .f32} {b : Fin 128} {s : Sc} (hx : ∀ k, x (ix2 b k) = (s k : EReal)) :
    (Host.argReduce (F := Ideal) reducer_argmax_f32_i32 x (iotaInDim S128x17 32 1) (constant S_ .f32 0xFF800000#32)
      (constantI S_ 32 0#32) reducesTo_S128x17_S128_d1 h_S_ (ix1 b)).2 = word (first s) := by
  rw [Ideal.argReduce_eq_reduce2, Host.reduce2_eq_foldl_fiber]
  show (List.foldl _ (Ideal.ofBits .f32 0xFF800000#32, 0#32) _).2 = _
  rw [neg_inf]
  refine argmax_foldl s _ (fun q hq => ?_) fun k => ?_
  · obtain ⟨i, hi, rfl⟩ := (mem_fiber (υ := S_) _ _ _ _ _).1 hq
    obtain ⟨k, rfl⟩ := (Shape.ReducesTo.fiber_r2_a1 _ _ _).1 hi
    exact ⟨k, Prod.ext (hx k).symm rfl⟩
  · refine (mem_fiber (υ := S_) _ _ _ _ _).2 ⟨ix2 b k, ?_, Prod.ext (hx k) rfl⟩
    exact (Shape.ReducesTo.fiber_r2_a1 _ _ _).2 ⟨k, rfl⟩

/-! ## A logarithm of a sum of exponentials -/

theorem lse_real (f : Sc) : Ideal.log (∑ k, Ideal.exp ((f k : EReal) - (top f : EReal))) + (top f : EReal)
    = ((Real.log (∑ k, Real.exp (f k)) : ℝ) : EReal) := by
  have h : ∀ k, Ideal.exp ((f k : EReal) - (top f : EReal)) = ((Real.exp (f k - top f) : ℝ) : EReal) := fun k => by
    rw [← EReal.coe_sub, Ideal.exp_coe]
  rw [Finset.sum_congr rfl fun k _ => h k, ← coe_sum, log_real (Finset.sum_pos (fun k _ => Real.exp_pos _) Finset.univ_nonempty),
    ← EReal.coe_add, lse]

/-! ## Labels as indices -/

theorem wrap_word (k : Fin 17) : Scalar.select (IntOp.cmpi .slt (word k) 0#32) (IntOp.addi (word k) 17#32) (word k) = word k := by
  revert k; decide

theorem in_range (k : Fin 17) : IntOp.andi (IntOp.cmpi .sge (word k) 0#32) (IntOp.cmpi .sle (word k) 16#32) = 1#1 := by
  revert k; decide

theorem clamp_word (k : Fin 17) : min (word k).toInt.toNat 16 = k.val := by
  revert k; decide

section Gathers
variable {α : Type}

theorem gather_row (x : S128x17.Idx → α) (idx : IVec S128x1x1 32) (b : Fin 128) (k : Fin 17) (h : idx (ix3 b 0 0) = word k) :
    Host.gather gather_S128x17_S128x1x1_S128x1_n_1_0_0_1_2_11 x idx (ix2 b 0) = x (ix2 b k) := by
  unfold Host.gather
  congr 1
  funext a
  refine Fin.ext ?_
  show GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert), Nat.zero_add, Nat.add_zero]
    unfold GatherDims.batchCoord
    rw [dif_pos (by decide +revert)]
    rfl
  | ⟨1, _⟩ =>
    rw [GatherDims.batchCoord_eq_zero _ _ _ (by decide +revert), GatherDims.offCoord_eq_zero _ _ _ (by decide +revert)]
    unfold GatherDims.start
    rw [dif_pos (by decide +revert)]
    refine Eq.trans ?_ (clamp_word k)
    rw [← h]
    show min (idx _).toInt.toNat 16 = _
    congr 4
    funext c
    match c with
    | ⟨0, _⟩ => rfl
    | ⟨1, _⟩ => rfl
    | ⟨2, _⟩ => rfl

theorem gather_cell (x : S128x512x17.Idx → α) (idx : IVec S128x512x1x1 32) (b : Fin 128) (j : Fin 512) (k : Fin 17)
    (h : idx (ix4 b j 0 0) = word k) :
    Host.gather gather_S128x512x17_S128x512x1x1_S128x512x1_n_2_01_01_2_3_111 x idx (ix3 b j 0) = x (ix3 b j k) := by
  unfold Host.gather
  congr 1
  funext a
  refine Fin.ext ?_
  show GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert), Nat.zero_add, Nat.add_zero]
    unfold GatherDims.batchCoord
    rw [dif_pos (by decide +revert)]
    rfl
  | ⟨1, _⟩ =>
    rw [GatherDims.start_batching _ _ _ _ (by decide +revert), GatherDims.offCoord_eq_zero _ _ _ (by decide +revert), Nat.zero_add, Nat.add_zero]
    unfold GatherDims.batchCoord
    rw [dif_pos (by decide +revert)]
    rfl
  | ⟨2, _⟩ =>
    rw [GatherDims.batchCoord_eq_zero _ _ _ (by decide +revert), GatherDims.offCoord_eq_zero _ _ _ (by decide +revert)]
    unfold GatherDims.start
    rw [dif_pos (by decide +revert)]
    refine Eq.trans ?_ (clamp_word k)
    rw [← h]
    show min (idx _).toInt.toNat 16 = _
    congr 4
    funext c
    match c with
    | ⟨0, _⟩ => rfl
    | ⟨1, _⟩ => rfl
    | ⟨2, _⟩ => rfl
    | ⟨3, _⟩ => rfl

theorem gather_edge (x : S17x17.Idx → α) (idx : IVec S128x511x2 32) (b : Fin 128) (j : Fin 511) (k i : Fin 17)
    (h : idx (ix3 b j 0) = word k) (h' : idx (ix3 b j 1) = word i) :
    Host.gather gather_S17x17_S128x511x2_S128x511_n_01_n_n_01_2_11 x idx (ix2 b j) = x (ix2 k i) := by
  unfold Host.gather
  congr 1
  funext a
  refine Fin.ext ?_
  show GatherDims.start _ _ idx a + GatherDims.batchCoord _ _ a + GatherDims.offCoord _ _ a = _
  rw [GatherDims.batchCoord_eq_zero _ _ _ (by decide +revert), GatherDims.offCoord_eq_zero _ _ _ (by decide +revert)]
  unfold GatherDims.start
  rw [dif_pos (by decide +revert)]
  match a with
  | ⟨0, _⟩ =>
    refine Eq.trans ?_ (clamp_word k)
    rw [← h]
    show min (idx _).toInt.toNat 16 = _
    congr 4
    funext c
    match c with
    | ⟨0, _⟩ => rfl
    | ⟨1, _⟩ => rfl
    | ⟨2, _⟩ => rfl
  | ⟨1, _⟩ =>
    refine Eq.trans ?_ (clamp_word i)
    rw [← h']
    show min (idx _).toInt.toNat 16 = _
    congr 4
    funext c
    match c with
    | ⟨0, _⟩ => rfl
    | ⟨1, _⟩ => rfl
    | ⟨2, _⟩ => rfl

/-! ## A row at a counter -/

/-- The start of a row of a table at the counter `k`. -/
theorem row_start (k : ℕ) (hk : k < 511) : (BitVec.ofNat 32 k).toInt = (k : ℤ) := toInt_ofNat_of_lt (by omega)

theorem take511 (t : S511x128x17.Idx → α) (st : Fin 3 → ℤ) (k : Fin 511) (hs : ∀ a, st a = ((![k.val, 0, 0] : Fin 3 → ℕ) a : ℤ)) (b : Fin 128) (l : Fin 17) :
    shapeCast S128x17 (Host.dynamicSlice S1x128x17 t st sliceFits_S511x128x17_S1x128x17) shapeCasts_S1x128x17_S128x17 (ix2 b l) = t (ix3 k b l) := by
  have hoff : S511x128x17.Slices ![k.val, 0, 0] S1x128x17 :=
    ⟨rfl, fun a => by match a with
      | ⟨0, _⟩ => exact k.isLt
      | ⟨1, _⟩ => exact le_rfl
      | ⟨2, _⟩ => exact le_rfl⟩
  rw [Host.dynamicSlice_eq_extractStridedSlice _ _ _ _ _ hoff hs]
  pointwise

theorem take510 (t : S510x128x17.Idx → α) (st : Fin 3 → ℤ) (k : Fin 510) (hs : ∀ a, st a = ((![k.val, 0, 0] : Fin 3 → ℕ) a : ℤ)) (b : Fin 128) (l : Fin 17) :
    shapeCast S128x17 (Host.dynamicSlice S1x128x17 t st sliceFits_S510x128x17_S1x128x17) shapeCasts_S1x128x17_S128x17 (ix2 b l) = t (ix3 k b l) := by
  have hoff : S510x128x17.Slices ![k.val, 0, 0] S1x128x17 :=
    ⟨rfl, fun a => by match a with
      | ⟨0, _⟩ => exact k.isLt
      | ⟨1, _⟩ => exact le_rfl
      | ⟨2, _⟩ => exact le_rfl⟩
  rw [Host.dynamicSlice_eq_extractStridedSlice _ _ _ _ _ hoff hs]
  pointwise

theorem takeMask (t : S510x128.Idx → α) (st : Fin 2 → ℤ) (k : Fin 510) (hs : ∀ a, st a = ((![k.val, 0] : Fin 2 → ℕ) a : ℤ)) (b : Fin 128) :
    shapeCast S128 (Host.dynamicSlice S1x128 t st sliceFits_S510x128_S1x128) shapeCasts_S1x128_S128 (ix1 b) = t (ix2 k b) := by
  have hoff : S510x128.Slices ![k.val, 0] S1x128 :=
    ⟨rfl, fun a => by match a with
      | ⟨0, _⟩ => exact k.isLt
      | ⟨1, _⟩ => exact le_rfl⟩
  rw [Host.dynamicSlice_eq_extractStridedSlice _ _ _ _ _ hoff hs]
  pointwise

theorem put3 (t : S511x128x17.Idx → α) (u : S1x128x17.Idx → α) (st : Fin 3 → ℤ) (k : Fin 511) (hs : ∀ a, st a = ((![k.val, 0, 0] : Fin 3 → ℕ) a : ℤ))
    (j : Fin 511) (b : Fin 128) (l : Fin 17) :
    Host.dynamicUpdateSlice t u st updateFits_S511x128x17_S1x128x17 (ix3 j b l) = if j = k then u (ix3 0 b l) else t (ix3 j b l) := by
  have hc : ∀ a, Host.clampedStart S511x128x17 S1x128x17 rfl st a = (![k.val, 0, 0] : Fin 3 → ℕ) a := fun a =>
    Host.clampedStart_of_le _ _ _ _ (hs a) (by
      match a with
      | ⟨0, _⟩ => exact k.isLt
      | ⟨1, _⟩ => exact le_rfl
      | ⟨2, _⟩ => exact le_rfl)
  rw [Host.dynamicUpdateSlice_apply]
  by_cases h : j = k
  · subst h
    rw [if_pos rfl, dif_pos (by
      intro a
      rw [hc a]
      match a with
      | ⟨0, _⟩ => exact ⟨le_rfl, Nat.lt_succ_self _⟩
      | ⟨1, _⟩ => exact ⟨Nat.zero_le _, (Nat.zero_add _).symm ▸ b.isLt⟩
      | ⟨2, _⟩ => exact ⟨Nat.zero_le _, (Nat.zero_add _).symm ▸ l.isLt⟩)]
    congr 1
    funext a
    refine Fin.ext ?_
    match a with
    | ⟨0, _⟩ => exact (congrArg (j.val - ·) (hc 0)).trans (Nat.sub_self _)
    | ⟨1, _⟩ => exact (congrArg (b.val - ·) (hc 1)).trans (Nat.sub_zero _)
    | ⟨2, _⟩ => exact (congrArg (l.val - ·) (hc 2)).trans (Nat.sub_zero _)
  · rw [if_neg h, dif_neg]
    intro hall
    have := hall 0
    rw [hc 0] at this
    exact h (Fin.ext (by have h1 : k.val ≤ j.val := this.1; have h2 : j.val < k.val + 1 := this.2; omega))

theorem put2 (t : S511x128.Idx → α) (u : S1x128.Idx → α) (st : Fin 2 → ℤ) (k : Fin 511) (hs : ∀ a, st a = ((![k.val, 0] : Fin 2 → ℕ) a : ℤ))
    (j : Fin 511) (b : Fin 128) :
    Host.dynamicUpdateSlice t u st updateFits_S511x128_S1x128 (ix2 j b) = if j = k then u (ix2 0 b) else t (ix2 j b) := by
  have hc : ∀ a, Host.clampedStart S511x128 S1x128 rfl st a = (![k.val, 0] : Fin 2 → ℕ) a := fun a =>
    Host.clampedStart_of_le _ _ _ _ (hs a) (by
      match a with
      | ⟨0, _⟩ => exact k.isLt
      | ⟨1, _⟩ => exact le_rfl)
  rw [Host.dynamicUpdateSlice_apply]
  by_cases h : j = k
  · subst h
    rw [if_pos rfl, dif_pos (by
      intro a
      rw [hc a]
      match a with
      | ⟨0, _⟩ => exact ⟨le_rfl, Nat.lt_succ_self _⟩
      | ⟨1, _⟩ => exact ⟨Nat.zero_le _, (Nat.zero_add _).symm ▸ b.isLt⟩)]
    congr 1
    funext a
    refine Fin.ext ?_
    match a with
    | ⟨0, _⟩ => exact (congrArg (j.val - ·) (hc 0)).trans (Nat.sub_self _)
    | ⟨1, _⟩ => exact (congrArg (b.val - ·) (hc 1)).trans (Nat.sub_zero _)
  · rw [if_neg h, dif_neg]
    intro hall
    have := hall 0
    rw [hc 0] at this
    exact h (Fin.ext (by have h1 : k.val ≤ j.val := this.1; have h2 : j.val < k.val + 1 := this.2; omega))

end Gathers

end Cert.ReferenceIdeal.Hand

end

end
-- ==== Proof.RefViterbi.lean ====
/-
  The reference program's first loop: its scores are `D`, its table of predecessors is `bp`.
-/
module

public import proofs.«01_k».proof.Proof.RefReads

@[expose] public section

set_option maxRecDepth 20000
set_option maxHeartbeats 1000000

noncomputable section

namespace Cert.ReferenceIdeal.Hand

open Idealize.ShloMosaic Idealize.ShloMosaic.TcCoe
open Idealize.ShloMosaic.StableHlo
open Cert.ReferenceIdeal Cert.ReferenceIdeal.Gen Cert.Chain
open Cert.KernelIdeal.Hand (word coe_sum fold_top log_real)

section Stretches
variable (V : Valuation τ sig (Elt Ideal))

theorem w0_0_at (k : Fin 511) (hc : V (Proc.devRef .tc main_v5_2) = fun _ => (BitVec.ofNat 32 k : BitVec 32)) (b : Fin 128) (l : Fin 17) :
    el (after w0_0 V (Proc.devRef .tc main_while0b_v81)) (ix2 b l)
      = el (V (Proc.devRef .tc main_v5_0)) (ix3 k b l) := by
  after_reads_simp
  simp -implicitDefEqProofs only [StableHlo.TRef.toBuf, StableHlo.TRef.ofBuf, cast_cast, cast_eq]
  refine take511 _ _ k (fun i => ?_) b l
  match i with
  | ⟨0, _⟩ =>
    show BitVec.toInt ((V (Proc.devRef .tc main_v5_2) : Vec Ideal S_ .i32) (Shape.Idx.first h_S_)) = _
    rw [hc]; exact row_start k k.isLt
  | ⟨1, _⟩ => rfl
  | ⟨2, _⟩ => rfl

theorem w0_1_sum (b : Fin 128) (k l : Fin 17) :
    el (after w0_1 V (Proc.devRef .tc main_while0b_v89)) (ix3 b k l)
      = (el (V (Proc.devRef .tc main_v5_3)) (ix2 b k) + el (V (Proc.devRef .tc main_v5_1)) (ix2 k l)
        + el (V (Proc.devRef .tc main_while0b_v81)) (ix2 b l)) := by
  unfold el
  after_reads_at

theorem w0_1_max (b : Fin 128) (l : Fin 17) :
    el (after w0_1 V (Proc.devRef .tc main_while0b_v90)) (ix2 b l)
      = Finset.univ.fold max (Ideal.ofBits .f32 0xFF800000#32) fun k =>
        (el (V (Proc.devRef .tc main_v5_3)) (ix2 b k) + el (V (Proc.devRef .tc main_v5_1)) (ix2 k l)
        + el (V (Proc.devRef .tc main_while0b_v81)) (ix2 b l)) := by
  unfold el
  after_reads_at

theorem w0_2_at {s : Sc} {b : Fin 128} {l : Fin 17}
    (hx : ∀ k, el (V (Proc.devRef .tc main_while0b_v89)) (ix3 b k l) = (s k : EReal)) :
    (after w0_2 V (Proc.devRef .tc main_while0b_v91) : Vec Ideal S128x17 .i32) (ix2 b l) = word (first s) := by
  after_reads_simp
  simp -implicitDefEqProofs only [StableHlo.TRef.toBuf, StableHlo.TRef.ofBuf, cast_cast, cast_eq]
  exact argmax3 hx

theorem w0_3_at (k : Fin 511) (hc : V (Proc.devRef .tc main_v5_2) = fun _ => (BitVec.ofNat 32 k : BitVec 32)) (j : Fin 511) (b : Fin 128) (l : Fin 17) :
    (after w0_3 V (Proc.devRef .tc main_while0b_v92) : Vec Ideal S511x128x17 .i32) (ix3 j b l)
      = if j = k then (V (Proc.devRef .tc main_while0b_v91) : Vec Ideal S128x17 .i32) (ix2 b l)
        else (V (Proc.devRef .tc main_v5_4) : Vec Ideal S511x128x17 .i32) (ix3 j b l) := by
  after_reads_simp
  simp -implicitDefEqProofs only [StableHlo.TRef.toBuf, StableHlo.TRef.ofBuf, cast_cast, cast_eq]
  refine (put3 _ _ _ k (fun i => ?_) j b l).trans ?_
  · match i with
    | ⟨0, _⟩ =>
      show BitVec.toInt ((V (Proc.devRef .tc main_v5_2) : Vec Ideal S_ .i32) (Shape.Idx.first h_S_)) = _
      rw [hc]; exact row_start k k.isLt
    | ⟨1, _⟩ => rfl
    | ⟨2, _⟩ => rfl
  · pointwise

theorem w0_4_score : after w0_4 V (Proc.devRef .tc main_v5_3) = V (Proc.devRef .tc main_while0b_v90) := by
  after_reads_simp
  rfl

theorem w0_4_table : after w0_4 V (Proc.devRef .tc main_v5_4) = V (Proc.devRef .tc main_while0b_v92) := by
  after_reads_simp
  rfl

end Stretches

variable {X : Fin 128 → ℕ → Sc} {a : Fin 17 → Sc}

/-- The first loop's buffers before trip `k`. -/
structure At0 (X : Fin 128 → ℕ → Sc) (a : Fin 17 → Sc) (k : ℕ) (V : Valuation τ sig (Elt Ideal)) : Prop where
  ctr : V (Proc.devRef .tc main_v5_2) = fun _ => (BitVec.ofNat 32 k : BitVec 32)
  xs : ∀ (j : Fin 511) b l, el (V (Proc.devRef .tc main_v5_0)) (ix3 j b l) = (X b (j.val + 1) l : EReal)
  A : ∀ i l, el (V (Proc.devRef .tc main_v5_1)) (ix2 i l) = (a i l : EReal)
  score : ∀ b l, el (V (Proc.devRef .tc main_v5_3)) (ix2 b l) = (D (X b) a k l : EReal)
  table : ∀ (j : Fin 511) b l, j.val < k → (V (Proc.devRef .tc main_v5_4) : Vec Ideal S511x128x17 .i32) (ix3 j b l) = word (bp (X b) a j l)

theorem At0.step {k : ℕ} {V : Valuation τ sig (Elt Ideal)} (h : At0 X a k V) (hk : k < 511)
    (hctr : afterL body0 (after cond0 V) (Proc.devRef .tc main_v5_2) = fun _ => (BitVec.ofNat 32 (k + 1) : BitVec 32)) :
    At0 X a (k + 1) (afterL body0 (after cond0 V)) := by
  have K : ∀ r, r ∉ w0_0_W ++ w0_1_W ++ w0_2_W ++ w0_3_W ++ w0_4_W → r ∉ cond0_W →
      afterL body0 (after cond0 V) (Proc.devRef .tc r) = V (Proc.devRef .tc r) := fun r h1 h2 => by
    rw [afterL_keeps _ (body0_keeps h1), cond0_keeps h2]
  have e : ∀ W : Valuation τ sig (Elt Ideal), afterL body0 W = after w0_4 (after w0_3 (after w0_2 (after w0_1 (after w0_0 W)))) := fun W => rfl
  -- the row of unaries
  have hrow : ∀ b l, el (after w0_0 (after cond0 V) (Proc.devRef .tc main_while0b_v81)) (ix2 b l) = (X b (k + 1) l : EReal) := fun b l => by
    rw [w0_0_at _ ⟨k, hk⟩ (by rw [cond0_keeps (by decide), h.ctr]), cond0_keeps (by decide)]
    exact h.xs _ b l
  have hs : ∀ b i, el (after w0_0 (after cond0 V) (Proc.devRef .tc main_v5_3)) (ix2 b i) = (D (X b) a k i : EReal) := fun b i => by
    rw [keeps_of w0_0_writes (by decide), cond0_keeps (by decide)]; exact h.score b i
  have hA : ∀ i l, el (after w0_0 (after cond0 V) (Proc.devRef .tc main_v5_1)) (ix2 i l) = (a i l : EReal) := fun i l => by
    rw [keeps_of w0_0_writes (by decide), cond0_keeps (by decide)]; exact h.A i l
  have hsum : ∀ b i l, el (after w0_1 (after w0_0 (after cond0 V)) (Proc.devRef .tc main_while0b_v89)) (ix3 b i l)
      = ((D (X b) a k i + a i l + X b (k + 1) l : ℝ) : EReal) := fun b i l => by
    rw [w0_1_sum, hs, hA, hrow, ← EReal.coe_add, ← EReal.coe_add]
  refine ⟨hctr, fun j b l => ?_, fun i l => ?_, fun b l => ?_, fun j b l hj => ?_⟩
  · rw [K _ (by decide) (by decide)]; exact h.xs j b l
  · rw [K _ (by decide) (by decide)]; exact h.A i l
  · rw [e, w0_4_score, keeps_of w0_3_writes (by decide), keeps_of w0_2_writes (by decide), w0_1_max, Cert.KernelIdeal.Hand.neg_inf]
    simp only [hs, hA, hrow, ← EReal.coe_add]
    rw [fold_top, Cert.Chain.top_add]; rfl
  · rw [e, w0_4_table, w0_3_at _ ⟨k, hk⟩ (by
      rw [keeps_of w0_2_writes (by decide), keeps_of w0_1_writes (by decide), keeps_of w0_0_writes (by decide), cond0_keeps (by decide), h.ctr])]
    split
    · next he =>
      rw [w0_2_at _ (fun i => hsum b i l), first_add, he]; rfl
    · next he =>
      rw [keeps_of w0_2_writes (by decide), keeps_of w0_1_writes (by decide), keeps_of w0_0_writes (by decide), cond0_keeps (by decide)]
      exact h.table j b l (lt_of_le_of_ne (Nat.le_of_lt_succ hj) fun h' => he (Fin.ext h'))

end Cert.ReferenceIdeal.Hand

end

end
-- ==== Proof.RefBack.lean ====
/-
  The reference program's second loop: from the best last label it follows the table of predecessors, the labels `back`.
-/
module

public import proofs.«01_k».proof.Proof.RefViterbi

@[expose] public section

set_option maxRecDepth 20000
set_option maxHeartbeats 1000000

noncomputable section

namespace Cert.ReferenceIdeal.Hand

open Idealize.ShloMosaic Idealize.ShloMosaic.TcCoe
open Idealize.ShloMosaic.StableHlo
open Cert.ReferenceIdeal Cert.ReferenceIdeal.Gen Cert.Chain
open Cert.KernelIdeal.Hand (word coe_sum fold_top log_real)

section Stretches
variable (V : Valuation τ sig (Elt Ideal))

theorem w1_0_at (k : Fin 511) (hc : V (Proc.devRef .tc main_v9_1) = fun _ => (BitVec.ofNat 32 k : BitVec 32)) (b : Fin 128) (l : Fin 17) :
    (after w1_0 V (Proc.devRef .tc main_while1b_v81) : Vec Ideal S128x17 .i32) (ix2 b l)
      = (V (Proc.devRef .tc main_v9_0) : Vec Ideal S511x128x17 .i32) (ix3 k b l) := by
  after_reads_simp
  simp -implicitDefEqProofs only [StableHlo.TRef.toBuf, StableHlo.TRef.ofBuf, cast_cast, cast_eq]
  refine take511 _ _ k (fun i => ?_) b l
  match i with
  | ⟨0, _⟩ =>
    show BitVec.toInt ((V (Proc.devRef .tc main_v9_1) : Vec Ideal S_ .i32) (Shape.Idx.first h_S_)) = _
    rw [hc]; exact row_start k k.isLt
  | ⟨1, _⟩ => rfl
  | ⟨2, _⟩ => rfl

theorem w1_1_at (b : Fin 128) :
    (after w1_1 V (Proc.devRef .tc main_while1b_v82) : Vec Ideal S128x1 .i32) (ix2 b 0) = (V (Proc.devRef .tc main_v9_2) : Vec Ideal S128 .i32) (ix1 b) := by
  after_reads_at

theorem fold_one {n : ℕ} (f : Fin 1 → BitVec n) (op : BitVec n → BitVec n → BitVec n) [Std.Commutative op] [Std.Associative op] (v : BitVec n) :
    Finset.univ.fold op v f = op (f 0) v := by
  rw [Finset.univ_unique, Finset.fold_singleton]; rfl

theorem w1_2_at {b : Fin 128} {q : Fin 17} (h : (V (Proc.devRef .tc main_while1b_v82) : Vec Ideal S128x1 .i32) (ix2 b 0) = word q) :
    (after w1_2 V (Proc.devRef .tc main_while1b_v83) : Vec Ideal S128x1 .i32) (ix2 b 0)
      = (V (Proc.devRef .tc main_while1b_v81) : Vec Ideal S128x17 .i32) (ix2 b q) := by
  after_reads_at
  rw [gather_row _ _ b q (by
    show Scalar.select (IntOp.cmpi .slt ((V (Proc.devRef .tc main_while1b_v82) : Vec Ideal S128x1 .i32) (ix2 b 0)) 0#32)
      (IntOp.addi ((V (Proc.devRef .tc main_while1b_v82) : Vec Ideal S128x1 .i32) (ix2 b 0)) 17#32)
      ((V (Proc.devRef .tc main_while1b_v82) : Vec Ideal S128x1 .i32) (ix2 b 0)) = _
    rw [h, wrap_word])]
  simp only [h, wrap_word, in_range, fold_one]
  rfl

theorem w1_3_at (b : Fin 128) :
    (after w1_3 V (Proc.devRef .tc main_while1b_v84) : Vec Ideal S128 .i32) (ix1 b) = (V (Proc.devRef .tc main_while1b_v83) : Vec Ideal S128x1 .i32) (ix2 b 0) := by
  after_reads_at

theorem w1_4_at (k : Fin 511) (hc : V (Proc.devRef .tc main_v9_1) = fun _ => (BitVec.ofNat 32 k : BitVec 32)) (j : Fin 511) (b : Fin 128) :
    (after w1_4 V (Proc.devRef .tc main_while1b_v85) : Vec Ideal S511x128 .i32) (ix2 j b)
      = if j = k then (V (Proc.devRef .tc main_v9_2) : Vec Ideal S128 .i32) (ix1 b)
        else (V (Proc.devRef .tc main_v9_3) : Vec Ideal S511x128 .i32) (ix2 j b) := by
  after_reads_simp
  simp -implicitDefEqProofs only [StableHlo.TRef.toBuf, StableHlo.TRef.ofBuf, cast_cast, cast_eq]
  refine (put2 _ _ _ k (fun i => ?_) j b).trans ?_
  · match i with
    | ⟨0, _⟩ =>
      show BitVec.toInt ((V (Proc.devRef .tc main_v9_1) : Vec Ideal S_ .i32) (Shape.Idx.first h_S_)) = _
      rw [hc]; exact row_start k k.isLt
    | ⟨1, _⟩ => rfl
  · pointwise

theorem w1_5_cur : after w1_5 V (Proc.devRef .tc main_v9_2) = V (Proc.devRef .tc main_while1b_v84) := by
  after_reads_simp
  rfl

theorem w1_5_out : after w1_5 V (Proc.devRef .tc main_v9_3) = V (Proc.devRef .tc main_while1b_v85) := by
  after_reads_simp
  rfl

end Stretches

variable {X : Fin 128 → ℕ → Sc} {a : Fin 17 → Sc}

/-- The second loop's buffers before trip `k`. -/
structure At1 (X : Fin 128 → ℕ → Sc) (a : Fin 17 → Sc) (k : ℕ) (V : Valuation τ sig (Elt Ideal)) : Prop where
  ctr : V (Proc.devRef .tc main_v9_1) = fun _ => (BitVec.ofNat 32 k : BitVec 32)
  table : ∀ (j : Fin 511) b l, (V (Proc.devRef .tc main_v9_0) : Vec Ideal S511x128x17 .i32) (ix3 j b l) = word (bp (X b) a (510 - j) l)
  cur : ∀ b, (V (Proc.devRef .tc main_v9_2) : Vec Ideal S128 .i32) (ix1 b) = word (back (X b) a k)
  out : ∀ (j : Fin 511) b, j.val < k → (V (Proc.devRef .tc main_v9_3) : Vec Ideal S511x128 .i32) (ix2 j b) = word (back (X b) a j)

theorem At1.step {k : ℕ} {V : Valuation τ sig (Elt Ideal)} (h : At1 X a k V) (hk : k < 511)
    (hctr : afterL body1 (after cond1 V) (Proc.devRef .tc main_v9_1) = fun _ => (BitVec.ofNat 32 (k + 1) : BitVec 32)) :
    At1 X a (k + 1) (afterL body1 (after cond1 V)) := by
  have K : ∀ r, r ∉ w1_0_W ++ w1_1_W ++ w1_2_W ++ w1_3_W ++ w1_4_W ++ w1_5_W → r ∉ cond1_W →
      afterL body1 (after cond1 V) (Proc.devRef .tc r) = V (Proc.devRef .tc r) := fun r h1 h2 => by
    rw [afterL_keeps _ (body1_keeps h1), cond1_keeps h2]
  have e : ∀ W : Valuation τ sig (Elt Ideal), afterL body1 W = after w1_5 (after w1_4 (after w1_3 (after w1_2 (after w1_1 (after w1_0 W))))) := fun W => rfl
  refine ⟨hctr, fun j b l => ?_, fun b => ?_, fun j b hj => ?_⟩
  · rw [K _ (by decide) (by decide)]; exact h.table j b l
  · rw [e, w1_5_cur, keeps_of w1_4_writes (by decide), w1_3_at,
      w1_2_at _ (q := back (X b) a k) (by rw [w1_1_at, keeps_of w1_0_writes (by decide), cond1_keeps (by decide)]; exact h.cur b),
      keeps_of w1_1_writes (by decide), w1_0_at _ ⟨k, hk⟩ (by rw [cond1_keeps (by decide), h.ctr]), cond1_keeps (by decide)]
    exact h.table _ b _
  · rw [e, w1_5_out, w1_4_at _ ⟨k, hk⟩ (by
      rw [keeps_of w1_3_writes (by decide), keeps_of w1_2_writes (by decide), keeps_of w1_1_writes (by decide), keeps_of w1_0_writes (by decide),
        cond1_keeps (by decide), h.ctr])]
    split
    · next he =>
      rw [keeps_of w1_3_writes (by decide), keeps_of w1_2_writes (by decide), keeps_of w1_1_writes (by decide), keeps_of w1_0_writes (by decide),
        cond1_keeps (by decide), he]
      exact h.cur b
    · next he =>
      rw [keeps_of w1_3_writes (by decide), keeps_of w1_2_writes (by decide), keeps_of w1_1_writes (by decide), keeps_of w1_0_writes (by decide),
        cond1_keeps (by decide)]
      exact h.out j b (lt_of_le_of_ne (Nat.le_of_lt_succ hj) fun h' => he (Fin.ext h'))

end Cert.ReferenceIdeal.Hand

end

end
-- ==== Proof.RefForward.lean ====
/-
  The reference program's third loop: its logarithms of sums are those of `Z`.
-/
module

public import proofs.«01_k».proof.Proof.RefBack

@[expose] public section

set_option maxRecDepth 20000
set_option maxHeartbeats 1000000

noncomputable section

namespace Cert.ReferenceIdeal.Hand

open Idealize.ShloMosaic Idealize.ShloMosaic.TcCoe
open Idealize.ShloMosaic.StableHlo
open Cert.ReferenceIdeal Cert.ReferenceIdeal.Gen Cert.Chain
open Cert.KernelIdeal.Hand (word coe_sum fold_top log_real)

theorem one_f32 : Ideal.ofBits .f32 0x3F800000#32 = ((1 : ℝ) : EReal) := by
  simp [Ideal.ofBits, Ideal.ieee]
  rw [← EReal.coe_mul, ← EReal.coe_one]
  norm_num

/-! ## The shifted logarithm of a sum -/

/-- Along the last axis of three. -/
def lse3 (x : FVec Ideal S128x17x17 .f32) : FVec Ideal S128x17 .f32 :=
  let mx : FVec Ideal S128x17 .f32 := Host.reduce FloatOps.maximumf x (constant S_ .f32 0xFF800000#32) reducesTo_S128x17x17_S128x17_d2 h_S_
  addf (Host.log (Host.reduceAdd (Host.exp (subf x (broadcastInDim S128x17x17 ![0, 1, 2] bcast_S128x17x1_S128x17x17_0_1_2
      (broadcastInDim S128x17x1 ![0, 1] bcast_S128x17_S128x17x1_0_1 mx)))) (constant S_ .f32 0x00000000#32) reducesTo_S128x17x17_S128x17_d2 h_S_)) mx

/-- Along the last axis of two. -/
def lse2 (x : FVec Ideal S128x17 .f32) : FVec Ideal S128 .f32 :=
  let mx : FVec Ideal S128 .f32 := Host.reduce FloatOps.maximumf x (constant S_ .f32 0xFF800000#32) reducesTo_S128x17_S128_d1 h_S_
  addf (Host.log (Host.reduceAdd (Host.exp (subf x (broadcastInDim S128x17 ![0, 1] bcast_S128x1_S128x17_0_1
      (broadcastInDim S128x1 ![0] bcast_S128_S128x1_0 mx)))) (constant S_ .f32 0x00000000#32) reducesTo_S128x17_S128_d1 h_S_)) mx

theorem lse3_real {x : Vec Ideal S128x17x17 .f32} {b : Fin 128} {j : Fin 17} {f : Sc} (h : ∀ k, el x (ix3 b j k) = (f k : EReal)) :
    el (lse3 x) (ix2 b j) = ((Real.log (∑ k, Real.exp (f k)) : ℝ) : EReal) := by
  unfold el at *
  pointwise [lse3]
  rw [← lse_real, ← fold_top, ← Cert.KernelIdeal.Hand.neg_inf]
  simp only [h]

theorem lse2_real {x : Vec Ideal S128x17 .f32} {b : Fin 128} {f : Sc} (h : ∀ k, el x (ix2 b k) = (f k : EReal)) :
    el (lse2 x) (ix1 b) = ((Real.log (∑ k, Real.exp (f k)) : ℝ) : EReal) := by
  unfold el at *
  pointwise [lse2]
  rw [← lse_real, ← fold_top, ← Cert.KernelIdeal.Hand.neg_inf]
  simp only [h]

section Stretches
variable (V : Valuation τ sig (Elt Ideal))

theorem w2_0_at (k : Fin 510) (hc : V (Proc.devRef .tc main_v40_3) = fun _ => (BitVec.ofNat 32 k : BitVec 32)) (b : Fin 128) (l : Fin 17) :
    el (after w2_0 V (Proc.devRef .tc main_while2b_v81)) (ix2 b l) = el (V (Proc.devRef .tc main_v40_0)) (ix3 k b l) := by
  unfold el
  after_reads_simp
  simp -implicitDefEqProofs only [StableHlo.TRef.toBuf, StableHlo.TRef.ofBuf, cast_cast, cast_eq]
  refine take510 _ _ k (fun i => ?_) b l
  match i with
  | ⟨0, _⟩ =>
    show BitVec.toInt ((V (Proc.devRef .tc main_v40_3) : Vec Ideal S_ .i32) (Shape.Idx.first h_S_)) = _
    rw [hc]; exact row_start k (by omega)
  | ⟨1, _⟩ => rfl
  | ⟨2, _⟩ => rfl

theorem w2_1_at (k : Fin 510) (hc : V (Proc.devRef .tc main_v40_3) = fun _ => (BitVec.ofNat 32 k : BitVec 32)) (b : Fin 128) :
    el (after w2_1 V (Proc.devRef .tc main_while2b_v82)) (ix1 b) = el (V (Proc.devRef .tc main_v40_1)) (ix2 k b) := by
  unfold el
  after_reads_simp
  simp -implicitDefEqProofs only [StableHlo.TRef.toBuf, StableHlo.TRef.ofBuf, cast_cast, cast_eq]
  refine takeMask _ _ k (fun i => ?_) b
  match i with
  | ⟨0, _⟩ =>
    show BitVec.toInt ((V (Proc.devRef .tc main_v40_3) : Vec Ideal S_ .i32) (Shape.Idx.first h_S_)) = _
    rw [hc]; exact row_start k (by omega)
  | ⟨1, _⟩ => rfl

theorem w2_2_sum (b : Fin 128) (j k : Fin 17) :
    el (after w2_2 V (Proc.devRef .tc main_while2b_v98)) (ix3 b j k)
      = el (V (Proc.devRef .tc main_while2b_v82)) (ix1 b)
          * (el (V (Proc.devRef .tc main_while2b_v81)) (ix2 b k) + el (V (Proc.devRef .tc main_v40_5)) (ix2 b k) + el (V (Proc.devRef .tc main_v40_2)) (ix2 k j))
        + (Ideal.ofBits .f32 0x3F800000#32 - el (V (Proc.devRef .tc main_while2b_v82)) (ix1 b)) * el (V (Proc.devRef .tc main_v40_4)) (ix3 b j k) := by
  unfold el
  after_reads_at

theorem w2_2_out : after w2_2 V (Proc.devRef .tc main_v40_5) = lse3 (after w2_2 V (Proc.devRef .tc main_while2b_v98)) := by
  after_reads_simp
  rfl

end Stretches

variable {X : Fin 128 → ℕ → Sc} {a : Fin 17 → Sc}

/-- The third loop's buffers before trip `k`. -/
structure At2 (X : Fin 128 → ℕ → Sc) (a : Fin 17 → Sc) (k : ℕ) (V : Valuation τ sig (Elt Ideal)) : Prop where
  ctr : V (Proc.devRef .tc main_v40_3) = fun _ => (BitVec.ofNat 32 k : BitVec 32)
  xs : ∀ (j : Fin 510) b l, el (V (Proc.devRef .tc main_v40_0)) (ix3 j b l) = (X b (j.val + 1) l : EReal)
  mask : ∀ (j : Fin 510) b, el (V (Proc.devRef .tc main_v40_1)) (ix2 j b) = ((1 : ℝ) : EReal)
  A : ∀ i l, el (V (Proc.devRef .tc main_v40_2)) (ix2 i l) = (a i l : EReal)
  alpha : ∀ b l, el (V (Proc.devRef .tc main_v40_5)) (ix2 b l) = ((Real.log (Z (X b) a k l) : ℝ) : EReal)

theorem At2.step {k : ℕ} {V : Valuation τ sig (Elt Ideal)} (h : At2 X a k V) (hk : k < 510)
    (hctr : afterL body2 (after cond2 V) (Proc.devRef .tc main_v40_3) = fun _ => (BitVec.ofNat 32 (k + 1) : BitVec 32)) :
    At2 X a (k + 1) (afterL body2 (after cond2 V)) := by
  have K : ∀ r, r ∉ w2_0_W ++ w2_1_W ++ w2_2_W → r ∉ cond2_W →
      afterL body2 (after cond2 V) (Proc.devRef .tc r) = V (Proc.devRef .tc r) := fun r h1 h2 => by
    rw [afterL_keeps _ (body2_keeps h1), cond2_keeps h2]
  have e : ∀ W : Valuation τ sig (Elt Ideal), afterL body2 W = after w2_2 (after w2_1 (after w2_0 W)) := fun W => rfl
  have L : ∀ r, r ∉ w2_0_W → r ∉ w2_1_W → r ∉ cond2_W →
      after w2_1 (after w2_0 (after cond2 V)) (Proc.devRef .tc r) = V (Proc.devRef .tc r) := fun r h1 h2 h3 => by
    rw [keeps_of w2_1_writes h2, keeps_of w2_0_writes h1, cond2_keeps h3]
  refine ⟨hctr, fun j b l => ?_, fun j b => ?_, fun i l => ?_, fun b l => ?_⟩
  · rw [K _ (by decide) (by decide)]; exact h.xs j b l
  · rw [K _ (by decide) (by decide)]; exact h.mask j b
  · rw [K _ (by decide) (by decide)]; exact h.A i l
  · rw [e, w2_2_out, lse3_real (f := fun i => X b (k + 1) i + Real.log (Z (X b) a k i) + a i l)]
    · congr 2
      refine Finset.sum_congr rfl fun i _ => ?_
      rw [Real.exp_add, Real.exp_add, Real.exp_log (Z_pos _ _ _ _)]
    · intro i
      rw [w2_2_sum, w2_1_at _ ⟨k, hk⟩ (by rw [keeps_of w2_0_writes (by decide), cond2_keeps (by decide), h.ctr]),
        keeps_of w2_1_writes (r := main_while2b_v81) (by decide), w2_0_at _ ⟨k, hk⟩ (by rw [cond2_keeps (by decide), h.ctr]),
        keeps_of w2_0_writes (r := main_v40_1) (by decide), cond2_keeps (r := main_v40_1) (by decide), cond2_keeps (r := main_v40_0) (by decide),
        L main_v40_5 (by decide) (by decide) (by decide), L main_v40_2 (by decide) (by decide) (by decide), h.mask, h.xs, h.alpha, h.A, one_f32,
        ← EReal.coe_sub, sub_self, EReal.coe_zero, zero_mul, add_zero, EReal.coe_one, one_mul, ← EReal.coe_add, ← EReal.coe_add]

end Cert.ReferenceIdeal.Hand

end

end
-- ==== Proof.RefEnds.lean ====
/-
  The reference program before, between and after its loops, and what its two results are at real inputs.
-/
module

public import proofs.«01_k».proof.Proof.RefForward

@[expose] public section

set_option maxRecDepth 20000
set_option maxHeartbeats 1000000

noncomputable section

namespace Cert.ReferenceIdeal.Hand

open Idealize.ShloMosaic Idealize.ShloMosaic.TcCoe
open Idealize.ShloMosaic.StableHlo
open Cert.ReferenceIdeal Cert.ReferenceIdeal.Gen Cert.Chain
open Cert.KernelIdeal.Hand (word coe_sum fold_top log_real)

/-- The three arguments' elements: real scores and labels. -/
structure Inputs (X : Fin 128 → ℕ → Sc) (a : Fin 17 → Sc) (Y : Fin 128 → ℕ → Fin 17) (V : Valuation τ sig (Elt Ideal)) : Prop where
  x : ∀ b (j : Fin 512) l, el (V (Proc.devRef .tc main_arg0)) (ix3 b j l) = (X b j.val l : EReal)
  y : ∀ b (j : Fin 512), (V (Proc.devRef .tc main_arg1) : Vec Ideal S128x512 .i32) (ix2 b j) = word (Y b j.val)
  A : ∀ i l, el (V (Proc.devRef .tc main_arg2)) (ix2 i l) = (a i l : EReal)

theorem mask_word (k : Fin 17) : (FloatOps.uitofp FTy.f32 (IntOp.cmpi .sge (word k) 0#32) : Ideal .f32) = ((1 : ℝ) : EReal) := by
  have : IntOp.cmpi .sge (word k) 0#32 = 1#1 := by revert k; decide
  rw [this]; simp [FloatOps.uitofp]

section Stretches
variable (V : Valuation τ sig (Elt Ideal))

/-! ## Before the first loop -/

theorem p0_0_xs' : after p0_0 V (Proc.devRef .tc main_v5_0) = after p0_0 V (Proc.devRef .tc main_v3) := by
  after_reads_simp
  rfl
theorem p0_0_xs (j : Fin 511) (b : Fin 128) (l : Fin 17) :
    el (after p0_0 V (Proc.devRef .tc main_v5_0)) (ix3 j b l) = el (V (Proc.devRef .tc main_arg0)) (ix3 b ⟨1 + j.val, by omega⟩ l) := by
  rw [p0_0_xs']
  unfold el
  after_reads_at
theorem p0_0_A : after p0_0 V (Proc.devRef .tc main_v5_1) = V (Proc.devRef .tc main_arg2) := by
  after_reads_simp
  rfl
theorem p0_0_score' : after p0_0 V (Proc.devRef .tc main_v5_3) = after p0_0 V (Proc.devRef .tc main_v1) := by
  after_reads_simp
  rfl
theorem p0_0_score (b : Fin 128) (l : Fin 17) :
    el (after p0_0 V (Proc.devRef .tc main_v5_3)) (ix2 b l) = el (V (Proc.devRef .tc main_arg0)) (ix3 b 0 l) := by
  rw [p0_0_score']
  unfold el
  after_reads_at

/-! ## Between the first and the second -/

theorem p0_2_at {s : Sc} {b : Fin 128} (hx : ∀ k, el (V (Proc.devRef .tc main_v5_3)) (ix2 b k) = (s k : EReal)) :
    (after p0_2 V (Proc.devRef .tc main_v6) : Vec Ideal S128 .i32) (ix1 b) = word (first s) := by
  after_reads_simp
  simp -implicitDefEqProofs only [StableHlo.TRef.toBuf, StableHlo.TRef.ofBuf, cast_cast, cast_eq]
  exact argmax2 hx
theorem p0_3_cur : after p0_3 V (Proc.devRef .tc main_v9_2) = V (Proc.devRef .tc main_v6) := by
  after_reads_simp
  rfl
theorem p0_3_table' : after p0_3 V (Proc.devRef .tc main_v9_0) = after p0_3 V (Proc.devRef .tc main_v7) := by
  after_reads_simp
  rfl
theorem p0_3_table (j : Fin 511) (b : Fin 128) (l : Fin 17) :
    (after p0_3 V (Proc.devRef .tc main_v9_0) : Vec Ideal S511x128x17 .i32) (ix3 j b l)
      = (V (Proc.devRef .tc main_v5_4) : Vec Ideal S511x128x17 .i32) (ix3 j.rev b l) := by
  rw [p0_3_table']
  after_reads_at
  rfl

/-! ## Between the second and the third -/

theorem p0_5_path (b : Fin 128) (j : Fin 512) :
    (after p0_5 V (Proc.devRef .tc main_v13) : Vec Ideal S128x512 .i32) (ix2 b j)
      = if h : j.val < 1 then (V (Proc.devRef .tc main_v9_2) : Vec Ideal S128 .i32) (ix1 b)
        else (V (Proc.devRef .tc main_v9_3) : Vec Ideal S511x128 .i32) (ix2 (Fin.rev ⟨j.val - 1, by omega⟩) b) := by
  after_reads_at
  by_cases h : j.val < 1
  · rw [dif_pos h, dif_pos h]
    show (broadcastInDim S1x128 ![1] bcast_S128_S1x128_1 (V (Proc.devRef .tc main_v9_2) : Vec Ideal S128 .i32)) (ix2 ⟨j.val, h⟩ b) = _
    pointwise
  · rw [dif_neg h, dif_neg h]
    show Host.reverse [0] (V (Proc.devRef .tc main_v9_3) : Vec Ideal S511x128 .i32) (ix2 ⟨j.val - 1, by omega⟩ b) = _
    pointwise
    rfl
theorem p0_5_mask {k : Fin 17} {b : Fin 128} {j : Fin 512} (h : (V (Proc.devRef .tc main_arg1) : Vec Ideal S128x512 .i32) (ix2 b j) = word k) :
    el (after p0_5 V (Proc.devRef .tc main_v16)) (ix2 b j) = ((1 : ℝ) : EReal) := by
  unfold el
  after_reads_at
  rw [h, mask_word]
theorem p0_5_rows' : after p0_5 V (Proc.devRef .tc main_v40_0) = after p0_5 V (Proc.devRef .tc main_v37) := by
  after_reads_simp
  rfl
theorem p0_5_rows (j : Fin 510) (b : Fin 128) (l : Fin 17) :
    el (after p0_5 V (Proc.devRef .tc main_v40_0)) (ix3 j b l) = el (V (Proc.devRef .tc main_arg0)) (ix3 b ⟨1 + j.val, by omega⟩ l) := by
  rw [p0_5_rows']
  unfold el
  after_reads_at
theorem p0_5_masks' : after p0_5 V (Proc.devRef .tc main_v40_1) = after p0_5 V (Proc.devRef .tc main_v39) := by
  after_reads_simp
  rfl
theorem p0_5_masks {k : Fin 17} {b : Fin 128} {j : Fin 510}
    (h : (V (Proc.devRef .tc main_arg1) : Vec Ideal S128x512 .i32) (ix2 b ⟨1 + j.val, by omega⟩) = word k) :
    el (after p0_5 V (Proc.devRef .tc main_v40_1)) (ix2 j b) = ((1 : ℝ) : EReal) := by
  rw [p0_5_masks']
  unfold el
  after_reads_at
  rw [h, mask_word]
theorem p0_5_sum (b : Fin 128) (j k : Fin 17) :
    el (after p0_5 V (Proc.devRef .tc main_v27)) (ix3 b j k)
      = el (V (Proc.devRef .tc main_arg0)) (ix3 b 0 k) + el (V (Proc.devRef .tc main_arg2)) (ix2 k j) := by
  unfold el
  after_reads_at
theorem p0_5_alpha : after p0_5 V (Proc.devRef .tc main_v35) = lse3 (after p0_5 V (Proc.devRef .tc main_v27)) := by
  after_reads_simp
  rfl
theorem p1_0_A : after p1_0 V (Proc.devRef .tc main_v40_2) = V (Proc.devRef .tc main_arg2) := by
  after_reads_simp
  rfl
theorem p1_0_alpha : after p1_0 V (Proc.devRef .tc main_v40_5) = V (Proc.devRef .tc main_v35) := by
  after_reads_simp
  rfl

/-! ## After the third -/

theorem p1_2_last (b : Fin 128) (l : Fin 17) :
    el (after p1_2 V (Proc.devRef .tc main_v43)) (ix2 b l)
      = el (V (Proc.devRef .tc main_arg0)) (ix3 b 511 l) + el (V (Proc.devRef .tc main_v40_5)) (ix2 b l) := by
  unfold el
  after_reads_at
theorem p1_2_logZ : after p1_2 V (Proc.devRef .tc main_v51) = lse2 (after p1_2 V (Proc.devRef .tc main_v43)) := by
  after_reads_simp
  rfl
theorem p1_2_labels (b : Fin 128) (j : Fin 512) :
    (after p1_2 V (Proc.devRef .tc main_v52) : Vec Ideal S128x512x1 .i32) (ix3 b j 0)
      = (V (Proc.devRef .tc main_arg1) : Vec Ideal S128x512 .i32) (ix2 b j) := by
  after_reads_at
theorem p1_3_at {b : Fin 128} {j : Fin 512} {q : Fin 17} (h : (V (Proc.devRef .tc main_v52) : Vec Ideal S128x512x1 .i32) (ix3 b j 0) = word q) :
    el (after p1_3 V (Proc.devRef .tc main_v53)) (ix3 b j 0) = el (V (Proc.devRef .tc main_arg0)) (ix3 b j q) := by
  unfold el
  after_reads_at
  rw [gather_cell _ _ b j q (by
    show Scalar.select (IntOp.cmpi .slt ((V (Proc.devRef .tc main_v52) : Vec Ideal S128x512x1 .i32) (ix3 b j 0)) 0#32)
      (IntOp.addi ((V (Proc.devRef .tc main_v52) : Vec Ideal S128x512x1 .i32) (ix3 b j 0)) 17#32)
      ((V (Proc.devRef .tc main_v52) : Vec Ideal S128x512x1 .i32) (ix3 b j 0)) = _
    rw [h, wrap_word])]
  simp only [h, wrap_word, in_range, fold_one]
  rfl
theorem p1_4_unary (b : Fin 128) :
    el (after p1_4 V (Proc.devRef .tc main_v56)) (ix1 b)
      = ∑ j : Fin 512, el (V (Proc.devRef .tc main_v16)) (ix2 b j) * el (V (Proc.devRef .tc main_v53)) (ix3 b j 0) := by
  unfold el
  after_reads_at
theorem p1_4_to {k : Fin 17} {b : Fin 128} {j : Fin 511} (h : (V (Proc.devRef .tc main_arg1) : Vec Ideal S128x512 .i32) (ix2 b ⟨1 + j.val, by omega⟩) = word k) :
    (after p1_4 V (Proc.devRef .tc main_v71) : Vec Ideal S128x511x2 .i32) (ix3 b j 0) = word k := by
  after_reads_at
  rw [h, wrap_word]
theorem p1_4_from {k : Fin 17} {b : Fin 128} {j : Fin 511} (h : (V (Proc.devRef .tc main_arg1) : Vec Ideal S128x512 .i32) (ix2 b ⟨j.val, by omega⟩) = word k) :
    (after p1_4 V (Proc.devRef .tc main_v71) : Vec Ideal S128x511x2 .i32) (ix3 b j 1) = word k := by
  after_reads_at
  rw [h, wrap_word]
theorem p1_4_edge' : (after p1_4 V (Proc.devRef .tc main_v72) : Vec Ideal S128x511 .f32)
    = Host.gather gather_S17x17_S128x511x2_S128x511_n_01_n_n_01_2_11 (V (Proc.devRef .tc main_arg2) : Vec Ideal S17x17 .f32)
        (after p1_4 V (Proc.devRef .tc main_v71) : Vec Ideal S128x511x2 .i32) := by
  after_reads_simp
theorem p1_4_edges (b : Fin 128) :
    el (after p1_4 V (Proc.devRef .tc main_v75)) (ix1 b)
      = ∑ j : Fin 511, el (V (Proc.devRef .tc main_v16)) (ix2 b ⟨1 + j.val, by omega⟩) * el (after p1_4 V (Proc.devRef .tc main_v72)) (ix2 b j) := by
  unfold el
  after_reads_at
theorem p1_4_loss :
    (after p1_4 V (Proc.devRef .tc main_v80) : Vec Ideal S_ .f32) ix0
      = Ideal.div (∑ b : Fin 128, (-(el (after p1_4 V (Proc.devRef .tc main_v56)) (ix1 b) + el (after p1_4 V (Proc.devRef .tc main_v75)) (ix1 b))
          + el (V (Proc.devRef .tc main_v51)) (ix1 b))) (Ideal.ofBits .f32 0x43000000#32) := by
  unfold el
  after_reads_at

end Stretches

end Cert.ReferenceIdeal.Hand

end

end
-- ==== Proof.RefExact.lean ====
/-
  The reference program's results at real inputs: the best paths and the mean loss.
-/
module

public import proofs.«01_k».proof.Proof.RefEnds

@[expose] public section

set_option maxRecDepth 20000
set_option maxHeartbeats 1000000

noncomputable section

namespace Cert.ReferenceIdeal.Hand

open Idealize.ShloMosaic Idealize.ShloMosaic.TcCoe
open Idealize.ShloMosaic.StableHlo
open Cert.ReferenceIdeal Cert.ReferenceIdeal.Gen Cert.Chain
open Cert.KernelIdeal.Hand (word coe_sum fold_top log_real)

theorem f32_128 : Ideal.ofBits .f32 0x43000000#32 = ((128 : ℝ) : EReal) := by
  simp [Ideal.ofBits, Ideal.ieee]
  rw [← EReal.coe_mul]
  norm_num

section
variable (m : (ℓ : Loc nD τ sig) → Buf (Elt Ideal) ℓ) (c : Dev nD)

/-! ## The arguments along the run -/

/-- What neither the loops nor the stretches before `ent1` write. -/
theorem exi0_keeps {r : Ref sig .tc} (h1 : r ∉ p0_0_W) (h2 : r ∉ cond0_W) (h3 : r ∉ w0_0_W ++ w0_1_W ++ w0_2_W ++ w0_3_W ++ w0_4_W) :
    exi0 m c (Proc.devRef .tc r) = launchContents m c (Proc.devRef .tc r) := by
  rw [exi0, cond0_keeps h2, trip0_keeps m h2 h3, ent0, afterL_keeps pre0 (forall1 (keeps_of p0_0_writes h1) forall0)]

theorem exi1_keeps {r : Ref sig .tc} (h1 : r ∉ p0_2_W) (h1' : r ∉ p0_3_W) (h2 : r ∉ cond1_W)
    (h3 : r ∉ w1_0_W ++ w1_1_W ++ w1_2_W ++ w1_3_W ++ w1_4_W ++ w1_5_W) :
    exi1 m c (Proc.devRef .tc r) = exi0 m c (Proc.devRef .tc r) := by
  rw [exi1, cond1_keeps h2, trip1_keeps m h2 h3, ent1,
    afterL_keeps mid1 (forall1 (keeps_of p0_2_writes h1) (forall1 (keeps_of p0_3_writes h1') forall0))]

theorem exi2_keeps {r : Ref sig .tc} (h2 : r ∉ cond2_W) (h3 : r ∉ w2_0_W ++ w2_1_W ++ w2_2_W) :
    exi2 m c (Proc.devRef .tc r) = ent2 m c (Proc.devRef .tc r) := by
  rw [exi2, cond2_keeps h2, trip2_keeps m h2 h3]

theorem ent2_keeps {r : Ref sig .tc} (h1 : r ∉ p0_5_W) (h2 : r ∉ p1_0_W) : ent2 m c (Proc.devRef .tc r) = exi1 m c (Proc.devRef .tc r) := by
  rw [ent2, afterL_keeps mid2 (forall1 (keeps_of p0_5_writes h1) (forall1 (keeps_of p1_0_writes h2) forall0))]

variable {X : Fin 128 → ℕ → Sc} {a : Fin 17 → Sc} {Y : Fin 128 → ℕ → Fin 17}

theorem Inputs.of {V W : Valuation τ sig (Elt Ideal)} (H : Inputs X a Y V) (h0 : W (Proc.devRef .tc main_arg0) = V (Proc.devRef .tc main_arg0))
    (h1 : W (Proc.devRef .tc main_arg1) = V (Proc.devRef .tc main_arg1)) (h2 : W (Proc.devRef .tc main_arg2) = V (Proc.devRef .tc main_arg2)) :
    Inputs X a Y W :=
  ⟨fun b j l => by rw [h0]; exact H.x b j l, fun b j => by rw [h1]; exact H.y b j, fun i l => by rw [h2]; exact H.A i l⟩

variable {m c} (H : Inputs X a Y (launchContents m c))
include H

theorem inputs_exi1 : Inputs X a Y (exi1 m c) :=
  H.of ((exi1_keeps m c (by decide) (by decide) (by decide) (by decide)).trans (exi0_keeps m c (by decide) (by decide) (by decide)))
    ((exi1_keeps m c (by decide) (by decide) (by decide) (by decide)).trans (exi0_keeps m c (by decide) (by decide) (by decide)))
    ((exi1_keeps m c (by decide) (by decide) (by decide) (by decide)).trans (exi0_keeps m c (by decide) (by decide) (by decide)))

theorem inputs_exi2 : Inputs X a Y (exi2 m c) :=
  (inputs_exi1 H).of ((exi2_keeps m c (by decide) (by decide)).trans (ent2_keeps m c (by decide) (by decide)))
    ((exi2_keeps m c (by decide) (by decide)).trans (ent2_keeps m c (by decide) (by decide)))
    ((exi2_keeps m c (by decide) (by decide)).trans (ent2_keeps m c (by decide) (by decide)))

/-! ## The loops -/

theorem at0 : ∀ k ≤ 511, At0 X a k (trip0 m k c)
  | 0, _ => by
    refine ⟨ctr0 m c 0, fun j b l => ?_, fun i l => ?_, fun b l => ?_, fun j b l hj => absurd hj (Nat.not_lt_zero _)⟩
    · refine (p0_0_xs (launchContents m c) j b l).trans ?_
      rw [H.x]
      exact congrArg (fun n => (X b n l : EReal)) (Nat.add_comm 1 j.val)
    · show el (after p0_0 (launchContents m c) (Proc.devRef .tc main_v5_1)) (ix2 i l) = _
      rw [p0_0_A]; exact H.A i l
    · refine (p0_0_score (launchContents m c) b l).trans ?_
      rw [H.x]; rfl
  | k + 1, hk => (at0 k (by omega)).step hk (ctr0 m c (k + 1))

theorem at1 : ∀ k ≤ 511, At1 X a k (trip1 m k c)
  | 0, _ => by
    have h := at0 H 511 le_rfl
    have e : trip1 m 0 c = after p0_3 (after p0_2 (exi0 m c)) := rfl
    refine ⟨ctr1 m c 0, fun j b l => ?_, fun b => ?_, fun j b hj => absurd hj (Nat.not_lt_zero _)⟩
    · rw [e, p0_3_table, keeps_of p0_2_writes (by decide), exi0, cond0_keeps (by decide), h.table _ _ _ j.rev.isLt]
      congr 2
      show 511 - (j.val + 1) = _
      omega
    · rw [e, p0_3_cur]
      exact p0_2_at _ fun k => by rw [exi0, cond0_keeps (by decide)]; exact h.score b k
  | k + 1, hk => (at1 k (by omega)).step hk (ctr1 m c (k + 1))

theorem at2 : ∀ k ≤ 510, At2 X a k (trip2 m k c)
  | 0, _ => by
    have h := inputs_exi1 H
    have e : trip2 m 0 c = after p1_0 (after p0_5 (exi1 m c)) := rfl
    refine ⟨ctr2 m c 0, fun j b l => ?_, fun j b => ?_, fun i l => ?_, fun b l => ?_⟩
    · rw [e, keeps_of p1_0_writes (by decide), p0_5_rows, h.x]
      exact congrArg (fun n => (X b n l : EReal)) (Nat.add_comm 1 j.val)
    · rw [e, keeps_of p1_0_writes (by decide)]
      exact p0_5_masks _ (h.y _ _)
    · rw [e, p1_0_A, keeps_of p0_5_writes (by decide)]; exact h.A i l
    · rw [e, p1_0_alpha, p0_5_alpha, lse3_real (f := fun k => X b 0 k + a k l)]
      · congr 2
        exact Finset.sum_congr rfl fun k _ => Real.exp_add _ _
      · intro k
        rw [p0_5_sum, h.x, h.A, ← EReal.coe_add]; rfl
  | k + 1, hk => (at2 k (by omega)).step hk (ctr2 m c (k + 1))

/-! ## The results -/

theorem ref_path (b : Fin 128) (j : Fin 512) :
    (fin m c (Proc.devRef .tc main_v13) : Vec Ideal S128x512 .i32) (ix2 b j) = word (back (X b) a (511 - j.val)) := by
  have h := at1 H 511 le_rfl
  have e : ent2 m c = after p1_0 (after p0_5 (exi1 m c)) := rfl
  rw [fin, afterL_keeps post (forall1 (keeps_of p1_2_writes (by decide)) (forall1 (keeps_of p1_3_writes (by decide)) (forall1 (keeps_of p1_4_writes (by decide)) forall0))),
    exi2_keeps m c (by decide) (by decide), e, keeps_of p1_0_writes (by decide), p0_5_path]
  by_cases h0 : j.val < 1
  · rw [dif_pos h0, exi1, cond1_keeps (by decide), h.cur]
    congr 2; omega
  · rw [dif_neg h0, exi1, cond1_keeps (by decide), h.out _ _ (Fin.isLt _)]
    congr 2
    show 511 - (j.val - 1 + 1) = _
    omega

/-- The chain's score, summed over places and over steps. -/
theorem score_sums (b : Fin 128) : score (X b) a (Y b) 511
    = ∑ j : Fin 512, X b j.val (Y b j.val) + ∑ j : Fin 511, a (Y b (1 + j.val)) (Y b j.val) := by
  rw [score_eq, Finset.sum_range, Finset.sum_range]
  simp only [Nat.add_comm 1]

theorem ref_loss : (fin m c (Proc.devRef .tc main_v80) : Vec Ideal S_ .f32)
    = fun _ => (((∑ b, (logZ (X b) a - score (X b) a (Y b) 511)) * (1 / 128) : ℝ) : EReal) := by
  have hi := inputs_exi2 H
  have h1 := inputs_exi1 H
  have h := at2 H 510 le_rfl
  have e : fin m c = after p1_4 (after p1_3 (after p1_2 (exi2 m c))) := rfl
  have e2 : ent2 m c = after p1_0 (after p0_5 (exi1 m c)) := rfl
  have K : ∀ r, r ∉ p1_2_W → r ∉ p1_3_W → after p1_3 (after p1_2 (exi2 m c)) (Proc.devRef .tc r) = exi2 m c (Proc.devRef .tc r) := fun r h1 h2 => by
    rw [keeps_of p1_3_writes h2, keeps_of p1_2_writes h1]
  have hz : ∀ b, el (after p1_3 (after p1_2 (exi2 m c)) (Proc.devRef .tc main_v51)) (ix1 b) = (logZ (X b) a : EReal) := fun b => by
    rw [keeps_of p1_3_writes (by decide), p1_2_logZ, lse2_real (f := fun l => X b 511 l + Real.log (Z (X b) a 510 l))]
    · unfold logZ
      congr 2
      exact Finset.sum_congr rfl fun l _ => by rw [Real.exp_add, Real.exp_log (Z_pos _ _ _ _)]
    · intro l
      rw [p1_2_last, hi.x, exi2, cond2_keeps (by decide), h.alpha, ← EReal.coe_add]; rfl
  have hm : ∀ b j, el (after p1_3 (after p1_2 (exi2 m c)) (Proc.devRef .tc main_v16)) (ix2 b j) = ((1 : ℝ) : EReal) := fun b j => by
    rw [K _ (by decide) (by decide), exi2_keeps m c (by decide) (by decide), e2, keeps_of p1_0_writes (by decide)]
    exact p0_5_mask _ (h1.y b j)
  have hu : ∀ b, el (after p1_4 (after p1_3 (after p1_2 (exi2 m c))) (Proc.devRef .tc main_v56)) (ix1 b)
      = ((∑ j : Fin 512, X b j.val (Y b j.val) : ℝ) : EReal) := fun b => by
    rw [p1_4_unary, coe_sum]
    refine Finset.sum_congr rfl fun j _ => ?_
    rw [hm, EReal.coe_one, one_mul, p1_3_at _ (q := Y b j.val) (by rw [p1_2_labels]; exact hi.y b j), keeps_of p1_2_writes (by decide), hi.x]
  have he : ∀ b, el (after p1_4 (after p1_3 (after p1_2 (exi2 m c))) (Proc.devRef .tc main_v75)) (ix1 b)
      = ((∑ j : Fin 511, a (Y b (1 + j.val)) (Y b j.val) : ℝ) : EReal) := fun b => by
    rw [p1_4_edges, coe_sum]
    refine Finset.sum_congr rfl fun j _ => ?_
    rw [hm, EReal.coe_one, one_mul, p1_4_edge']
    show Host.gather _ _ _ (ix2 b j) = _
    rw [gather_edge _ _ b j (Y b (1 + j.val)) (Y b j.val)
      (p1_4_to _ (by rw [K _ (by decide) (by decide)]; exact hi.y b _))
      (p1_4_from _ (by rw [K _ (by decide) (by decide)]; exact hi.y b _)), K _ (by decide) (by decide)]
    exact hi.A _ _
  funext i
  rw [show i = ix0 from funext fun k => k.elim0, e, p1_4_loss, f32_128]
  simp only [hz, hu, he, ← EReal.coe_add, ← EReal.coe_neg]
  rw [← coe_sum, Ideal.div, if_neg (by norm_num), ← EReal.coe_inv, ← EReal.coe_mul]
  congr 1
  rw [one_div]
  congr 1
  refine Finset.sum_congr rfl fun b _ => ?_
  rw [score_sums H b]
  ring

end

end Cert.ReferenceIdeal.Hand

end

end
-- ==== Proof.Finite.lean ====
/-
  The precondition read at an index: a finite score is a real number, and a label in range is one of the seventeen.
-/
module

public import proofs.«01_k».proof.Defs
public import proofs.«01_k».proof.Proof.Exact
public import proofs.«01_k».proof.Proof.RefExact
public import Idealize.ShloMosaic.Lib.PointwiseCore

@[expose] public section

noncomputable section

namespace Cert.Finite

open Idealize.ShloMosaic Idealize.ShloMosaic.TcCoe
open Cert.Chain
open Cert.KernelIdeal.Hand (word)

theorem facts : Cert.Pre_finite_in_range.Facts := ⟨by decide, by decide, by decide⟩

theorem pos_inf : Ideal.ofBits .f32 0x7F800000#32 = ⊤ := by
  simp [Ideal.ofBits, Ideal.ieee]

/-- A number whose size is below infinity is a real number. -/
theorem real_of_abs {x : EReal} (h : Ideal.cmp .olt (max x (-x)) ⊤ = 1#1) : x = (x.toReal : EReal) := by
  have h' : max x (-x) < ⊤ := by
    by_contra hn
    simp [Ideal.cmp, hn] at h
  rw [max_lt_iff] at h'
  refine (EReal.coe_toReal h'.1.ne fun hb => ?_).symm
  rw [hb, EReal.neg_bot] at h'
  exact lt_irrefl _ h'.2

/-- A word that is at least `0` and below `17`, as signed numbers, is the word of a label. -/
theorem word_of_range {y : BitVec 32} (h : IntOp.andi (IntOp.cmpi .sge y 0#32) (IntOp.cmpi .slt y 17#32) = 1#1) :
    y = word (Fin.ofNat 17 y.toNat) := by
  have both : ∀ p q : Bool, BitVec.ofBool p &&& BitVec.ofBool q = 1#1 → p = true ∧ q = true := by decide
  obtain ⟨h1, h2⟩ := both ((0#32).sle y) (y.slt 17#32) h
  rw [BitVec.sle_iff_toInt_le] at h1
  rw [BitVec.slt_iff_toInt_lt] at h2
  have e0 : (0#32).toInt = 0 := by decide
  have e17 : (17#32).toInt = 17 := by decide
  rw [e0] at h1
  rw [e17] at h2
  have e : y.toInt = y.toNat := BitVec.toInt_eq_toNat_of_lt (by
    by_contra hn
    have := BitVec.toInt_eq_toNat_cond y
    rw [if_neg hn] at this
    have := y.isLt
    omega)
  apply BitVec.eq_of_toNat_eq
  have : y.toNat < 17 := by omega
  show y.toNat = (BitVec.ofNat 32 (y.toNat % 17)).toNat
  rw [Nat.mod_eq_of_lt this, BitVec.toNat_ofNat, Nat.mod_eq_of_lt y.isLt]

section
variable [Cert.Pre_finite_in_range.Facts]
variable {x : FVec Ideal Cert.Pre_finite_in_range.S128x512x17 .f32} {y : IVec Cert.Pre_finite_in_range.S128x512 32}
  {A : FVec Ideal Cert.Pre_finite_in_range.S17x17 .f32}

theorem x_real (h : (Cert.Pre_finite_in_range.fn (F := Ideal) x y A).1 = fun _ => 1#1) (i) : x i = ((x i : EReal).toReal : EReal) :=
  real_of_abs (by rw [← pos_inf]; exact congrFun h i)

theorem y_word (h : (Cert.Pre_finite_in_range.fn (F := Ideal) x y A).2.1 = fun _ => 1#1) (i) : y i = word (Fin.ofNat 17 (y i).toNat) :=
  word_of_range (congrFun h i)

theorem A_real (h : (Cert.Pre_finite_in_range.fn (F := Ideal) x y A).2.2 = fun _ => 1#1) (i) : A i = ((A i : EReal).toReal : EReal) :=
  real_of_abs (by rw [← pos_inf]; exact congrFun h i)

end

/-! ## The real data of a memory -/

section
variable (m : (ℓ : Loc Cert.KernelIdeal.nD Cert.KernelIdeal.τ Cert.KernelIdeal.sig) → Buf (Elt Ideal) ℓ) (c : Dev Cert.KernelIdeal.nD)

/-- The scores of core `c`, zero past the sequence's end. -/
def X (b : Fin 128) (j : ℕ) : Sc := fun l =>
  if h : j < 512 then
    (m ((c.tc : Thread Cert.KernelIdeal.nD Cert.KernelIdeal.τ).loc Cert.KernelIdeal.main_arg0) (ix3 b ⟨j, h⟩ l) : EReal).toReal
  else 0

/-- The labels of core `c`, zero past the sequence's end. -/
def Y (b : Fin 128) (j : ℕ) : Fin 17 :=
  if h : j < 512 then
    Fin.ofNat 17 (m ((c.tc : Thread Cert.KernelIdeal.nD Cert.KernelIdeal.τ).loc Cert.KernelIdeal.main_arg1) (ix2 b ⟨j, h⟩) : BitVec 32).toNat
  else 0

/-- The transitions of core `c`. -/
def a (i : Fin 17) : Sc := fun l =>
  (m ((c.tc : Thread Cert.KernelIdeal.nD Cert.KernelIdeal.τ).loc Cert.KernelIdeal.main_arg2) (ix2 i l) : EReal).toReal

end

variable [Cert.Pre_finite_in_range.Facts]
variable {m : (ℓ : Loc Cert.KernelIdeal.nD Cert.KernelIdeal.τ Cert.KernelIdeal.sig) → Buf (Elt Ideal) ℓ}

theorem args (h : Cert.Pre_KernelIdeal_finite_in_range m) : Cert.KernelIdeal.Hand.Args m (X m) (a m) (Y m) where
  x c b j l := by
    rw [X, dif_pos j.isLt]; exact x_real (h c).1 _
  y c b j := by
    rw [Y, dif_pos j.isLt]; exact y_word (h c).2.1 _
  A c i k := A_real (h c).2.2 _

variable {m' : (ℓ : Loc Cert.ReferenceIdeal.nD Cert.ReferenceIdeal.τ Cert.ReferenceIdeal.sig) → Buf (Elt Ideal) ℓ}

theorem inputs (h : Cert.Pre_KernelIdeal_finite_in_range m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Hand.Inputs (X m c) (a m c) (Y m c) (StableHlo.launchContents m' c) where
  x b j l := (congrFun e.1 (ix3 b j l)).trans ((args h).x c b j l)
  y b j := (congrFun e.2.1 (ix2 b j)).trans ((args h).y c b j)
  A i l := (congrFun e.2.2 (ix2 i l)).trans ((args h).A c i l)

end Cert.Finite

end

end
-- ==== Proof.lean ====
/- The claims about the kernel and its reference, assembled: each frame from the module of its program's run, the idealized
   kernel, to which no rewrite was applied, is the kernel, and both programs end with the best paths and the mean loss of
   the real data that the arguments hold. -/
module

public import proofs.«01_k».proof.Defs
public import proofs.«01_k».proof.Proof.KernelFrame
public import proofs.«01_k».proof.Proof.IdealFrame
public import proofs.«01_k».proof.Proof.RefRun
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem
open Cert.Chain
open Cert.KernelIdeal.Hand (word pathFn lossFn)

/-- Both programs end with the paths and the loss of the same real data. -/
theorem algebraic : Cert.algebraic_KernelIdeal_ReferenceIdeal_pre_finite_in_range (hKernelIdeal := Cert.KernelIdeal.Gen.facts)
    (hReferenceIdeal := Cert.ReferenceIdeal.Gen.facts) (hPre_finite_in_range := Cert.Finite.facts) := by
  intro m g m' g' hpre hargs
  haveI := Cert.Finite.facts
  refine ⟨fun c i => pathFn (Finite.X m c) (Finite.a m c) (ix2 (i 1) (i 0)),
    fun c _ => lossFn (Finite.X m c) (Finite.a m c) (Finite.Y m c) (ix2 0 0), ?_, ?_⟩
  · refine (Cert.KernelIdeal.Hand.run_exact g (Finite.args hpre)).mono fun r h c => ?_
    refine ⟨?_, (h c).2⟩
    funext i
    rw [eq_ix2 i]
    exact (h c).1 _ _
  · refine (Cert.ReferenceIdeal.Hand.run_fin m' g').mono fun r h c => ?_
    have H := Finite.inputs hpre c (hargs c)
    refine ⟨?_, ?_, ?_, ?_, ?_⟩
    · rw [h c _ rfl]
      funext i
      rw [eq_ix2 i]
      exact Cert.ReferenceIdeal.Hand.ref_path H _ _
    · rw [h c _ rfl]
      exact Cert.ReferenceIdeal.Hand.ref_loss H
    · rw [h c _ rfl, Cert.ReferenceIdeal.Hand.fin_keeps m' (by decide) (by decide) c]
    · rw [h c _ rfl, Cert.ReferenceIdeal.Hand.fin_keeps m' (by decide) (by decide) c]
    · rw [h c _ rfl, Cert.ReferenceIdeal.Hand.fin_keeps m' (by decide) (by decide) c]

theorem claim : Cert.Claim := ⟨Cert.Kernel.Gen.facts, Cert.KernelIdeal.Gen.facts, Cert.ReferenceIdeal.Gen.facts, Cert.Finite.facts,
  fun m g _ => Cert.Kernel.Hand.run_frame m g, fun m g _ => Cert.KernelIdeal.Hand.run_frame m g,
  fun m g _ => Cert.KernelIdeal.Hand.run_frame m g, fun m g _ => Cert.ReferenceIdeal.Hand.run_frame m g,
  fun m g _ => Cert.ReferenceIdeal.Hand.run_frame m g, trivial, algebraic⟩

end Cert.Proof

end
